-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.2 = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v18_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v18_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v157) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9)) (v1 : (c : Dev Cert.FfnIdeal.nD) → Buf (Elt Ideal) ((c.tc : Thread Cert.FfnIdeal.nD Cert.FfnIdeal.τ).loc Cert.FfnIdeal.main_v13)) (v2 : (c : Dev Cert.FfnIdeal.nD) → Buf (Elt Ideal) ((c.tc : Thread Cert.FfnIdeal.nD Cert.FfnIdeal.τ).loc Cert.FfnIdeal.main_v12_1)) (v3 : (c : Dev Cert.FfnIdeal.nD) → Buf (Elt Ideal) ((c.tc : Thread Cert.FfnIdeal.nD Cert.FfnIdeal.τ).loc Cert.FfnIdeal.main_v12_2)) (v4 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_v13) = v1 c
          ∧ r.2.mem ((c.tc : Thread Cert.FfnIdeal.nD Cert.FfnIdeal.τ).loc Cert.FfnIdeal.main_v12_1) = v2 c
          ∧ r.2.mem ((c.tc : Thread Cert.FfnIdeal.nD Cert.FfnIdeal.τ).loc Cert.FfnIdeal.main_v12_2) = v3 c
          ∧ r.2.mem ((c.tc : Thread Cert.FfnIdeal.nD Cert.FfnIdeal.τ).loc Cert.FfnIdeal.main_v10) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v68) = v0 c
          ∧ r.2.mem ((c.tc : Thread Cert.FfnRefIdeal.nD Cert.FfnRefIdeal.τ).loc Cert.FfnRefIdeal.main_v167) = v1 c
          ∧ r.2.mem ((c.tc : Thread Cert.FfnRefIdeal.nD Cert.FfnRefIdeal.τ).loc Cert.FfnRefIdeal.main_v169) = v2 c
          ∧ r.2.mem ((c.tc : Thread Cert.FfnRefIdeal.nD Cert.FfnRefIdeal.τ).loc Cert.FfnRefIdeal.main_v170) = v3 c
          ∧ r.2.mem ((c.tc : Thread Cert.FfnRefIdeal.nD Cert.FfnRefIdeal.τ).loc Cert.FfnRefIdeal.main_v171) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v2) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v12) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3)) (v1 : (c : Dev Cert.OutIdeal.nD) → Buf (Elt Ideal) ((c.tc : Thread Cert.OutIdeal.nD Cert.OutIdeal.τ).loc Cert.OutIdeal.main_v4)) (v2 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_v4) = v1 c
          ∧ r.2.mem ((c.tc : Thread Cert.OutIdeal.nD Cert.OutIdeal.τ).loc Cert.OutIdeal.main_v5) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_v3) = v1 c
          ∧ r.2.mem ((c.tc : Thread Cert.OutRefIdeal.nD Cert.OutRefIdeal.τ).loc Cert.OutRefIdeal.main_v4) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)) →
    ∃ (v0 : (c : Dev Cert.InpIdeal.nD) → Buf (Elt Ideal) ((c.tc : Thread Cert.InpIdeal.nD Cert.InpIdeal.τ).loc Cert.InpIdeal.main_v3)) (v1 : (c : Dev Cert.InpIdeal.nD) → Buf (Elt Ideal) ((c.tc : Thread Cert.InpIdeal.nD Cert.InpIdeal.τ).loc Cert.InpIdeal.main_v4)) (v2 : (c : Dev Cert.InpIdeal.nD) → Buf (Elt Ideal) ((c.tc : Thread Cert.InpIdeal.nD Cert.InpIdeal.τ).loc Cert.InpIdeal.main_v5)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v3) = v0 c
          ∧ r.2.mem ((c.tc : Thread Cert.InpIdeal.nD Cert.InpIdeal.τ).loc Cert.InpIdeal.main_v4) = v1 c
          ∧ r.2.mem ((c.tc : Thread Cert.InpIdeal.nD Cert.InpIdeal.τ).loc Cert.InpIdeal.main_v5) = v2 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v0) = v0 c
          ∧ r.2.mem ((c.tc : Thread Cert.InpRefIdeal.nD Cert.InpRefIdeal.τ).loc Cert.InpRefIdeal.main_v3) = v1 c
          ∧ r.2.mem ((c.tc : Thread Cert.InpRefIdeal.nD Cert.InpRefIdeal.τ).loc Cert.InpRefIdeal.main_v4) = v2 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v0)) (v1 : (c : Dev Cert.NormIdeal.nD) → Buf (Elt Ideal) ((c.tc : Thread Cert.NormIdeal.nD Cert.NormIdeal.τ).loc Cert.NormIdeal.main_v1_0)) (v2 : (c : Dev Cert.NormIdeal.nD) → Buf (Elt Ideal) ((c.tc : Thread Cert.NormIdeal.nD Cert.NormIdeal.τ).loc Cert.NormIdeal.main_v1_1)) (v3 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_v1_0) = v1 c
          ∧ r.2.mem ((c.tc : Thread Cert.NormIdeal.nD Cert.NormIdeal.τ).loc Cert.NormIdeal.main_v1_1) = v2 c
          ∧ r.2.mem ((c.tc : Thread Cert.NormIdeal.nD Cert.NormIdeal.τ).loc Cert.NormIdeal.main_v1_2) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v138) = v0 c
          ∧ r.2.mem ((c.tc : Thread Cert.NormRefIdeal.nD Cert.NormRefIdeal.τ).loc Cert.NormRefIdeal.main_v139) = v1 c
          ∧ r.2.mem ((c.tc : Thread Cert.NormRefIdeal.nD Cert.NormRefIdeal.τ).loc Cert.NormRefIdeal.main_v116) = v2 c
          ∧ r.2.mem ((c.tc : Thread Cert.NormRefIdeal.nD Cert.NormRefIdeal.τ).loc Cert.NormRefIdeal.main_v135) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hDh : Cert.Dh.Facts) (hDhIdeal : Cert.DhIdeal.Facts) (hDhRefIdeal : Cert.DhRefIdeal.Facts) (hOut : Cert.Out.Facts) (hOutIdeal : Cert.OutIdeal.Facts) (hOutRefIdeal : Cert.OutRefIdeal.Facts) (hInp : Cert.Inp.Facts) (hInpIdeal : Cert.InpIdeal.Facts) (hInpRefIdeal : Cert.InpRefIdeal.Facts) (hNorm : Cert.Norm.Facts) (hNormIdeal : Cert.NormIdeal.Facts) (hNormRefIdeal : Cert.NormRefIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Dh (hDh := hDh)
    ∧ quiescent_DhIdeal (hDhIdeal := hDhIdeal)
    ∧ quiescent_DhRefIdeal (hDhRefIdeal := hDhRefIdeal)
    ∧ quiescent_Out (hOut := hOut)
    ∧ quiescent_OutIdeal (hOutIdeal := hOutIdeal)
    ∧ quiescent_OutRefIdeal (hOutRefIdeal := hOutRefIdeal)
    ∧ quiescent_Inp (hInp := hInp)
    ∧ quiescent_InpIdeal (hInpIdeal := hInpIdeal)
    ∧ quiescent_InpRefIdeal (hInpRefIdeal := hInpRefIdeal)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Dh_DhIdeal
    ∧ algebraic_DhIdeal_DhRefIdeal (hDhIdeal := hDhIdeal) (hDhRefIdeal := hDhRefIdeal)
    ∧ preserves_Out_OutIdeal
    ∧ algebraic_OutIdeal_OutRefIdeal (hOutIdeal := hOutIdeal) (hOutRefIdeal := hOutRefIdeal)
    ∧ preserves_Inp_InpIdeal
    ∧ algebraic_InpIdeal_InpRefIdeal (hInpIdeal := hInpIdeal) (hInpRefIdeal := hInpRefIdeal)
    ∧ preserves_Norm_NormIdeal
    ∧ algebraic_NormIdeal_NormRefIdeal (hNormIdeal := hNormIdeal) (hNormRefIdeal := hNormRefIdeal)
-- ==== Pre_finite.lean ====
abbrev S4352x512 : Shape := ⟨2, ![4352, 512]⟩
abbrev S4352x256 : Shape := ⟨2, ![4352, 256]⟩
abbrev S4352x64 : Shape := ⟨2, ![4352, 64]⟩
abbrev S_ : Shape := ⟨0, ![]⟩

class Facts : Prop where
  bcast_S_S4352x512 : S_.BroadcastsInDim S4352x512 (![] : Fin 0 → Fin S4352x512.rank)
  bcast_S_S4352x256 : S_.BroadcastsInDim S4352x256 (![] : Fin 0 → Fin S4352x256.rank)
  bcast_S_S4352x64 : S_.BroadcastsInDim S4352x64 (![] : Fin 0 → Fin S4352x64.rank)

variable [Facts]

def fn {F : FTy → Type} [FloatOps F] (main_arg0 : FVec F S4352x512 .f32) (main_arg1 : FVec F S4352x256 .f32) (main_arg2 : FVec F S4352x512 .f32) (main_arg3 : FVec F S4352x64 .f32) (main_arg4 : FVec F S4352x512 .f32) (main_arg5 : FVec F S4352x512 .f32) : IVec S4352x512 1 × IVec S4352x256 1 × IVec S4352x512 1 × IVec S4352x64 1 × IVec S4352x512 1 × IVec S4352x512 1 :=
  let main_v0 : FVec F S4352x512 .f32 := Host.absf main_arg0
  let main_cst : FVec F S_ .f32 := constant S_ .f32 0x7F800000#32
  let main_v1 : FVec F S4352x512 .f32 := broadcastInDim S4352x512 ![] bcast_S_S4352x512 main_cst
  let main_v2 : IVec S4352x512 1 := cmpf .olt main_v0 main_v1
  let main_v3 : FVec F S4352x256 .f32 := Host.absf main_arg1
  let main_cst_0 : FVec F S_ .f32 := constant S_ .f32 0x7F800000#32
  let main_v4 : FVec F S4352x256 .f32 := broadcastInDim S4352x256 ![] bcast_S_S4352x256 main_cst_0
  let main_v5 : IVec S4352x256 1 := cmpf .olt main_v3 main_v4
  let main_v6 : FVec F S4352x512 .f32 := Host.absf main_arg2
  let main_cst_1 : FVec F S_ .f32 := constant S_ .f32 0x7F800000#32
  let main_v7 : FVec F S4352x512 .f32 := broadcastInDim S4352x512 ![] bcast_S_S4352x512 main_cst_1
  let main_v8 : IVec S4352x512 1 := cmpf .olt main_v6 main_v7
  let main_v9 : FVec F S4352x64 .f32 := Host.absf main_arg3
  let main_cst_2 : FVec F S_ .f32 := constant S_ .f32 0x7F800000#32
  let main_v10 : FVec F S4352x64 .f32 := broadcastInDim S4352x64 ![] bcast_S_S4352x64 main_cst_2
  let main_v11 : IVec S4352x64 1 := cmpf .olt main_v9 main_v10
  let main_v12 : FVec F S4352x512 .f32 := Host.absf main_arg4
  let main_cst_3 : FVec F S_ .f32 := constant S_ .f32 0x7F800000#32
  let main_v13 : FVec F S4352x512 .f32 := broadcastInDim S4352x512 ![] bcast_S_S4352x512 main_cst_3
  let main_v14 : IVec S4352x512 1 := cmpf .olt main_v12 main_v13
  let main_v15 : FVec F S4352x512 .f32 := Host.absf main_arg5
  let main_cst_4 : FVec F S_ .f32 := constant S_ .f32 0x7F800000#32
  let main_v16 : FVec F S4352x512 .f32 := broadcastInDim S4352x512 ![] bcast_S_S4352x512 main_cst_4
  let main_v17 : IVec S4352x512 1 := cmpf .olt main_v15 main_v16
  (main_v2, main_v5, main_v8, main_v11, main_v14, main_v17)
-- ==== Pre_finite_ffn.lean ====
abbrev S4352x2048 : Shape := ⟨2, ![4352, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S_ : Shape := ⟨0, ![]⟩

class Facts : Prop where
  bcast_S_S4352x2048 : S_.BroadcastsInDim S4352x2048 (![] : Fin 0 → Fin S4352x2048.rank)
  bcast_S_S2048x11264 : S_.BroadcastsInDim S2048x11264 (![] : Fin 0 → Fin S2048x11264.rank)
  bcast_S_S3x11264 : S_.BroadcastsInDim S3x11264 (![] : Fin 0 → Fin S3x11264.rank)
  bcast_S_S11264 : S_.BroadcastsInDim S11264 (![] : Fin 0 → Fin S11264.rank)
  bcast_S_S5632x2048 : S_.BroadcastsInDim S5632x2048 (![] : Fin 0 → Fin S5632x2048.rank)

variable [Facts]

def fn {F : FTy → Type} [FloatOps F] (main_arg0 : FVec F S4352x2048 .f32) (main_arg1 : FVec F S2048x11264 .f32) (main_arg2 : FVec F S3x11264 .f32) (main_arg3 : FVec F S11264 .f32) (main_arg4 : FVec F S5632x2048 .f32) (main_arg5 : FVec F S4352x2048 .f32) : IVec S4352x2048 1 × IVec S2048x11264 1 × IVec S3x11264 1 × IVec S11264 1 × IVec S5632x2048 1 × IVec S4352x2048 1 :=
  let main_v0 : FVec F S4352x2048 .f32 := Host.absf main_arg0
  let main_cst : FVec F S_ .f32 := constant S_ .f32 0x7F800000#32
  let main_v1 : FVec F S4352x2048 .f32 := broadcastInDim S4352x2048 ![] bcast_S_S4352x2048 main_cst
  let main_v2 : IVec S4352x2048 1 := cmpf .olt main_v0 main_v1
  let main_v3 : FVec F S2048x11264 .f32 := Host.absf main_arg1
  let main_cst_0 : FVec F S_ .f32 := constant S_ .f32 0x7F800000#32
  let main_v4 : FVec F S2048x11264 .f32 := broadcastInDim S2048x11264 ![] bcast_S_S2048x11264 main_cst_0
  let main_v5 : IVec S2048x11264 1 := cmpf .olt main_v3 main_v4
  let main_v6 : FVec F S3x11264 .f32 := Host.absf main_arg2
  let main_cst_1 : FVec F S_ .f32 := constant S_ .f32 0x7F800000#32
  let main_v7 : FVec F S3x11264 .f32 := broadcastInDim S3x11264 ![] bcast_S_S3x11264 main_cst_1
  let main_v8 : IVec S3x11264 1 := cmpf .olt main_v6 main_v7
  let main_v9 : FVec F S11264 .f32 := Host.absf main_arg3
  let main_cst_2 : FVec F S_ .f32 := constant S_ .f32 0x7F800000#32
  let main_v10 : FVec F S11264 .f32 := broadcastInDim S11264 ![] bcast_S_S11264 main_cst_2
  let main_v11 : IVec S11264 1 := cmpf .olt main_v9 main_v10
  let main_v12 : FVec F S5632x2048 .f32 := Host.absf main_arg4
  let main_cst_3 : FVec F S_ .f32 := constant S_ .f32 0x7F800000#32
  let main_v13 : FVec F S5632x2048 .f32 := broadcastInDim S5632x2048 ![] bcast_S_S5632x2048 main_cst_3
  let main_v14 : IVec S5632x2048 1 := cmpf .olt main_v12 main_v13
  let main_v15 : FVec F S4352x2048 .f32 := Host.absf main_arg5
  let main_cst_4 : FVec F S_ .f32 := constant S_ .f32 0x7F800000#32
  let main_v16 : FVec F S4352x2048 .f32 := broadcastInDim S4352x2048 ![] bcast_S_S4352x2048 main_cst_4
  let main_v17 : IVec S4352x2048 1 := cmpf .olt main_v15 main_v16
  (main_v2, main_v5, main_v8, main_v11, main_v14, main_v17)
-- ==== Kernel.lean ====
abbrev S4352x512 : Shape := ⟨2, ![4352, 512]⟩
abbrev S4352x256 : Shape := ⟨2, ![4352, 256]⟩
abbrev S4352x64 : Shape := ⟨2, ![4352, 64]⟩
abbrev S_ : Shape := ⟨0, ![]⟩
abbrev S4352x128 : Shape := ⟨2, ![4352, 128]⟩
abbrev S4352x1024 : Shape := ⟨2, ![4352, 1024]⟩
abbrev S4x4352x1 : Shape := ⟨3, ![4, 4352, 1]⟩
abbrev S256x256 : Shape := ⟨2, ![256, 256]⟩
abbrev S256x128 : Shape := ⟨2, ![256, 128]⟩
abbrev S1x256x1 : Shape := ⟨3, ![1, 256, 1]⟩
abbrev S256x4352 : Shape := ⟨2, ![256, 4352]⟩
abbrev S1x4352 : Shape := ⟨2, ![1, 4352]⟩
abbrev S256 : Shape := ⟨1, ![256]⟩
abbrev S256x1 : Shape := ⟨2, ![256, 1]⟩

abbrev nBuf : Space → Nat
  | .hbm => 30
  | .vmem => 26
  | .smem => 0
  | _ => 0

abbrev bufTy : (tb : Table) → Fin (tcTables nBuf tb) → BufTy
  | .hbm, ⟨0, _⟩ => ⟨S4352x512, .f32⟩
  | .hbm, ⟨1, _⟩ => ⟨S4352x256, .f32⟩
  | .hbm, ⟨2, _⟩ => ⟨S4352x512, .f32⟩
  | .hbm, ⟨3, _⟩ => ⟨S4352x64, .f32⟩
  | .hbm, ⟨4, _⟩ => ⟨S4352x512, .f32⟩
  | .hbm, ⟨5, _⟩ => ⟨S4352x512, .f32⟩
  | .hbm, ⟨6, _⟩ => ⟨S_, .f32⟩
  | .hbm, ⟨7, _⟩ => ⟨S4352x64, .f32⟩
  | .hbm, ⟨8, _⟩ => ⟨S4352x128, .f32⟩
  | .hbm, ⟨9, _⟩ => ⟨S4352x64, .f32⟩
  | .hbm, ⟨10, _⟩ => ⟨S4352x128, .f32⟩
  | .hbm, ⟨11, _⟩ => ⟨S4352x128, .f32⟩
  | .hbm, ⟨12, _⟩ => ⟨S4352x64, .f32⟩
  | .hbm, ⟨13, _⟩ => ⟨S4352x128, .f32⟩
  | .hbm, ⟨14, _⟩ => ⟨S4352x128, .f32⟩
  | .hbm, ⟨15, _⟩ => ⟨S4352x64, .f32⟩
  | .hbm, ⟨16, _⟩ => ⟨S4352x128, .f32⟩
  | .hbm, ⟨17, _⟩ => ⟨S4352x128, .f32⟩
  | .hbm, ⟨18, _⟩ => ⟨S4352x64, .f32⟩
  | .hbm, ⟨19, _⟩ => ⟨S4352x128, .f32⟩
  | .hbm, ⟨20, _⟩ => ⟨S4352x1024, .f32⟩
  | .hbm, ⟨21, _⟩ => ⟨S4352x1024, .bf16⟩
  | .hbm, ⟨22, _⟩ => ⟨S4352x1024, .f32⟩
  | .hbm, ⟨23, _⟩ => ⟨S4352x1024, .bf16⟩
  | .hbm, ⟨24, _⟩ => ⟨S4352x512, .bf16⟩
  | .hbm, ⟨25, _⟩ => ⟨S4352x512, .bf16⟩
  | .hbm, ⟨26, _⟩ => ⟨S4x4352x1, .f32⟩
  | .hbm, ⟨27, _⟩ => ⟨S4352x1024, .f32⟩
  | .hbm, ⟨28, _⟩ => ⟨S4352x1024, .f32⟩
  | .hbm, ⟨29, _⟩ => ⟨S4352x512, .f32⟩
  | .local _ .vmem, ⟨0, _⟩ => ⟨S256x256, .bf16⟩
  | .local _ .vmem, ⟨1, _⟩ => ⟨S256x256, .bf16⟩
  | .local _ .vmem, ⟨2, _⟩ => ⟨S4352x256, .bf16⟩
  | .local _ .vmem, ⟨3, _⟩ => ⟨S4352x256, .bf16⟩
  | .local _ .vmem, ⟨4, _⟩ => ⟨S4352x128, .bf16⟩
  | .local _ .vmem, ⟨5, _⟩ => ⟨S4352x128, .bf16⟩
  | .local _ .vmem, ⟨6, _⟩ => ⟨S256x128, .bf16⟩
  | .local _ .vmem, ⟨7, _⟩ => ⟨S256x128, .bf16⟩
  | .local _ .vmem, ⟨8, _⟩ => ⟨S1x256x1, .f32⟩
  | .local _ .vmem, ⟨9, _⟩ => ⟨S1x256x1, .f32⟩
  | .local _ .vmem, ⟨10, _⟩ => ⟨S256x256, .bf16⟩
  | .local _ .vmem, ⟨11, _⟩ => ⟨S256x256, .bf16⟩
  | .local _ .vmem, ⟨12, _⟩ => ⟨S4352x256, .bf16⟩
  | .local _ .vmem, ⟨13, _⟩ => ⟨S4352x256, .bf16⟩
  | .local _ .vmem, ⟨14, _⟩ => ⟨S4352x128, .bf16⟩
  | .local _ .vmem, ⟨15, _⟩ => ⟨S4352x128, .bf16⟩
  | .local _ .vmem, ⟨16, _⟩ => ⟨S1x256x1, .f32⟩
  | .local _ .vmem, ⟨17, _⟩ => ⟨S1x256x1, .f32⟩
  | .local _ .vmem, ⟨18, _⟩ => ⟨S256x128, .f32⟩
  | .local _ .vmem, ⟨19, _⟩ => ⟨S256x128, .f32⟩
  | .local _ .vmem, ⟨20, _⟩ => ⟨S256x256, .f32⟩
  | .local _ .vmem, ⟨21, _⟩ => ⟨S256x256, .f32⟩
  | .local _ .vmem, ⟨22, _⟩ => ⟨S4352x256, .f32⟩
  | .local _ .vmem, ⟨23, _⟩ => ⟨S4352x256, .f32⟩
  | .local _ .vmem, ⟨24, _⟩ => ⟨S4352x128, .f32⟩
  | .local _ .vmem, ⟨25, _⟩ => ⟨S4352x128, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 17], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4352x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4352x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4352x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S4352x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== KernelIdeal.lean ====
variable {F : FTy → Type} [FloatOps F] [Named F]
def κ : String → Option EReal := fun
  | "mask" => some ⊥
  | _ => none
-- ==== ReferenceIdeal.lean ====
abbrev S4352x512 : Shape := ⟨2, ![4352, 512]⟩
abbrev S4352x256 : Shape := ⟨2, ![4352, 256]⟩
abbrev S4352x64 : Shape := ⟨2, ![4352, 64]⟩
abbrev S4352x4x128 : Shape := ⟨3, ![4352, 4, 128]⟩
abbrev S4352x4x64 : Shape := ⟨3, ![4352, 4, 64]⟩
abbrev S4352x1x64 : Shape := ⟨3, ![4352, 1, 64]⟩
abbrev S4096x4x128 : Shape := ⟨3, ![4096, 4, 128]⟩
abbrev S4096x4x64 : Shape := ⟨3, ![4096, 4, 64]⟩
abbrev S4x4096x4352 : Shape := ⟨3, ![4, 4096, 4352]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S256x4x128 : Shape := ⟨3, ![256, 4, 128]⟩
abbrev S256x4x64 : Shape := ⟨3, ![256, 4, 64]⟩
abbrev S4x256x256 : Shape := ⟨3, ![4, 256, 256]⟩
abbrev S4x256 : Shape := ⟨2, ![4, 256]⟩
abbrev S4x256x1 : Shape := ⟨3, ![4, 256, 1]⟩
abbrev S4x128x256 : Shape := ⟨3, ![4, 128, 256]⟩
abbrev S4x256x64 : Shape := ⟨3, ![4, 256, 64]⟩
abbrev S4x256x128 : Shape := ⟨3, ![4, 256, 128]⟩
abbrev S4x128x4352 : Shape := ⟨3, ![4, 128, 4352]⟩
abbrev S4x4352x64 : Shape := ⟨3, ![4, 4352, 64]⟩
abbrev S4x4096x64 : Shape := ⟨3, ![4, 4096, 64]⟩
abbrev S4x4352x128 : Shape := ⟨3, ![4, 4352, 128]⟩
abbrev S4x4096x128 : Shape := ⟨3, ![4, 4096, 128]⟩
abbrev S4352x4x256 : Shape := ⟨3, ![4352, 4, 256]⟩
abbrev S4352x1024 : Shape := ⟨2, ![4352, 1024]⟩

abbrev nBuf : Space → Nat
  | .hbm => 203
  | .vmem => 0
  | .smem => 0
  | _ => 0

abbrev hbmTy0_0 (i : Nat) : BufTy := match i % 128 with
  | 0 => ⟨S4352x512, .f32⟩
  | 1 => ⟨S4352x256, .f32⟩
  | 2 => ⟨S4352x512, .f32⟩
  | 3 => ⟨S4352x64, .f32⟩
  | 4 => ⟨S4352x512, .f32⟩
  | 5 => ⟨S4352x512, .f32⟩
  | 6 => ⟨S4352x4x128, .f32⟩
  | 7 => ⟨S4352x4x64, .f32⟩
  | 8 => ⟨S4352x4x128, .f32⟩
  | 9 => ⟨S4352x1x64, .f32⟩
  | 10 => ⟨S4352x4x64, .f32⟩
  | 11 => ⟨S4352x4x128, .f32⟩
  | 12 => ⟨S4096x4x128, .f32⟩
  | 13 => ⟨S4096x4x64, .f32⟩
  | 14 => ⟨S4x4096x4352, .f32⟩
  | 15 => ⟨S4x4096x4352, .f32⟩
  | 16 => ⟨S4x4096x4352, .f32⟩
  | 17 => ⟨S_, .f32⟩
  | 18 => ⟨S4x4096x4352, .f32⟩
  | 19 => ⟨S4x4096x4352, .f32⟩
  | 20 => ⟨S_, .f32⟩
  | 21 => ⟨S4x4096, .f32⟩
  | 22 => ⟨S4x4096x1, .f32⟩
  | 23 => ⟨S4x4096x4352, .f32⟩
  | 24 => ⟨S4x4096x4352, .i1⟩
  | 25 => ⟨S4x4096x4352, .f32⟩
  | 26 => ⟨S_, .f32⟩
  | 27 => ⟨S4x4096, .f32⟩
  | 28 => ⟨S_, .f32⟩
  | 29 => ⟨S4x4096, .f32⟩
  | 30 => ⟨S4x4096, .f32⟩
  | 31 => ⟨S_, .f32⟩
  | 32 => ⟨S4x4096, .f32⟩
  | 33 => ⟨S4x4096, .i1⟩
  | 34 => ⟨S_, .f32⟩
  | 35 => ⟨S4x4096, .f32⟩
  | 36 => ⟨S4x4096, .i1⟩
  | 37 => ⟨S_, .f32⟩
  | 38 => ⟨S4x4096, .f32⟩
  | 39 => ⟨S_, .f32⟩
  | 40 => ⟨S4x4096, .f32⟩
  | 41 => ⟨S_, .f32⟩
  | 42 => ⟨S4x4096, .f32⟩
  | 43 => ⟨S4x4096, .f32⟩
  | 44 => ⟨S4x4096, .f32⟩
  | 45 => ⟨S4x4096x1, .f32⟩
  | 46 => ⟨S4x4096x4352, .f32⟩
  | 47 => ⟨S4x4096x4352, .f32⟩
  | 48 => ⟨S4x4096x4352, .f32⟩
  | 49 => ⟨S_, .f32⟩
  | 50 => ⟨S4x4096, .f32⟩
  | 51 => ⟨S4x4096x1, .f32⟩
  | 52 => ⟨S4x4096x4352, .f32⟩
  | 53 => ⟨S4x4096x4352, .f32⟩
  | 54 => ⟨S4x4096x1, .f32⟩
  | 55 => ⟨S_, .f32⟩
  | 56 => ⟨S4x4096x1, .f32⟩
  | 57 => ⟨S4x4096x1, .f32⟩
  | 58 => ⟨S4x128x4096, .f32⟩
  | 59 => ⟨S4096x4x128, .f32⟩
  | 60 => ⟨S256x4x128, .f32⟩
  | 61 => ⟨S256x4x64, .f32⟩
  | 62 => ⟨S256x4x128, .f32⟩
  | 63 => ⟨S256x4x64, .f32⟩
  | 64 => ⟨S256x4x128, .f32⟩
  | 65 => ⟨S4x256x256, .f32⟩
  | 66 => ⟨S4x256x256, .f32⟩
  | 67 => ⟨S4x256x256, .f32⟩
  | 68 => ⟨S_, .f32⟩
  | 69 => ⟨S4x256x256, .f32⟩
  | 70 => ⟨S4x256x256, .f32⟩
  | 71 => ⟨S_, .f32⟩
  | 72 => ⟨S4x256, .f32⟩
  | 73 => ⟨S4x256x1, .f32⟩
  | 74 => ⟨S4x256x256, .f32⟩
  | 75 => ⟨S4x256x256, .i1⟩
  | 76 => ⟨S4x256x256, .f32⟩
  | 77 => ⟨S_, .f32⟩
  | 78 => ⟨S4x256, .f32⟩
  | 79 => ⟨S_, .f32⟩
  | 80 => ⟨S4x256, .f32⟩
  | 81 => ⟨S4x256, .f32⟩
  | 82 => ⟨S_, .f32⟩
  | 83 => ⟨S4x256, .f32⟩
  | 84 => ⟨S4x256, .i1⟩
  | 85 => ⟨S_, .f32⟩
  | 86 => ⟨S4x256, .f32⟩
  | 87 => ⟨S4x256, .i1⟩
  | 88 => ⟨S_, .f32⟩
  | 89 => ⟨S4x256, .f32⟩
  | 90 => ⟨S_, .f32⟩
  | 91 => ⟨S4x256, .f32⟩
  | 92 => ⟨S_, .f32⟩
  | 93 => ⟨S4x256, .f32⟩
  | 94 => ⟨S4x256, .f32⟩
  | 95 => ⟨S4x256, .f32⟩
  | 96 => ⟨S4x256x1, .f32⟩
  | 97 => ⟨S4x256x256, .f32⟩
  | 98 => ⟨S4x256x256, .f32⟩
  | 99 => ⟨S4x256x256, .f32⟩
  | 100 => ⟨S_, .f32⟩
  | 101 => ⟨S4x256, .f32⟩
  | 102 => ⟨S4x256x1, .f32⟩
  | 103 => ⟨S4x256x256, .f32⟩
  | 104 => ⟨S4x256x256, .f32⟩
  | 105 => ⟨S4x256x1, .f32⟩
  | 106 => ⟨S_, .f32⟩
  | 107 => ⟨S4x256x1, .f32⟩
  | 108 => ⟨S4x256x1, .f32⟩
  | 109 => ⟨S4x128x256, .f32⟩
  | 110 => ⟨S256x4x128, .f32⟩
  | 111 => ⟨S4352x4x128, .f32⟩
  | 112 => ⟨S4352x4x128, .f32⟩
  | 113 => ⟨S4096x4x128, .f32⟩
  | 114 => ⟨S256x4x128, .f32⟩
  | 115 => ⟨S4x128x256, .f32⟩
  | 116 => ⟨S4x256x256, .f32⟩
  | 117 => ⟨S4x128x256, .f32⟩
  | 118 => ⟨S256x4x128, .f32⟩
  | 119 => ⟨S4x256x256, .f32⟩
  | 120 => ⟨S4x256x256, .f32⟩
  | 121 => ⟨S4x256x256, .f32⟩
  | 122 => ⟨S_, .f32⟩
  | 123 => ⟨S4x256, .f32⟩
  | 124 => ⟨S4x256x1, .f32⟩
  | 125 => ⟨S4x256x1, .f32⟩
  | 126 => ⟨S4x256x256, .f32⟩
  | 127 => ⟨S4x256x256, .f32⟩
  | _ => ⟨S4352x512, .f32⟩

abbrev hbmTy0_1 (i : Nat) : BufTy := match i % 128 with
  | 0 => ⟨S_, .f32⟩
  | 1 => ⟨S4x256, .f32⟩
  | 2 => ⟨S4x256x256, .f32⟩
  | 3 => ⟨S4x256x256, .f32⟩
  | 4 => ⟨S4x256x256, .f32⟩
  | 5 => ⟨S_, .f32⟩
  | 6 => ⟨S4x256x256, .f32⟩
  | 7 => ⟨S4x256x256, .f32⟩
  | 8 => ⟨S4x256x64, .f32⟩
  | 9 => ⟨S256x4x64, .f32⟩
  | 10 => ⟨S4x256x64, .f32⟩
  | 11 => ⟨S256x4x64, .f32⟩
  | 12 => ⟨S4x256x128, .f32⟩
  | 13 => ⟨S256x4x128, .f32⟩
  | 14 => ⟨S4x256x128, .f32⟩
  | 15 => ⟨S256x4x128, .f32⟩
  | 16 => ⟨S_, .f32⟩
  | 17 => ⟨S4352x4x128, .f32⟩
  | 18 => ⟨S_, .f32⟩
  | 19 => ⟨S4352x4x64, .f32⟩
  | 20 => ⟨S_, .f32⟩
  | 21 => ⟨S4352x4x128, .f32⟩
  | 22 => ⟨S_, .f32⟩
  | 23 => ⟨S4352x4x64, .f32⟩
  | 24 => ⟨S_, .f32⟩
  | 25 => ⟨S4352x4x128, .f32⟩
  | 26 => ⟨S4x128x4096, .f32⟩
  | 27 => ⟨S4x4096x4352, .f32⟩
  | 28 => ⟨S4x128x4352, .f32⟩
  | 29 => ⟨S4352x4x128, .f32⟩
  | 30 => ⟨S4352x4x128, .f32⟩
  | 31 => ⟨S4x4096x4352, .f32⟩
  | 32 => ⟨S4x4096x4352, .f32⟩
  | 33 => ⟨S4x4096x4352, .f32⟩
  | 34 => ⟨S_, .f32⟩
  | 35 => ⟨S4x4096, .f32⟩
  | 36 => ⟨S4x4096x1, .f32⟩
  | 37 => ⟨S4x4096x1, .f32⟩
  | 38 => ⟨S4x4096x4352, .f32⟩
  | 39 => ⟨S4x4096x4352, .f32⟩
  | 40 => ⟨S_, .f32⟩
  | 41 => ⟨S4x4096, .f32⟩
  | 42 => ⟨S4x4096x4352, .f32⟩
  | 43 => ⟨S4x4096x4352, .f32⟩
  | 44 => ⟨S4x4096x4352, .f32⟩
  | 45 => ⟨S_, .f32⟩
  | 46 => ⟨S4x4096x4352, .f32⟩
  | 47 => ⟨S4x4096x4352, .f32⟩
  | 48 => ⟨S4x4352x64, .f32⟩
  | 49 => ⟨S4352x4x64, .f32⟩
  | 50 => ⟨S4352x4x64, .f32⟩
  | 51 => ⟨S4x4096x64, .f32⟩
  | 52 => ⟨S4096x4x64, .f32⟩
  | 53 => ⟨S4x4352x128, .f32⟩
  | 54 => ⟨S4352x4x128, .f32⟩
  | 55 => ⟨S4352x4x128, .f32⟩
  | 56 => ⟨S4x4096x128, .f32⟩
  | 57 => ⟨S4096x4x128, .f32⟩
  | 58 => ⟨S_, .f32⟩
  | 59 => ⟨S4352x4x64, .f32⟩
  | 60 => ⟨S4352x4x64, .f32⟩
  | 61 => ⟨S_, .f32⟩
  | 62 => ⟨S4352x4x128, .f32⟩
  | 63 => ⟨S4352x4x128, .f32⟩
  | 64 => ⟨S_, .f32⟩
  | 65 => ⟨S4352x4x64, .f32⟩
  | 66 => ⟨S4352x4x256, .f32⟩
  | 67 => ⟨S4352x1024, .f32⟩
  | 68 => ⟨S_, .f32⟩
  | 69 => ⟨S4352x4x64, .f32⟩
  | 70 => ⟨S4352x4x256, .f32⟩
  | 71 => ⟨S4352x1024, .f32⟩
  | 72 => ⟨S4352x512, .f32⟩
  | 73 => ⟨S4352x512, .f32⟩
  | 74 => ⟨S4352x512, .bf16⟩
  | _ => ⟨S4352x512, .f32⟩

abbrev hbmTy (i : Nat) : BufTy := match i / 128 with
  | 0 => hbmTy0_0 i
  | 1 => hbmTy0_1 i
  | _ => ⟨S4352x512, .f32⟩

abbrev bufTy : (tb : Table) → Fin (tcTables nBuf tb) → BufTy
  | .hbm, ⟨i, _⟩ => hbmTy i
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_19 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_20 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_21 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_22 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_23 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_24 : Ref sig .tc := ⟨.hbm, 144, rfl⟩
abbrev main_v113 : Ref sig .tc := ⟨.hbm, 145, rfl⟩
abbrev main_cst_25 : Ref sig .tc := ⟨.hbm, 146, rfl⟩
abbrev main_v114 : Ref sig .tc := ⟨.hbm, 147, rfl⟩
abbrev main_cst_26 : Ref sig .tc := ⟨.hbm, 148, rfl⟩
abbrev main_v115 : Ref sig .tc := ⟨.hbm, 149, rfl⟩
abbrev main_cst_27 : Ref sig .tc := ⟨.hbm, 150, rfl⟩
abbrev main_v116 : Ref sig .tc := ⟨.hbm, 151, rfl⟩
abbrev main_cst_28 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_29 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_30 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_31 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_32 : Ref sig .tc := ⟨.hbm, 186, rfl⟩
abbrev main_v147 : Ref sig .tc := ⟨.hbm, 187, rfl⟩
abbrev main_v148 : Ref sig .tc := ⟨.hbm, 188, rfl⟩
abbrev main_cst_33 : Ref sig .tc := ⟨.hbm, 189, rfl⟩
abbrev main_v149 : Ref sig .tc := ⟨.hbm, 190, rfl⟩
abbrev main_v150 : Ref sig .tc := ⟨.hbm, 191, rfl⟩
abbrev main_cst_34 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_35 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩

abbrev nD : Nat := 1
abbrev τ : Topo := Topo.v7x

variable {F : FTy → Type} [FloatOps F]
-- ==== Ffn.lean ====
abbrev S4352x2048 : Shape := ⟨2, ![4352, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S3x2x5632 : Shape := ⟨3, ![3, 2, 5632]⟩
abbrev S2x3x5632 : Shape := ⟨3, ![2, 3, 5632]⟩
abbrev S2x1x5632 : Shape := ⟨3, ![2, 1, 5632]⟩
abbrev S2x4352x5632 : Shape := ⟨3, ![2, 4352, 5632]⟩
abbrev S2176x2048 : Shape := ⟨2, ![2176, 2048]⟩
abbrev S2048x512 : Shape := ⟨2, ![2048, 512]⟩
abbrev S1x2176x512 : Shape := ⟨3, ![1, 2176, 512]⟩
abbrev S2176x512 : Shape := ⟨2, ![2176, 512]⟩
abbrev S4352x5632 : Shape := ⟨2, ![4352, 5632]⟩
abbrev S1x256x512 : Shape := ⟨3, ![1, 256, 512]⟩
abbrev S1x8x512 : Shape := ⟨3, ![1, 8, 512]⟩
abbrev S1x3x512 : Shape := ⟨3, ![1, 3, 512]⟩
abbrev S1x1x512 : Shape := ⟨3, ![1, 1, 512]⟩
abbrev S256x512 : Shape := ⟨2, ![256, 512]⟩
abbrev S8x512 : Shape := ⟨2, ![8, 512]⟩
abbrev S272x512 : Shape := ⟨2, ![272, 512]⟩
abbrev S3x512 : Shape := ⟨2, ![3, 512]⟩
abbrev S1x512 : Shape := ⟨2, ![1, 512]⟩
abbrev S271x512 : Shape := ⟨2, ![271, 512]⟩
abbrev S1088x5632 : Shape := ⟨2, ![1088, 5632]⟩
abbrev S5632x256 : Shape := ⟨2, ![5632, 256]⟩
abbrev S1088x256 : Shape := ⟨2, ![1088, 256]⟩
abbrev S4352x512 : Shape := ⟨2, ![4352, 512]⟩
abbrev S4352x1024 : Shape := ⟨2, ![4352, 1024]⟩
abbrev S512x1024 : Shape := ⟨2, ![512, 1024]⟩
abbrev S512x2048 : Shape := ⟨2, ![512, 2048]⟩
abbrev S2x256x512 : Shape := ⟨3, ![2, 256, 512]⟩
abbrev S2x3x512 : Shape := ⟨3, ![2, 3, 512]⟩
abbrev S2x1x512 : Shape := ⟨3, ![2, 1, 512]⟩
abbrev S512 : Shape := ⟨1, ![512]⟩
abbrev S1x4352x512 : Shape := ⟨3, ![1, 4352, 512]⟩
abbrev S1024x512 : Shape := ⟨2, ![1024, 512]⟩

abbrev nBuf : Space → Nat
  | .hbm => 22
  | .vmem => 84
  | .smem => 0
  | _ => 0

abbrev bufTy : (tb : Table) → Fin (tcTables nBuf tb) → BufTy
  | .hbm, ⟨0, _⟩ => ⟨S4352x2048, .f32⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S5632x2048, .f32⟩
  | .hbm, ⟨5, _⟩ => ⟨S4352x2048, .f32⟩
  | .hbm, ⟨6, _⟩ => ⟨S3x2x5632, .f32⟩
  | .hbm, ⟨7, _⟩ => ⟨S2x3x5632, .f32⟩
  | .hbm, ⟨8, _⟩ => ⟨S2x1x5632, .f32⟩
  | .hbm, ⟨9, _⟩ => ⟨S4352x2048, .bf16⟩
  | .hbm, ⟨10, _⟩ => ⟨S2048x11264, .bf16⟩
  | .hbm, ⟨11, _⟩ => ⟨S5632x2048, .bf16⟩
  | .hbm, ⟨12, _⟩ => ⟨S4352x2048, .bf16⟩
  | .hbm, ⟨13, _⟩ => ⟨S2x4352x5632, .f32⟩
  | .hbm, ⟨14, _⟩ => ⟨S4352x5632, .bf16⟩
  | .hbm, ⟨15, _⟩ => ⟨S4352x2048, .f32⟩
  | .hbm, ⟨16, _⟩ => ⟨S5632x2048, .bf16⟩
  | .hbm, ⟨17, _⟩ => ⟨S4352x5632, .f32⟩
  | .hbm, ⟨18, _⟩ => ⟨S2x4352x5632, .bf16⟩
  | .hbm, ⟨19, _⟩ => ⟨S2x3x5632, .f32⟩
  | .hbm, ⟨20, _⟩ => ⟨S2x1x5632, .f32⟩
  | .hbm, ⟨21, _⟩ => ⟨S2048x11264, .bf16⟩
  | .local _ .vmem, ⟨0, _⟩ => ⟨S2176x2048, .bf16⟩
  | .local _ .vmem, ⟨1, _⟩ => ⟨S2176x2048, .bf16⟩
  | .local _ .vmem, ⟨2, _⟩ => ⟨S2048x512, .bf16⟩
  | .local _ .vmem, ⟨3, _⟩ => ⟨S2048x512, .bf16⟩
  | .local _ .vmem, ⟨4, _⟩ => ⟨S1x2176x512, .f32⟩
  | .local _ .vmem, ⟨5, _⟩ => ⟨S1x2176x512, .f32⟩
  | .local _ .vmem, ⟨6, _⟩ => ⟨S1x256x512, .f32⟩
  | .local _ .vmem, ⟨7, _⟩ => ⟨S1x256x512, .f32⟩
  | .local _ .vmem, ⟨8, _⟩ => ⟨S1x8x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S1x256x512, .f32⟩
  | .local _ .vmem, ⟨13, _⟩ => ⟨S1x256x512, .f32⟩
  | .local _ .vmem, ⟨14, _⟩ => ⟨S1x8x512, .f32⟩
  | .local _ .vmem, ⟨15, _⟩ => ⟨S1x8x512, .f32⟩
  | .local _ .vmem, ⟨16, _⟩ => ⟨S1x8x512, .f32⟩
  | .local _ .vmem, ⟨17, _⟩ => ⟨S1x8x512, .f32⟩
  | .local _ .vmem, ⟨18, _⟩ => ⟨S1x3x512, .f32⟩
  | .local _ .vmem, ⟨19, _⟩ => ⟨S1x3x512, .f32⟩
  | .local _ .vmem, ⟨20, _⟩ => ⟨S1x3x512, .f32⟩
  | .local _ .vmem, ⟨21, _⟩ => ⟨S1x3x512, .f32⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S256x512, .bf16⟩
  | .local _ .vmem, ⟨27, _⟩ => ⟨S256x512, .bf16⟩
  | .local _ .vmem, ⟨28, _⟩ => ⟨S1088x5632, .bf16⟩
  | .local _ .vmem, ⟨29, _⟩ => ⟨S1088x5632, .bf16⟩
  | .local _ .vmem, ⟨30, _⟩ => ⟨S5632x256, .bf16⟩
  | .local _ .vmem, ⟨31, _⟩ => ⟨S5632x256, .bf16⟩
  | .local _ .vmem, ⟨32, _⟩ => ⟨S1088x256, .f32⟩
  | .local _ .vmem, ⟨33, _⟩ => ⟨S1088x256, .f32⟩
  | .local _ .vmem, ⟨34, _⟩ => ⟨S4352x512, .bf16⟩
  | .local _ .vmem, ⟨35, _⟩ => ⟨S4352x512, .bf16⟩
  | .local _ .vmem, ⟨36, _⟩ => ⟨S4352x1024, .bf16⟩
  | .local _ .vmem, ⟨37, _⟩ => ⟨S4352x1024, .bf16⟩
  | .local _ .vmem, ⟨38, _⟩ => ⟨S512x1024, .bf16⟩
  | .local _ .vmem, ⟨39, _⟩ => ⟨S512x1024, .bf16⟩
  | .local _ .vmem, ⟨40, _⟩ => ⟨S2176x2048, .bf16⟩
  | .local _ .vmem, ⟨41, _⟩ => ⟨S2176x2048, .bf16⟩
  | .local _ .vmem, ⟨42, _⟩ => ⟨S512x2048, .bf16⟩
  | .local _ .vmem, ⟨43, _⟩ => ⟨S512x2048, .bf16⟩
  | .local _ .vmem, ⟨44, _⟩ => ⟨S2176x512, .f32⟩
  | .local _ .vmem, ⟨45, _⟩ => ⟨S2176x512, .f32⟩
  | .local _ .vmem, ⟨46, _⟩ => ⟨S1x256x512, .f32⟩
  | .local _ .vmem, ⟨47, _⟩ => ⟨S1x256x512, .f32⟩
  | .local _ .vmem, ⟨48, _⟩ => ⟨S1x8x512, .f32⟩
  | .local _ .vmem, ⟨49, _⟩ => ⟨S1x8x512, .f32⟩
  | .local _ .vmem, ⟨50, _⟩ => ⟨S1x8x512, .f32⟩
  | .local _ .vmem, ⟨51, _⟩ => ⟨S1x8x512, .f32⟩
  | .local _ .vmem, ⟨52, _⟩ => ⟨S1x256x512, .f32⟩
  | .local _ .vmem, ⟨53, _⟩ => ⟨S1x256x512, .f32⟩
  | .local _ .vmem, ⟨54, _⟩ => ⟨S1x8x512, .f32⟩
  | .local _ .vmem, ⟨55, _⟩ => ⟨S1x8x512, .f32⟩
  | .local _ .vmem, ⟨56, _⟩ => ⟨S1x8x512, .f32⟩
  | .local _ .vmem, ⟨57, _⟩ => ⟨S1x8x512, .f32⟩
  | .local _ .vmem, ⟨58, _⟩ => ⟨S1x3x512, .f32⟩
  | .local _ .vmem, ⟨59, _⟩ => ⟨S1x3x512, .f32⟩
  | .local _ .vmem, ⟨60, _⟩ => ⟨S1x3x512, .f32⟩
  | .local _ .vmem, ⟨61, _⟩ => ⟨S1x3x512, .f32⟩
  | .local _ .vmem, ⟨62, _⟩ => ⟨S1x1x512, .f32⟩
  | .local _ .vmem, ⟨63, _⟩ => ⟨S1x1x512, .f32⟩
  | .local _ .vmem, ⟨64, _⟩ => ⟨S1x1x512, .f32⟩
  | .local _ .vmem, ⟨65, _⟩ => ⟨S1x1x512, .f32⟩
  | .local _ .vmem, ⟨66, _⟩ => ⟨S256x512, .f32⟩
  | .local _ .vmem, ⟨67, _⟩ => ⟨S256x512, .f32⟩
  | .local _ .vmem, ⟨68, _⟩ => ⟨S8x512, .f32⟩
  | .local _ .vmem, ⟨69, _⟩ => ⟨S8x512, .f32⟩
  | .local _ .vmem, ⟨70, _⟩ => ⟨S8x512, .f32⟩
  | .local _ .vmem, ⟨71, _⟩ => ⟨S8x512, .f32⟩
  | .local _ .vmem, ⟨72, _⟩ => ⟨S2x256x512, .bf16⟩
  | .local _ .vmem, ⟨73, _⟩ => ⟨S2x256x512, .bf16⟩
  | .local _ .vmem, ⟨74, _⟩ => ⟨S2x3x512, .f32⟩
  | .local _ .vmem, ⟨75, _⟩ => ⟨S2x3x512, .f32⟩
  | .local _ .vmem, ⟨76, _⟩ => ⟨S2x1x512, .f32⟩
  | .local _ .vmem, ⟨77, _⟩ => ⟨S2x1x512, .f32⟩
  | .local _ .vmem, ⟨78, _⟩ => ⟨S4352x1024, .bf16⟩
  | .local _ .vmem, ⟨79, _⟩ => ⟨S4352x1024, .bf16⟩
  | .local _ .vmem, ⟨80, _⟩ => ⟨S1x4352x512, .bf16⟩
  | .local _ .vmem, ⟨81, _⟩ => ⟨S1x4352x512, .bf16⟩
  | .local _ .vmem, ⟨82, _⟩ => ⟨S1024x512, .bf16⟩
  | .local _ .vmem, ⟨83, _⟩ => ⟨S1024x512, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg3_1 : Ref sig .tc := ⟨.vmem, 53, rfl⟩
abbrev cc5_stg4_0 : Ref sig .tc := ⟨.vmem, 54, rfl⟩
abbrev cc5_stg4_1 : Ref sig .tc := ⟨.vmem, 55, rfl⟩
abbrev cc5_stg5_0 : Ref sig .tc := ⟨.vmem, 56, rfl⟩
abbrev cc5_stg5_1 : Ref sig .tc := ⟨.vmem, 57, rfl⟩
abbrev cc5_stg6_0 : Ref sig .tc := ⟨.vmem, 58, rfl⟩
abbrev cc5_stg6_1 : Ref sig .tc := ⟨.vmem, 59, rfl⟩
abbrev cc5_stg7_0 : Ref sig .tc := ⟨.vmem, 60, rfl⟩
abbrev cc5_stg7_1 : Ref sig .tc := ⟨.vmem, 61, rfl⟩
abbrev cc5_stg8_0 : Ref sig .tc := ⟨.vmem, 62, rfl⟩
abbrev cc5_stg8_1 : Ref sig .tc := ⟨.vmem, 63, rfl⟩
abbrev cc5_stg9_0 : Ref sig .tc := ⟨.vmem, 64, rfl⟩
abbrev cc5_stg9_1 : Ref sig .tc := ⟨.vmem, 65, rfl⟩
abbrev cc5_stg10_0 : Ref sig .tc := ⟨.vmem, 66, rfl⟩
abbrev cc5_stg10_1 : Ref sig .tc := ⟨.vmem, 67, rfl⟩
abbrev cc5_stg11_0 : Ref sig .tc := ⟨.vmem, 68, rfl⟩
abbrev cc5_stg11_1 : Ref sig .tc := ⟨.vmem, 69, rfl⟩
abbrev cc5_stg12_0 : Ref sig .tc := ⟨.vmem, 70, rfl⟩
abbrev cc5_stg12_1 : Ref sig .tc := ⟨.vmem, 71, rfl⟩
abbrev cc5_stg13_0 : Ref sig .tc := ⟨.vmem, 72, rfl⟩
abbrev cc5_stg13_1 : Ref sig .tc := ⟨.vmem, 73, rfl⟩
abbrev cc5_stg14_0 : Ref sig .tc := ⟨.vmem, 74, rfl⟩
abbrev cc5_stg14_1 : Ref sig .tc := ⟨.vmem, 75, rfl⟩
abbrev cc5_stg15_0 : Ref sig .tc := ⟨.vmem, 76, rfl⟩
abbrev cc5_stg15_1 : Ref sig .tc := ⟨.vmem, 77, rfl⟩
abbrev cc6_stg0_0 : Ref sig .tc := ⟨.vmem, 78, rfl⟩
abbrev cc6_stg0_1 : Ref sig .tc := ⟨.vmem, 79, rfl⟩
abbrev cc6_stg1_0 : Ref sig .tc := ⟨.vmem, 80, rfl⟩
abbrev cc6_stg1_1 : Ref sig .tc := ⟨.vmem, 81, rfl⟩
abbrev cc6_stg2_0 : Ref sig .tc := ⟨.vmem, 82, rfl⟩
abbrev cc6_stg2_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51
abbrev cc5_sem3_0 : DmaSem sig := 52
abbrev cc5_sem3_1 : DmaSem sig := 53
abbrev cc5_sem4_0 : DmaSem sig := 54
abbrev cc5_sem4_1 : DmaSem sig := 55
abbrev cc5_sem5_0 : DmaSem sig := 56
abbrev cc5_sem5_1 : DmaSem sig := 57
abbrev cc5_sem6_0 : DmaSem sig := 58
abbrev cc5_sem6_1 : DmaSem sig := 59
abbrev cc5_sem7_0 : DmaSem sig := 60
abbrev cc5_sem7_1 : DmaSem sig := 61
abbrev cc5_sem8_0 : DmaSem sig := 62
abbrev cc5_sem8_1 : DmaSem sig := 63
abbrev cc5_sem9_0 : DmaSem sig := 64
abbrev cc5_sem9_1 : DmaSem sig := 65
abbrev cc5_sem10_0 : DmaSem sig := 66
abbrev cc5_sem10_1 : DmaSem sig := 67
abbrev cc5_sem11_0 : DmaSem sig := 68
abbrev cc5_sem11_1 : DmaSem sig := 69
abbrev cc5_sem12_0 : DmaSem sig := 70
abbrev cc5_sem12_1 : DmaSem sig := 71
abbrev cc5_sem13_0 : DmaSem sig := 72
abbrev cc5_sem13_1 : DmaSem sig := 73
abbrev cc5_sem14_0 : DmaSem sig := 74
abbrev cc5_sem14_1 : DmaSem sig := 75
abbrev cc5_sem15_0 : DmaSem sig := 76
abbrev cc5_sem15_1 : DmaSem sig := 77
abbrev cc6_sem0_0 : DmaSem sig := 78
abbrev cc6_sem0_1 : DmaSem sig := 79
abbrev cc6_sem1_0 : DmaSem sig := 80
abbrev cc6_sem1_1 : DmaSem sig := 81
abbrev cc6_sem2_0 : DmaSem sig := 82
abbrev cc6_sem2_1 : DmaSem sig := 83

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![11, 17], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_1 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![c0_i32.toNat, v2.toNat, arg0.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc1_transform_4 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![c1_i32_0.toNat, v2.toNat, arg0.toNat]

def cc1_transform_5 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c1_i32_0 : BitVec 32 := 1#32
  let c0_i32 : BitVec 32 := 0#32
  ![c1_i32_0.toNat, v2.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_7 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_9 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x8x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x8x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x3x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x3x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S256x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨3, ![4, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1088x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S5632x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1088x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![11, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4352x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4352x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 11, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2176x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2176x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨2, ![11, 17], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc5_transform_1 (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc5_transform_2 (i : grid5.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![c0_i32.toNat, v2.toNat, arg0.toNat]

def cc5_transform_3 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc5_transform_4 (i : grid5.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![c1_i32_0.toNat, v2.toNat, arg0.toNat]

def cc5_transform_5 (i : grid5.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c1_i32_0 : BitVec 32 := 1#32
  let c0_i32 : BitVec 32 := 0#32
  ![c1_i32_0.toNat, v2.toNat, arg0.toNat]

def cc5_transform_6 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc5_transform_7 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc5_transform_8 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc5_transform_9 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc5_transform_10 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_11 (i : grid5.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc5_transform_12 (i : grid5.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  ![v2.toNat, arg0.toNat]

def cc5_transform_13 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc5_transform_14 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc5_transform_15 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage5_0 : Fin 2 → Memref sig .tc .vmem S1x256x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x8x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x8x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1x256x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S1x8x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1x8x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S1x3x512 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]

abbrev stage5_7 : Fin 2 → Memref sig .tc .vmem S1x3x512 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, false]

abbrev stage5_8 : Fin 2 → Memref sig .tc .vmem S1x1x512 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, false]

abbrev stage5_9 : Fin 2 → Memref sig .tc .vmem S1x1x512 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true, false]

abbrev stage5_10 : Fin 2 → Memref sig .tc .vmem S256x512 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true, true]

abbrev stage5_11 : Fin 2 → Memref sig .tc .vmem S8x512 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true, true]

abbrev stage5_12 : Fin 2 → Memref sig .tc .vmem S8x512 .f32 := fun | 0 => Memref.whole cc5_stg12_0 | 1 => Memref.whole cc5_stg12_1 | ⟨_ + 2, h⟩ => absurd h (Nat.not_lt.2 (Nat.le_add_left _ _))
abbrev sem5_12 : Fin 2 → DmaSem sig := fun | 0 => cc5_sem12_0 | 1 => cc5_sem12_1 | ⟨_ + 2, h⟩ => absurd h (Nat.not_lt.2 (Nat.le_add_left _ _))
abbrev reads5_12 : Fin grid5.rank → Bool := ![true, true]

abbrev stage5_13 : Fin 2 → Memref sig .tc .vmem S2x256x512 .bf16 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true, true]

abbrev stage5_14 : Fin 2 → Memref sig .tc .vmem S2x3x512 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true, false]

abbrev stage5_15 : Fin 2 → Memref sig .tc .vmem S2x1x512 .f32 := fun | 0 => Memref.whole cc5_stg15_0 | 1 => Memref.whole cc5_stg15_1 | ⟨_ + 2, h⟩ => absurd h (Nat.not_lt.2 (Nat.le_add_left _ _))
abbrev sem5_15 : Fin 2 → DmaSem sig := fun | 0 => cc5_sem15_0 | 1 => cc5_sem15_1 | ⟨_ + 2, h⟩ => absurd h (Nat.not_lt.2 (Nat.le_add_left _ _))
abbrev reads5_15 : Fin grid5.rank → Bool := ![true, false]

abbrev grid6 : Pipeline.Grid := ⟨3, ![2, 22, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S4352x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1x4352x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== FfnRefIdeal.lean ====
abbrev S4352x2048 : Shape := ⟨2, ![4352, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S4096x2048 : Shape := ⟨2, ![4096, 2048]⟩
abbrev S4096x11264 : Shape := ⟨2, ![4096, 11264]⟩
abbrev S_ : Shape := ⟨0, ![]⟩
abbrev S1x11264 : Shape := ⟨2, ![1, 11264]⟩
abbrev S4098x11264 : Shape := ⟨2, ![4098, 11264]⟩
abbrev S4096x5632 : Shape := ⟨2, ![4096, 5632]⟩
abbrev S256x2048 : Shape := ⟨2, ![256, 2048]⟩
abbrev S256x11264 : Shape := ⟨2, ![256, 11264]⟩
abbrev S258x11264 : Shape := ⟨2, ![258, 11264]⟩
abbrev S256x5632 : Shape := ⟨2, ![256, 5632]⟩
abbrev S2048x5632 : Shape := ⟨2, ![2048, 5632]⟩
abbrev S11264x2048 : Shape := ⟨2, ![11264, 2048]⟩
abbrev S3x2x5632 : Shape := ⟨3, ![3, 2, 5632]⟩
abbrev S2x3x5632 : Shape := ⟨3, ![2, 3, 5632]⟩
abbrev S2x1x5632 : Shape := ⟨3, ![2, 1, 5632]⟩

abbrev nBuf : Space → Nat
  | .hbm => 242
  | .vmem => 0
  | .smem => 0
  | _ => 0

abbrev hbmTy0_0 (i : Nat) : BufTy := match i % 128 with
  | 0 => ⟨S4352x2048, .f32⟩
  | 1 => ⟨S2048x11264, .f32⟩
  | 2 => ⟨S3x11264, .f32⟩
  | 3 => ⟨S11264, .f32⟩
  | 4 => ⟨S5632x2048, .f32⟩
  | 5 => ⟨S4352x2048, .f32⟩
  | 6 => ⟨S4096x2048, .f32⟩
  | 7 => ⟨S4096x11264, .f32⟩
  | 8 => ⟨S_, .f32⟩
  | 9 => ⟨S1x11264, .f32⟩
  | 10 => ⟨S4098x11264, .f32⟩
  | 11 => ⟨S_, .f32⟩
  | 12 => ⟨S1x11264, .f32⟩
  | 13 => ⟨S_, .f32⟩
  | 14 => ⟨S1x11264, .f32⟩
  | 15 => ⟨S4096x11264, .f32⟩
  | 16 => ⟨S1x11264, .f32⟩
  | 17 => ⟨S11264, .f32⟩
  | 18 => ⟨S1x11264, .f32⟩
  | 19 => ⟨S4096x11264, .f32⟩
  | 20 => ⟨S4096x11264, .f32⟩
  | 21 => ⟨S4096x11264, .f32⟩
  | 22 => ⟨S1x11264, .f32⟩
  | 23 => ⟨S11264, .f32⟩
  | 24 => ⟨S1x11264, .f32⟩
  | 25 => ⟨S4096x11264, .f32⟩
  | 26 => ⟨S4096x11264, .f32⟩
  | 27 => ⟨S4096x11264, .f32⟩
  | 28 => ⟨S4096x11264, .f32⟩
  | 29 => ⟨S1x11264, .f32⟩
  | 30 => ⟨S11264, .f32⟩
  | 31 => ⟨S1x11264, .f32⟩
  | 32 => ⟨S4096x11264, .f32⟩
  | 33 => ⟨S4096x11264, .f32⟩
  | 34 => ⟨S4096x11264, .f32⟩
  | 35 => ⟨S1x11264, .f32⟩
  | 36 => ⟨S4096x11264, .f32⟩
  | 37 => ⟨S4096x11264, .f32⟩
  | 38 => ⟨S4096x5632, .f32⟩
  | 39 => ⟨S4096x5632, .f32⟩
  | 40 => ⟨S4096x5632, .f32⟩
  | 41 => ⟨S4096x5632, .f32⟩
  | 42 => ⟨S_, .f32⟩
  | 43 => ⟨S4096x5632, .f32⟩
  | 44 => ⟨S4096x5632, .f32⟩
  | 45 => ⟨S_, .f32⟩
  | 46 => ⟨S4096x5632, .f32⟩
  | 47 => ⟨S4096x5632, .f32⟩
  | 48 => ⟨S_, .f32⟩
  | 49 => ⟨S4096x5632, .f32⟩
  | 50 => ⟨S4096x5632, .f32⟩
  | 51 => ⟨S4096x5632, .f32⟩
  | 52 => ⟨S4096x5632, .f32⟩
  | 53 => ⟨S4096x5632, .f32⟩
  | 54 => ⟨S4096x2048, .f32⟩
  | 55 => ⟨S256x2048, .f32⟩
  | 56 => ⟨S256x11264, .f32⟩
  | 57 => ⟨S_, .f32⟩
  | 58 => ⟨S1x11264, .f32⟩
  | 59 => ⟨S258x11264, .f32⟩
  | 60 => ⟨S_, .f32⟩
  | 61 => ⟨S1x11264, .f32⟩
  | 62 => ⟨S_, .f32⟩
  | 63 => ⟨S1x11264, .f32⟩
  | 64 => ⟨S256x11264, .f32⟩
  | 65 => ⟨S1x11264, .f32⟩
  | 66 => ⟨S11264, .f32⟩
  | 67 => ⟨S1x11264, .f32⟩
  | 68 => ⟨S256x11264, .f32⟩
  | 69 => ⟨S256x11264, .f32⟩
  | 70 => ⟨S256x11264, .f32⟩
  | 71 => ⟨S1x11264, .f32⟩
  | 72 => ⟨S11264, .f32⟩
  | 73 => ⟨S1x11264, .f32⟩
  | 74 => ⟨S256x11264, .f32⟩
  | 75 => ⟨S256x11264, .f32⟩
  | 76 => ⟨S256x11264, .f32⟩
  | 77 => ⟨S256x11264, .f32⟩
  | 78 => ⟨S1x11264, .f32⟩
  | 79 => ⟨S11264, .f32⟩
  | 80 => ⟨S1x11264, .f32⟩
  | 81 => ⟨S256x11264, .f32⟩
  | 82 => ⟨S256x11264, .f32⟩
  | 83 => ⟨S256x11264, .f32⟩
  | 84 => ⟨S1x11264, .f32⟩
  | 85 => ⟨S256x11264, .f32⟩
  | 86 => ⟨S256x11264, .f32⟩
  | 87 => ⟨S256x5632, .f32⟩
  | 88 => ⟨S256x5632, .f32⟩
  | 89 => ⟨S256x5632, .f32⟩
  | 90 => ⟨S256x5632, .f32⟩
  | 91 => ⟨S_, .f32⟩
  | 92 => ⟨S256x5632, .f32⟩
  | 93 => ⟨S256x5632, .f32⟩
  | 94 => ⟨S_, .f32⟩
  | 95 => ⟨S256x5632, .f32⟩
  | 96 => ⟨S256x5632, .f32⟩
  | 97 => ⟨S_, .f32⟩
  | 98 => ⟨S256x5632, .f32⟩
  | 99 => ⟨S256x5632, .f32⟩
  | 100 => ⟨S256x5632, .f32⟩
  | 101 => ⟨S256x5632, .f32⟩
  | 102 => ⟨S256x5632, .f32⟩
  | 103 => ⟨S256x2048, .f32⟩
  | 104 => ⟨S4352x2048, .f32⟩
  | 105 => ⟨S4096x2048, .f32⟩
  | 106 => ⟨S256x2048, .f32⟩
  | 107 => ⟨S2048x5632, .f32⟩
  | 108 => ⟨S5632x2048, .f32⟩
  | 109 => ⟨S256x5632, .f32⟩
  | 110 => ⟨S256x5632, .f32⟩
  | 111 => ⟨S256x5632, .f32⟩
  | 112 => ⟨S256x5632, .f32⟩
  | 113 => ⟨S256x5632, .f32⟩
  | 114 => ⟨S256x5632, .f32⟩
  | 115 => ⟨S256x5632, .f32⟩
  | 116 => ⟨S256x11264, .f32⟩
  | 117 => ⟨S_, .f32⟩
  | 118 => ⟨S11264, .f32⟩
  | 119 => ⟨S1x11264, .f32⟩
  | 120 => ⟨S_, .f32⟩
  | 121 => ⟨S11264, .f32⟩
  | 122 => ⟨S256x11264, .f32⟩
  | 123 => ⟨S_, .f32⟩
  | 124 => ⟨S11264, .f32⟩
  | 125 => ⟨S1x11264, .f32⟩
  | 126 => ⟨S256x11264, .f32⟩
  | 127 => ⟨S256x11264, .f32⟩
  | _ => ⟨S4352x2048, .f32⟩

abbrev hbmTy0_1 (i : Nat) : BufTy := match i % 128 with
  | 0 => ⟨S_, .f32⟩
  | 1 => ⟨S11264, .f32⟩
  | 2 => ⟨S1x11264, .f32⟩
  | 3 => ⟨S_, .f32⟩
  | 4 => ⟨S3x11264, .f32⟩
  | 5 => ⟨S_, .f32⟩
  | 6 => ⟨S258x11264, .f32⟩
  | 7 => ⟨S256x11264, .f32⟩
  | 8 => ⟨S_, .f32⟩
  | 9 => ⟨S11264, .f32⟩
  | 10 => ⟨S1x11264, .f32⟩
  | 11 => ⟨S256x11264, .f32⟩
  | 12 => ⟨S256x11264, .f32⟩
  | 13 => ⟨S_, .f32⟩
  | 14 => ⟨S11264, .f32⟩
  | 15 => ⟨S1x11264, .f32⟩
  | 16 => ⟨S_, .f32⟩
  | 17 => ⟨S3x11264, .f32⟩
  | 18 => ⟨S3x11264, .f32⟩
  | 19 => ⟨S_, .f32⟩
  | 20 => ⟨S258x11264, .f32⟩
  | 21 => ⟨S258x11264, .f32⟩
  | 22 => ⟨S256x11264, .f32⟩
  | 23 => ⟨S_, .f32⟩
  | 24 => ⟨S11264, .f32⟩
  | 25 => ⟨S1x11264, .f32⟩
  | 26 => ⟨S256x11264, .f32⟩
  | 27 => ⟨S256x11264, .f32⟩
  | 28 => ⟨S_, .f32⟩
  | 29 => ⟨S11264, .f32⟩
  | 30 => ⟨S1x11264, .f32⟩
  | 31 => ⟨S_, .f32⟩
  | 32 => ⟨S3x11264, .f32⟩
  | 33 => ⟨S3x11264, .f32⟩
  | 34 => ⟨S_, .f32⟩
  | 35 => ⟨S258x11264, .f32⟩
  | 36 => ⟨S258x11264, .f32⟩
  | 37 => ⟨S1x11264, .f32⟩
  | 38 => ⟨S256x11264, .f32⟩
  | 39 => ⟨S1x11264, .f32⟩
  | 40 => ⟨S11264x2048, .f32⟩
  | 41 => ⟨S2048x11264, .f32⟩
  | 42 => ⟨S2048x5632, .f32⟩
  | 43 => ⟨S5632x2048, .f32⟩
  | 44 => ⟨S5632x2048, .f32⟩
  | 45 => ⟨S4096x5632, .f32⟩
  | 46 => ⟨S4096x5632, .f32⟩
  | 47 => ⟨S4096x5632, .f32⟩
  | 48 => ⟨S4096x5632, .f32⟩
  | 49 => ⟨S4096x5632, .f32⟩
  | 50 => ⟨S4096x5632, .f32⟩
  | 51 => ⟨S4096x5632, .f32⟩
  | 52 => ⟨S4096x11264, .f32⟩
  | 53 => ⟨S_, .f32⟩
  | 54 => ⟨S11264, .f32⟩
  | 55 => ⟨S1x11264, .f32⟩
  | 56 => ⟨S_, .f32⟩
  | 57 => ⟨S11264, .f32⟩
  | 58 => ⟨S11264, .f32⟩
  | 59 => ⟨S4096x11264, .f32⟩
  | 60 => ⟨S_, .f32⟩
  | 61 => ⟨S11264, .f32⟩
  | 62 => ⟨S1x11264, .f32⟩
  | 63 => ⟨S4096x11264, .f32⟩
  | 64 => ⟨S4096x11264, .f32⟩
  | 65 => ⟨S_, .f32⟩
  | 66 => ⟨S11264, .f32⟩
  | 67 => ⟨S1x11264, .f32⟩
  | 68 => ⟨S_, .f32⟩
  | 69 => ⟨S3x11264, .f32⟩
  | 70 => ⟨S3x11264, .f32⟩
  | 71 => ⟨S_, .f32⟩
  | 72 => ⟨S4098x11264, .f32⟩
  | 73 => ⟨S4096x11264, .f32⟩
  | 74 => ⟨S_, .f32⟩
  | 75 => ⟨S11264, .f32⟩
  | 76 => ⟨S1x11264, .f32⟩
  | 77 => ⟨S4096x11264, .f32⟩
  | 78 => ⟨S4096x11264, .f32⟩
  | 79 => ⟨S_, .f32⟩
  | 80 => ⟨S11264, .f32⟩
  | 81 => ⟨S1x11264, .f32⟩
  | 82 => ⟨S_, .f32⟩
  | 83 => ⟨S3x11264, .f32⟩
  | 84 => ⟨S3x11264, .f32⟩
  | 85 => ⟨S_, .f32⟩
  | 86 => ⟨S4098x11264, .f32⟩
  | 87 => ⟨S4098x11264, .f32⟩
  | 88 => ⟨S4096x11264, .f32⟩
  | 89 => ⟨S_, .f32⟩
  | 90 => ⟨S11264, .f32⟩
  | 91 => ⟨S1x11264, .f32⟩
  | 92 => ⟨S4096x11264, .f32⟩
  | 93 => ⟨S4096x11264, .f32⟩
  | 94 => ⟨S_, .f32⟩
  | 95 => ⟨S11264, .f32⟩
  | 96 => ⟨S1x11264, .f32⟩
  | 97 => ⟨S_, .f32⟩
  | 98 => ⟨S3x11264, .f32⟩
  | 99 => ⟨S3x11264, .f32⟩
  | 100 => ⟨S_, .f32⟩
  | 101 => ⟨S4098x11264, .f32⟩
  | 102 => ⟨S4098x11264, .f32⟩
  | 103 => ⟨S1x11264, .f32⟩
  | 104 => ⟨S4096x11264, .f32⟩
  | 105 => ⟨S1x11264, .f32⟩
  | 106 => ⟨S11264x2048, .f32⟩
  | 107 => ⟨S2048x11264, .f32⟩
  | 108 => ⟨S2048x11264, .f32⟩
  | 109 => ⟨S2048x11264, .bf16⟩
  | 110 => ⟨S3x2x5632, .f32⟩
  | 111 => ⟨S2x3x5632, .f32⟩
  | 112 => ⟨S2x1x5632, .f32⟩
  | 113 => ⟨S5632x2048, .bf16⟩
  | _ => ⟨S4352x2048, .f32⟩

abbrev hbmTy (i : Nat) : BufTy := match i / 128 with
  | 0 => hbmTy0_0 i
  | 1 => hbmTy0_1 i
  | _ => ⟨S4352x2048, .f32⟩

abbrev bufTy : (tb : Table) → Fin (tcTables nBuf tb) → BufTy
  | .hbm, ⟨i, _⟩ => hbmTy i
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v31_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v31_1 : Ref sig .tc := ⟨.hbm, 51, rfl⟩
abbrev main_v31_0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_v37 : Ref sig .tc := ⟨.hbm, 59, rfl⟩
abbrev main_cst_3 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_v65_2 : Ref sig .tc := ⟨.hbm, 96, rfl⟩
abbrev main_call1_cst_1 : Ref sig .tc := ⟨.hbm, 97, rfl⟩
abbrev main_call1_v6 : Ref sig .tc := ⟨.hbm, 98, rfl⟩
abbrev main_call1_v7 : Ref sig .tc := ⟨.hbm, 99, rfl⟩
abbrev main_v65_1 : Ref sig .tc := ⟨.hbm, 100, rfl⟩
abbrev main_v65_0 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v76 : Ref sig .tc := ⟨.hbm, 115, rfl⟩
abbrev main_v77 : Ref sig .tc := ⟨.hbm, 116, rfl⟩
abbrev main_cst_5 : Ref sig .tc := ⟨.hbm, 117, rfl⟩
abbrev main_v78 : Ref sig .tc := ⟨.hbm, 118, rfl⟩
abbrev main_v79 : Ref sig .tc := ⟨.hbm, 119, rfl⟩
abbrev main_cst_6 : Ref sig .tc := ⟨.hbm, 120, rfl⟩
abbrev main_v80 : Ref sig .tc := ⟨.hbm, 121, rfl⟩
abbrev main_v81 : Ref sig .tc := ⟨.hbm, 122, rfl⟩
abbrev main_cst_7 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_8 : Ref sig .tc := ⟨.hbm, 128, rfl⟩
abbrev main_v86 : Ref sig .tc := ⟨.hbm, 129, rfl⟩
abbrev main_v87 : Ref sig .tc := ⟨.hbm, 130, rfl⟩
abbrev main_cst_9 : Ref sig .tc := ⟨.hbm, 131, rfl⟩
abbrev main_v88 : Ref sig .tc := ⟨.hbm, 132, rfl⟩
abbrev main_cst_10 : Ref sig .tc := ⟨.hbm, 133, rfl⟩
abbrev main_v89 : Ref sig .tc := ⟨.hbm, 134, rfl⟩
abbrev main_v90 : Ref sig .tc := ⟨.hbm, 135, rfl⟩
abbrev main_cst_11 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_12 : Ref sig .tc := ⟨.hbm, 141, rfl⟩
abbrev main_v95 : Ref sig .tc := ⟨.hbm, 142, rfl⟩
abbrev main_v96 : Ref sig .tc := ⟨.hbm, 143, rfl⟩
abbrev main_cst_13 : Ref sig .tc := ⟨.hbm, 144, rfl⟩
abbrev main_v97 : Ref sig .tc := ⟨.hbm, 145, rfl⟩
abbrev main_v98 : Ref sig .tc := ⟨.hbm, 146, rfl⟩
abbrev main_cst_14 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_15 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_16 : Ref sig .tc := ⟨.hbm, 156, rfl⟩
abbrev main_v106 : Ref sig .tc := ⟨.hbm, 157, rfl⟩
abbrev main_v107 : Ref sig .tc := ⟨.hbm, 158, rfl⟩
abbrev main_cst_17 : Ref sig .tc := ⟨.hbm, 159, rfl⟩
abbrev main_v108 : Ref sig .tc := ⟨.hbm, 160, rfl⟩
abbrev main_v109 : Ref sig .tc := ⟨.hbm, 161, rfl⟩
abbrev main_cst_18 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_call3_v0 : Ref sig .tc := ⟨.hbm, 176, rfl⟩
abbrev main_call3_v1 : Ref sig .tc := ⟨.hbm, 177, rfl⟩
abbrev main_call3_v2 : Ref sig .tc := ⟨.hbm, 178, rfl⟩
abbrev main_v123 : Ref sig .tc := ⟨.hbm, 179, rfl⟩
abbrev main_v124 : Ref sig .tc := ⟨.hbm, 180, rfl⟩
abbrev main_cst_19 : Ref sig .tc := ⟨.hbm, 181, rfl⟩
abbrev main_v125 : Ref sig .tc := ⟨.hbm, 182, rfl⟩
abbrev main_v126 : Ref sig .tc := ⟨.hbm, 183, rfl⟩
abbrev main_cst_20 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_21 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_22 : Ref sig .tc := ⟨.hbm, 193, rfl⟩
abbrev main_v134 : Ref sig .tc := ⟨.hbm, 194, rfl⟩
abbrev main_v135 : Ref sig .tc := ⟨.hbm, 195, rfl⟩
abbrev main_cst_23 : Ref sig .tc := ⟨.hbm, 196, rfl⟩
abbrev main_v136 : Ref sig .tc := ⟨.hbm, 197, rfl⟩
abbrev main_v137 : Ref sig .tc := ⟨.hbm, 198, rfl⟩
abbrev main_cst_24 : Ref sig .tc := ⟨.hbm, 199, rfl⟩
abbrev main_v138 : Ref sig .tc := ⟨.hbm, 200, rfl⟩
abbrev main_v139 : Ref sig .tc := ⟨.hbm, 201, rfl⟩
abbrev main_cst_25 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_cst_26 : Ref sig .tc := ⟨.hbm, 207, rfl⟩
abbrev main_v144 : Ref sig .tc := ⟨.hbm, 208, rfl⟩
abbrev main_v145 : Ref sig .tc := ⟨.hbm, 209, rfl⟩
abbrev main_cst_27 : Ref sig .tc := ⟨.hbm, 210, rfl⟩
abbrev main_v146 : Ref sig .tc := ⟨.hbm, 211, rfl⟩
abbrev main_v147 : Ref sig .tc := ⟨.hbm, 212, rfl⟩
abbrev main_cst_28 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_cst_29 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_cst_30 : Ref sig .tc := ⟨.hbm, 222, rfl⟩
abbrev main_v155 : Ref sig .tc := ⟨.hbm, 223, rfl⟩
abbrev main_v156 : Ref sig .tc := ⟨.hbm, 224, rfl⟩
abbrev main_cst_31 : Ref sig .tc := ⟨.hbm, 225, rfl⟩
abbrev main_v157 : Ref sig .tc := ⟨.hbm, 226, rfl⟩
abbrev main_v158 : Ref sig .tc := ⟨.hbm, 227, rfl⟩
abbrev main_cst_32 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩

abbrev nD : Nat := 1
abbrev τ : Topo := Topo.v7x

variable {F : FTy → Type} [FloatOps F]
-- ==== Dh.lean ====
abbrev S2048x11264 : Shape := ⟨2, ![2048, 11264]⟩
abbrev S2x4352x5632 : Shape := ⟨3, ![2, 4352, 5632]⟩
abbrev S4352x2048 : Shape := ⟨2, ![4352, 2048]⟩
abbrev S1x1088x2816 : Shape := ⟨3, ![1, 1088, 2816]⟩
abbrev S1024x2816 : Shape := ⟨2, ![1024, 2816]⟩
abbrev S1088x1024 : Shape := ⟨2, ![1088, 1024]⟩
abbrev S1088x2816 : Shape := ⟨2, ![1088, 2816]⟩

abbrev nBuf : Space → Nat
  | .hbm => 5
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S2x4352x5632, .f32⟩
  | .hbm, ⟨2, _⟩ => ⟨S2x4352x5632, .bf16⟩
  | .hbm, ⟨3, _⟩ => ⟨S2048x11264, .bf16⟩
  | .hbm, ⟨4, _⟩ => ⟨S4352x2048, .f32⟩
  | .local _ .vmem, ⟨0, _⟩ => ⟨S1x1088x2816, .bf16⟩
  | .local _ .vmem, ⟨1, _⟩ => ⟨S1x1088x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1088x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S2048x11264 : Shape := ⟨2, ![2048, 11264]⟩
abbrev S2x4352x5632 : Shape := ⟨3, ![2, 4352, 5632]⟩
abbrev S_ : Shape := ⟨0, ![]⟩
abbrev S4352x2048 : Shape := ⟨2, ![4352, 2048]⟩
abbrev S4352x11264 : Shape := ⟨2, ![4352, 11264]⟩
abbrev S4352x5632 : Shape := ⟨2, ![4352, 5632]⟩
abbrev S1x4352x5632 : Shape := ⟨3, ![1, 4352, 5632]⟩

abbrev nBuf : Space → Nat
  | .hbm => 16
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2x4352x5632, .f32⟩
  | .hbm, ⟨2, _⟩ => ⟨S_, .f32⟩
  | .hbm, ⟨3, _⟩ => ⟨S4352x2048, .f32⟩
  | .hbm, ⟨4, _⟩ => ⟨S4352x11264, .f32⟩
  | .hbm, ⟨5, _⟩ => ⟨S4352x5632, .f32⟩
  | .hbm, ⟨6, _⟩ => ⟨S4352x5632, .f32⟩
  | .hbm, ⟨7, _⟩ => ⟨S1x4352x5632, .f32⟩
  | .hbm, ⟨8, _⟩ => ⟨S1x4352x5632, .f32⟩
  | .hbm, ⟨9, _⟩ => ⟨S2x4352x5632, .f32⟩
  | .hbm, ⟨10, _⟩ => ⟨S1x4352x5632, .f32⟩
  | .hbm, ⟨11, _⟩ => ⟨S4352x5632, .f32⟩
  | .hbm, ⟨12, _⟩ => ⟨S1x4352x5632, .f32⟩
  | .hbm, ⟨13, _⟩ => ⟨S4352x5632, .f32⟩
  | .hbm, ⟨14, _⟩ => ⟨S4352x11264, .f32⟩
  | .hbm, ⟨15, _⟩ => ⟨S4352x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Out.lean ====
abbrev S4352x2048 : Shape := ⟨2, ![4352, 2048]⟩
abbrev S2048x2048 : Shape := ⟨2, ![2048, 2048]⟩
abbrev S544x2048 : Shape := ⟨2, ![544, 2048]⟩
abbrev S4352x1024 : Shape := ⟨2, ![4352, 1024]⟩
abbrev S4352x512 : Shape := ⟨2, ![4352, 512]⟩
abbrev S1024x512 : Shape := ⟨2, ![1024, 512]⟩

abbrev nBuf : Space → Nat
  | .hbm => 9
  | .vmem => 16
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | .hbm, ⟨3, _⟩ => ⟨S4352x2048, .bf16⟩
  | .hbm, ⟨4, _⟩ => ⟨S2048x2048, .bf16⟩
  | .hbm, ⟨5, _⟩ => ⟨S4352x2048, .bf16⟩
  | .hbm, ⟨6, _⟩ => ⟨S4352x2048, .f32⟩
  | .hbm, ⟨7, _⟩ => ⟨S4352x2048, .f32⟩
  | .hbm, ⟨8, _⟩ => ⟨S2048x2048, .bf16⟩
  | .local _ .vmem, ⟨0, _⟩ => ⟨S544x2048, .bf16⟩
  | .local _ .vmem, ⟨1, _⟩ => ⟨S544x2048, .bf16⟩
  | .local _ .vmem, ⟨2, _⟩ => ⟨S2048x2048, .bf16⟩
  | .local _ .vmem, ⟨3, _⟩ => ⟨S544x2048, .f32⟩
  | .local _ .vmem, ⟨4, _⟩ => ⟨S544x2048, .f32⟩
  | .local _ .vmem, ⟨5, _⟩ => ⟨S544x2048, .bf16⟩
  | .local _ .vmem, ⟨6, _⟩ => ⟨S544x2048, .bf16⟩
  | .local _ .vmem, ⟨7, _⟩ => ⟨S2048x2048, .bf16⟩
  | .local _ .vmem, ⟨8, _⟩ => ⟨S544x2048, .f32⟩
  | .local _ .vmem, ⟨9, _⟩ => ⟨S544x2048, .f32⟩
  | .local _ .vmem, ⟨10, _⟩ => ⟨S4352x1024, .bf16⟩
  | .local _ .vmem, ⟨11, _⟩ => ⟨S4352x1024, .bf16⟩
  | .local _ .vmem, ⟨12, _⟩ => ⟨S4352x512, .bf16⟩
  | .local _ .vmem, ⟨13, _⟩ => ⟨S4352x512, .bf16⟩
  | .local _ .vmem, ⟨14, _⟩ => ⟨S1024x512, .bf16⟩
  | .local _ .vmem, ⟨15, _⟩ => ⟨S1024x512, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S544x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S544x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4352x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4352x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== OutRefIdeal.lean ====
abbrev S4352x2048 : Shape := ⟨2, ![4352, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | .hbm, ⟨3, _⟩ => ⟨S4352x2048, .f32⟩
  | .hbm, ⟨4, _⟩ => ⟨S2048x2048, .f32⟩
  | .hbm, ⟨5, _⟩ => ⟨S2048x2048, .f32⟩
  | .hbm, ⟨6, _⟩ => ⟨S4352x2048, .f32⟩
  | .hbm, ⟨7, _⟩ => ⟨S2048x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Inp.lean ====
abbrev S4352x2048 : Shape := ⟨2, ![4352, 2048]⟩
abbrev S2048x3840 : Shape := ⟨2, ![2048, 3840]⟩
abbrev S4352x3840 : Shape := ⟨2, ![4352, 3840]⟩
abbrev S2176x2048 : Shape := ⟨2, ![2176, 2048]⟩
abbrev S2048x256 : Shape := ⟨2, ![2048, 256]⟩
abbrev S2176x256 : Shape := ⟨2, ![2176, 256]⟩
abbrev S256x3840 : Shape := ⟨2, ![256, 3840]⟩
abbrev S256x2048 : Shape := ⟨2, ![256, 2048]⟩
abbrev S4352x1024 : Shape := ⟨2, ![4352, 1024]⟩
abbrev S4352x768 : Shape := ⟨2, ![4352, 768]⟩
abbrev S1024x768 : Shape := ⟨2, ![1024, 768]⟩

abbrev nBuf : Space → Nat
  | .hbm => 9
  | .vmem => 17
  | .smem => 0
  | _ => 0

abbrev bufTy : (tb : Table) → Fin (tcTables nBuf tb) → BufTy
  | .hbm, ⟨0, _⟩ => ⟨S4352x2048, .f32⟩
  | .hbm, ⟨1, _⟩ => ⟨S2048x3840, .f32⟩
  | .hbm, ⟨2, _⟩ => ⟨S4352x3840, .f32⟩
  | .hbm, ⟨3, _⟩ => ⟨S4352x2048, .bf16⟩
  | .hbm, ⟨4, _⟩ => ⟨S2048x3840, .bf16⟩
  | .hbm, ⟨5, _⟩ => ⟨S4352x3840, .bf16⟩
  | .hbm, ⟨6, _⟩ => ⟨S4352x3840, .f32⟩
  | .hbm, ⟨7, _⟩ => ⟨S4352x2048, .f32⟩
  | .hbm, ⟨8, _⟩ => ⟨S2048x3840, .bf16⟩
  | .local _ .vmem, ⟨0, _⟩ => ⟨S2176x2048, .bf16⟩
  | .local _ .vmem, ⟨1, _⟩ => ⟨S2176x2048, .bf16⟩
  | .local _ .vmem, ⟨2, _⟩ => ⟨S2048x256, .bf16⟩
  | .local _ .vmem, ⟨3, _⟩ => ⟨S2048x256, .bf16⟩
  | .local _ .vmem, ⟨4, _⟩ => ⟨S2176x256, .f32⟩
  | .local _ .vmem, ⟨5, _⟩ => ⟨S2176x256, .f32⟩
  | .local _ .vmem, ⟨6, _⟩ => ⟨S256x3840, .bf16⟩
  | .local _ .vmem, ⟨7, _⟩ => ⟨S256x3840, .bf16⟩
  | .local _ .vmem, ⟨8, _⟩ => ⟨S2048x3840, .bf16⟩
  | .local _ .vmem, ⟨9, _⟩ => ⟨S256x2048, .f32⟩
  | .local _ .vmem, ⟨10, _⟩ => ⟨S256x2048, .f32⟩
  | .local _ .vmem, ⟨11, _⟩ => ⟨S4352x1024, .bf16⟩
  | .local _ .vmem, ⟨12, _⟩ => ⟨S4352x1024, .bf16⟩
  | .local _ .vmem, ⟨13, _⟩ => ⟨S4352x768, .bf16⟩
  | .local _ .vmem, ⟨14, _⟩ => ⟨S4352x768, .bf16⟩
  | .local _ .vmem, ⟨15, _⟩ => ⟨S1024x768, .bf16⟩
  | .local _ .vmem, ⟨16, _⟩ => ⟨S1024x768, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨3, ![2, 15, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![17, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x3840 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x3840 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 5, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4352x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4352x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== InpRefIdeal.lean ====
abbrev S4352x2048 : Shape := ⟨2, ![4352, 2048]⟩
abbrev S2048x3840 : Shape := ⟨2, ![2048, 3840]⟩
abbrev S4352x3840 : Shape := ⟨2, ![4352, 3840]⟩
abbrev S3840x2048 : Shape := ⟨2, ![3840, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x3840, .f32⟩
  | .hbm, ⟨2, _⟩ => ⟨S4352x3840, .f32⟩
  | .hbm, ⟨3, _⟩ => ⟨S4352x3840, .f32⟩
  | .hbm, ⟨4, _⟩ => ⟨S3840x2048, .f32⟩
  | .hbm, ⟨5, _⟩ => ⟨S2048x3840, .f32⟩
  | .hbm, ⟨6, _⟩ => ⟨S4352x2048, .f32⟩
  | .hbm, ⟨7, _⟩ => ⟨S2048x3840, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Norm.lean ====
abbrev S4352x2048 : Shape := ⟨2, ![4352, 2048]⟩
abbrev S1x2048 : Shape := ⟨2, ![1, 2048]⟩
abbrev S2x6x2048 : Shape := ⟨3, ![2, 6, 2048]⟩
abbrev S256x2048 : Shape := ⟨2, ![256, 2048]⟩
abbrev S256 : Shape := ⟨1, ![256]⟩
abbrev S256x1 : Shape := ⟨2, ![256, 1]⟩
abbrev S1x1x2048 : Shape := ⟨3, ![1, 1, 2048]⟩
abbrev S2048 : Shape := ⟨1, ![2048]⟩
abbrev S2x1x2048 : Shape := ⟨3, ![2, 1, 2048]⟩
abbrev S2x3x2048 : Shape := ⟨3, ![2, 3, 2048]⟩
abbrev S2x4x2048 : Shape := ⟨3, ![2, 4, 2048]⟩
abbrev S2x2x2048 : Shape := ⟨3, ![2, 2, 2048]⟩
abbrev S2x5x2048 : Shape := ⟨3, ![2, 5, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S2x6x2048, .f32⟩
  | .hbm, ⟨3, _⟩ => ⟨S4352x2048, .f32⟩
  | .hbm, ⟨4, _⟩ => ⟨S4352x2048, .f32⟩
  | .hbm, ⟨5, _⟩ => ⟨S4352x2048, .bf16⟩
  | .hbm, ⟨6, _⟩ => ⟨S4352x2048, .f32⟩
  | .hbm, ⟨7, _⟩ => ⟨S1x2048, .f32⟩
  | .hbm, ⟨8, _⟩ => ⟨S2x6x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2x6x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S2x6x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S1x2048, .f32⟩
  | .local _ .vmem, ⟨17, _⟩ => ⟨S2x6x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x6x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2x6x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== NormRefIdeal.lean ====
abbrev S4352x2048 : Shape := ⟨2, ![4352, 2048]⟩
abbrev S1x2048 : Shape := ⟨2, ![1, 2048]⟩
abbrev S2x6x2048 : Shape := ⟨3, ![2, 6, 2048]⟩
abbrev S4096x2048 : Shape := ⟨2, ![4096, 2048]⟩
abbrev S1x6x2048 : Shape := ⟨3, ![1, 6, 2048]⟩
abbrev S6x2048 : Shape := ⟨2, ![6, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 179
  | .vmem => 0
  | .smem => 0
  | _ => 0

abbrev hbmTy0_0 (i : Nat) : BufTy := match i % 128 with
  | 0 => ⟨S4352x2048, .f32⟩
  | 1 => ⟨S1x2048, .f32⟩
  | 2 => ⟨S2x6x2048, .f32⟩
  | 3 => ⟨S4352x2048, .f32⟩
  | 4 => ⟨S4352x2048, .f32⟩
  | 5 => ⟨S4096x2048, .f32⟩
  | 6 => ⟨S1x6x2048, .f32⟩
  | 7 => ⟨S6x2048, .f32⟩
  | 8 => ⟨S4096x2048, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x2048, .f32⟩
  | 24 => ⟨S4096x2048, .f32⟩
  | 25 => ⟨S4096x2048, .f32⟩
  | 26 => ⟨S4096x2048, .f32⟩
  | 27 => ⟨S1x2048, .f32⟩
  | 28 => ⟨S2048, .f32⟩
  | 29 => ⟨S_, .f32⟩
  | 30 => ⟨S2048, .f32⟩
  | 31 => ⟨S2048, .f32⟩
  | 32 => ⟨S1x2048, .f32⟩
  | 33 => ⟨S4096x2048, .f32⟩
  | 34 => ⟨S4096x2048, .f32⟩
  | 35 => ⟨S1x2048, .f32⟩
  | 36 => ⟨S2048, .f32⟩
  | 37 => ⟨S1x2048, .f32⟩
  | 38 => ⟨S4096x2048, .f32⟩
  | 39 => ⟨S4096x2048, .f32⟩
  | 40 => ⟨S256x2048, .f32⟩
  | 41 => ⟨S1x6x2048, .f32⟩
  | 42 => ⟨S6x2048, .f32⟩
  | 43 => ⟨S256x2048, .f32⟩
  | 44 => ⟨S_, .f32⟩
  | 45 => ⟨S256, .f32⟩
  | 46 => ⟨S256x1, .f32⟩
  | 47 => ⟨S_, .f32⟩
  | 48 => ⟨S256x1, .f32⟩
  | 49 => ⟨S256x1, .f32⟩
  | 50 => ⟨S_, .f32⟩
  | 51 => ⟨S256x1, .f32⟩
  | 52 => ⟨S256x1, .f32⟩
  | 53 => ⟨S256x1, .f32⟩
  | 54 => ⟨S256x1, .f32⟩
  | 55 => ⟨S_, .f32⟩
  | 56 => ⟨S256x1, .f32⟩
  | 57 => ⟨S256x1, .f32⟩
  | 58 => ⟨S256x2048, .f32⟩
  | 59 => ⟨S256x2048, .f32⟩
  | 60 => ⟨S256x2048, .f32⟩
  | 61 => ⟨S256x2048, .f32⟩
  | 62 => ⟨S1x2048, .f32⟩
  | 63 => ⟨S2048, .f32⟩
  | 64 => ⟨S_, .f32⟩
  | 65 => ⟨S2048, .f32⟩
  | 66 => ⟨S2048, .f32⟩
  | 67 => ⟨S1x2048, .f32⟩
  | 68 => ⟨S256x2048, .f32⟩
  | 69 => ⟨S256x2048, .f32⟩
  | 70 => ⟨S1x2048, .f32⟩
  | 71 => ⟨S2048, .f32⟩
  | 72 => ⟨S1x2048, .f32⟩
  | 73 => ⟨S256x2048, .f32⟩
  | 74 => ⟨S256x2048, .f32⟩
  | 75 => ⟨S4352x2048, .f32⟩
  | 76 => ⟨S4096x2048, .f32⟩
  | 77 => ⟨S256x2048, .f32⟩
  | 78 => ⟨S_, .f32⟩
  | 79 => ⟨S2048, .f32⟩
  | 80 => ⟨S1x2048, .f32⟩
  | 81 => ⟨S_, .f32⟩
  | 82 => ⟨S2048, .f32⟩
  | 83 => ⟨S1x2048, .f32⟩
  | 84 => ⟨S_, .f32⟩
  | 85 => ⟨S6x2048, .f32⟩
  | 86 => ⟨S256x2048, .f32⟩
  | 87 => ⟨S_, .f32⟩
  | 88 => ⟨S2048, .f32⟩
  | 89 => ⟨S1x2048, .f32⟩
  | 90 => ⟨S256x2048, .f32⟩
  | 91 => ⟨S256x2048, .f32⟩
  | 92 => ⟨S_, .f32⟩
  | 93 => ⟨S2048, .f32⟩
  | 94 => ⟨S1x2048, .f32⟩
  | 95 => ⟨S_, .f32⟩
  | 96 => ⟨S6x2048, .f32⟩
  | 97 => ⟨S6x2048, .f32⟩
  | 98 => ⟨S256x2048, .f32⟩
  | 99 => ⟨S_, .f32⟩
  | 100 => ⟨S2048, .f32⟩
  | 101 => ⟨S1x2048, .f32⟩
  | 102 => ⟨S256x2048, .f32⟩
  | 103 => ⟨S256x2048, .f32⟩
  | 104 => ⟨S256x2048, .f32⟩
  | 105 => ⟨S_, .f32⟩
  | 106 => ⟨S256, .f32⟩
  | 107 => ⟨S256x1, .f32⟩
  | 108 => ⟨S256x2048, .f32⟩
  | 109 => ⟨S256x2048, .f32⟩
  | 110 => ⟨S256x1, .f32⟩
  | 111 => ⟨S_, .f32⟩
  | 112 => ⟨S256x1, .f32⟩
  | 113 => ⟨S256x1, .f32⟩
  | 114 => ⟨S_, .f32⟩
  | 115 => ⟨S256, .f32⟩
  | 116 => ⟨S256x2048, .f32⟩
  | 117 => ⟨S256x2048, .f32⟩
  | 118 => ⟨S256x2048, .f32⟩
  | 119 => ⟨S256x2048, .f32⟩
  | 120 => ⟨S256x2048, .f32⟩
  | 121 => ⟨S1x6x2048, .f32⟩
  | 122 => ⟨S_, .f32⟩
  | 123 => ⟨S2x6x2048, .f32⟩
  | 124 => ⟨S_, .f32⟩
  | 125 => ⟨S4352x2048, .f32⟩
  | 126 => ⟨S_, .f32⟩
  | 127 => ⟨S2048, .f32⟩
  | _ => ⟨S4352x2048, .f32⟩

abbrev hbmTy0_1 (i : Nat) : BufTy := match i % 128 with
  | 0 => ⟨S1x2048, .f32⟩
  | 1 => ⟨S_, .f32⟩
  | 2 => ⟨S2048, .f32⟩
  | 3 => ⟨S1x2048, .f32⟩
  | 4 => ⟨S_, .f32⟩
  | 5 => ⟨S6x2048, .f32⟩
  | 6 => ⟨S4096x2048, .f32⟩
  | 7 => ⟨S_, .f32⟩
  | 8 => ⟨S2048, .f32⟩
  | 9 => ⟨S1x2048, .f32⟩
  | 10 => ⟨S4096x2048, .f32⟩
  | 11 => ⟨S4096x2048, .f32⟩
  | 12 => ⟨S_, .f32⟩
  | 13 => ⟨S2048, .f32⟩
  | 14 => ⟨S1x2048, .f32⟩
  | 15 => ⟨S_, .f32⟩
  | 16 => ⟨S6x2048, .f32⟩
  | 17 => ⟨S6x2048, .f32⟩
  | 18 => ⟨S4096x2048, .f32⟩
  | 19 => ⟨S_, .f32⟩
  | 20 => ⟨S2048, .f32⟩
  | 21 => ⟨S1x2048, .f32⟩
  | 22 => ⟨S1x2048, .f32⟩
  | 23 => ⟨S4096x2048, .f32⟩
  | 24 => ⟨S4096x2048, .f32⟩
  | 25 => ⟨S4096x2048, .f32⟩
  | 26 => ⟨S_, .f32⟩
  | 27 => ⟨S4096, .f32⟩
  | 28 => ⟨S4096x1, .f32⟩
  | 29 => ⟨S4096x2048, .f32⟩
  | 30 => ⟨S4096x2048, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096, .f32⟩
  | 37 => ⟨S4096x2048, .f32⟩
  | 38 => ⟨S4096x2048, .f32⟩
  | 39 => ⟨S4096x2048, .f32⟩
  | 40 => ⟨S4096x2048, .f32⟩
  | 41 => ⟨S4096x2048, .f32⟩
  | 42 => ⟨S1x6x2048, .f32⟩
  | 43 => ⟨S_, .f32⟩
  | 44 => ⟨S2x6x2048, .f32⟩
  | 45 => ⟨S2x6x2048, .f32⟩
  | 46 => ⟨S_, .f32⟩
  | 47 => ⟨S4352x2048, .f32⟩
  | 48 => ⟨S4352x2048, .f32⟩
  | 49 => ⟨S4352x2048, .bf16⟩
  | 50 => ⟨S4352x2048, .f32⟩
  | _ => ⟨S4352x2048, .f32⟩

abbrev hbmTy (i : Nat) : BufTy := match i / 128 with
  | 0 => hbmTy0_0 i
  | 1 => hbmTy0_1 i
  | _ => ⟨S4352x2048, .f32⟩

abbrev bufTy : (tb : Table) → Fin (tcTables nBuf tb) → BufTy
  | .hbm, ⟨i, _⟩ => hbmTy i
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_cst_14 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_15 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_16 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_17 : Ref sig .tc := ⟨.hbm, 111, rfl⟩
abbrev main_v88 : Ref sig .tc := ⟨.hbm, 112, rfl⟩
abbrev main_v89 : Ref sig .tc := ⟨.hbm, 113, rfl⟩
abbrev main_cst_18 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_19 : Ref sig .tc := ⟨.hbm, 122, rfl⟩
abbrev main_v97 : Ref sig .tc := ⟨.hbm, 123, rfl⟩
abbrev main_cst_20 : Ref sig .tc := ⟨.hbm, 124, rfl⟩
abbrev main_v98 : Ref sig .tc := ⟨.hbm, 125, rfl⟩
abbrev main_cst_21 : Ref sig .tc := ⟨.hbm, 126, rfl⟩
abbrev main_v99 : Ref sig .tc := ⟨.hbm, 127, rfl⟩
abbrev main_v100 : Ref sig .tc := ⟨.hbm, 128, rfl⟩
abbrev main_cst_22 : Ref sig .tc := ⟨.hbm, 129, rfl⟩
abbrev main_v101 : Ref sig .tc := ⟨.hbm, 130, rfl⟩
abbrev main_v102 : Ref sig .tc := ⟨.hbm, 131, rfl⟩
abbrev main_cst_23 : Ref sig .tc := ⟨.hbm, 132, rfl⟩
abbrev main_v103 : Ref sig .tc := ⟨.hbm, 133, rfl⟩
abbrev main_v104 : Ref sig .tc := ⟨.hbm, 134, rfl⟩
abbrev main_cst_24 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_25 : Ref sig .tc := ⟨.hbm, 140, rfl⟩
abbrev main_v109 : Ref sig .tc := ⟨.hbm, 141, rfl⟩
abbrev main_v110 : Ref sig .tc := ⟨.hbm, 142, rfl⟩
abbrev main_cst_26 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_27 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_28 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_29 : Ref sig .tc := ⟨.hbm, 160, rfl⟩
abbrev main_v125 : Ref sig .tc := ⟨.hbm, 161, rfl⟩
abbrev main_v126 : Ref sig .tc := ⟨.hbm, 162, rfl⟩
abbrev main_cst_30 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_31 : Ref sig .tc := ⟨.hbm, 171, rfl⟩
abbrev main_v134 : Ref sig .tc := ⟨.hbm, 172, rfl⟩
abbrev main_v135 : Ref sig .tc := ⟨.hbm, 173, rfl⟩
abbrev main_cst_32 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩

abbrev nD : Nat := 1
abbrev τ : Topo := Topo.v7x

variable {F : FTy → Type} [FloatOps F]
-- ==== Proof.Softmax.lean ====
/-
  The mathematics of one row of softmax attention over the reals, and how the extended-real operations read on it.
  A row has scores `s`, some of whose keys are visible (`vis`); the weight of a key is `sm s vis`.
-/
module

public import Idealize.ShloMosaic.PureOps.Ideal.Laws
public import Idealize.ShloMosaic.Lib.IdealHost

@[expose] public section

noncomputable section

namespace Cert.Mla

open Idealize.ShloMosaic
open scoped BigOperators

/-- A sum of reals, read in the extended reals. -/
theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- A sum of products of reals, read in the extended reals. -/
theorem coe_dot {ι : Type} (t : Finset ι) (f g : ι → ℝ) :
    ∑ i ∈ t, (f i : EReal) * (g i : EReal) = ((∑ i ∈ t, f i * g i : ℝ) : EReal) := by
  rw [← coe_sum]; exact Finset.sum_congr rfl fun i _ => (EReal.coe_mul _ _).symm

/-- The pattern of minus infinity. -/
theorem ofBits_neg_inf : Ideal.ofBits .f32 0xFF800000#32 = ⊥ := by simp [Ideal.ofBits, Ideal.ieee]

/-- The pattern of infinity. -/
theorem ofBits_inf : Ideal.ofBits .f32 0x7F800000#32 = ⊤ := by simp [Ideal.ofBits, Ideal.ieee]

/-- Lane `d` of head `h` among 4 heads of `n` lanes. -/
def hl {n : ℕ} (h : Fin 4) (d : Fin n) : Fin (4 * n) :=
  ⟨h.val * n + d.val, by have := h.isLt; have := d.isLt; nlinarith⟩

theorem hl_val {n : ℕ} (h : Fin 4) (d : Fin n) : (hl h d).val = h.val * n + d.val := rfl

/-- Head of lane `j` of an array of four heads of `n` lanes, -/
def hdOf {n : ℕ} (j : Fin (4 * n)) : Fin 4 := ⟨j.val / n, by have := j.isLt; exact Nat.div_lt_of_lt_mul (by omega)⟩
/-- and its lane within the head. -/
def lnOf {n : ℕ} (j : Fin (4 * n)) : Fin n := ⟨j.val % n, Nat.mod_lt _ (by have := j.isLt; rcases n with _ | n <;> omega)⟩

theorem hl_div {n : ℕ} (h : Fin 4) (d : Fin n) : (hl h d).val / n = h.val := by
  simp only [hl]
  rw [Nat.mul_comm, Nat.mul_add_div (by have := d.isLt; omega), Nat.div_eq_of_lt d.isLt, Nat.add_zero]
theorem hl_mod {n : ℕ} (h : Fin 4) (d : Fin n) : (hl h d).val % n = d.val := by
  simp only [hl]
  rw [Nat.mul_comm, Nat.mul_add_mod, Nat.mod_eq_of_lt d.isLt]
theorem hdOf_hl {n : ℕ} (h : Fin 4) (d : Fin n) : hdOf (hl h d) = h := Fin.ext (hl_div h d)
theorem lnOf_hl {n : ℕ} (h : Fin 4) (d : Fin n) : lnOf (hl h d) = d := Fin.ext (hl_mod h d)
theorem hl_hdOf {n : ℕ} (j : Fin (4 * n)) : hl (hdOf j) (lnOf j) = j := by
  apply Fin.ext
  simp only [hdOf, lnOf, hl]
  exact Nat.div_add_mod' _ _

/-- The score scale as a real. -/
def scale : ℝ := (2 ^ 23 + 1297722 : ℕ) * (2 : ℝ) ^ (-27 : ℤ)

/-- The pattern of the score scale denotes `scale`. -/
theorem ofBits_scale : Ideal.ofBits .f32 0x3D93CD3A#32 = (scale : EReal) := by
  simp [Ideal.ofBits, Ideal.ieee, scale, -EReal.coe_mul, -EReal.coe_add]

/-- The maximum of a row that holds no infinity, and one real at least, is a real. -/
theorem fold_max_real {n : ℕ} (x : Fin n → EReal) (htop : ∀ k, x k ≠ ⊤) (k0 : Fin n) (h0 : x k0 ≠ ⊥) :
    ∃ m : ℝ, Finset.univ.fold max ⊥ x = (m : EReal) := by
  have e : Finset.univ.fold max ⊥ x = Finset.univ.sup x := rfl
  rw [e]
  have ht : Finset.univ.sup x ≠ ⊤ :=
    ne_of_lt ((Finset.sup_lt_iff bot_lt_top).mpr fun k _ => lt_top_iff_ne_top.mpr (htop k))
  have hb : Finset.univ.sup x ≠ ⊥ := fun h => h0 (le_bot_iff.mp (h ▸ Finset.le_sup (f := x) (Finset.mem_univ k0)))
  exact ⟨_, (EReal.coe_toReal ht hb).symm⟩

/-- The softmax weight of key `k` among the visible keys of a row of scores. -/
def sm {n : ℕ} (s : Fin n → ℝ) (vis : Fin n → Prop) [DecidablePred vis] (k : Fin n) : ℝ :=
  (if vis k then Real.exp (s k) else 0) / ∑ j, if vis j then Real.exp (s j) else 0

section row
variable {n : ℕ} (s : Fin n → ℝ) (vis : Fin n → Prop) [DecidablePred vis]

theorem sum_exp_pos (k0 : Fin n) (h0 : vis k0) (m : ℝ) : 0 < ∑ j, if vis j then Real.exp (s j - m) else 0 :=
  Finset.sum_pos' (fun j _ => by split <;> positivity) ⟨k0, Finset.mem_univ _, by rw [if_pos h0]; positivity⟩

/-- The weights do not change when a number is taken off every score. -/
theorem sm_shift (m : ℝ) (k : Fin n) :
    (if vis k then Real.exp (s k - m) else 0) / (∑ j, if vis j then Real.exp (s j - m) else 0) = sm s vis k := by
  unfold sm
  have h : ∀ j, (if vis j then Real.exp (s j - m) else 0) = (if vis j then Real.exp (s j) else 0) * Real.exp (-m) :=
    fun j => by split <;> simp [sub_eq_add_neg, Real.exp_add]
  simp only [h, ← Finset.sum_mul]
  exact mul_div_mul_right _ _ (Real.exp_pos _).ne'

/-- A row of scores with minus infinity at the hidden keys: taking off the saved logarithm of the row's sum
    of exponentials and exponentiating gives the softmax weights. -/
theorem exp_sub_lse (x : Fin n → EReal) (hx : ∀ k, x k = if vis k then (s k : EReal) else ⊥) (k0 : Fin n) (h0 : vis k0)
    (k : Fin n) :
    Ideal.exp (x k - (Finset.univ.fold max ⊥ x + Ideal.log (∑ j, Ideal.exp (x j - Finset.univ.fold max ⊥ x))))
      = (sm s vis k : EReal) := by
  obtain ⟨m, hm⟩ := fold_max_real x (fun k => by rw [hx]; split <;> simp) k0 (by rw [hx, if_pos h0]; simp)
  rw [hm]
  have he : ∀ (c : ℝ) (j : Fin n), Ideal.exp (x j - (c : EReal)) = ((if vis j then Real.exp (s j - c) else 0 : ℝ) : EReal) := by
    intro c j
    rw [hx]
    by_cases h : vis j
    · rw [if_pos h, if_pos h, ← EReal.coe_sub, Ideal.exp_coe]
    · rw [if_neg h, if_neg h, EReal.bot_sub, Ideal.exp_bot, EReal.coe_zero]
  have hpos := sum_exp_pos s vis k0 h0 m
  rw [Finset.sum_congr rfl fun j _ => he m j, coe_sum, Ideal.log_coe, if_neg (not_le.mpr hpos), ← EReal.coe_add, he,
    ← sm_shift s vis m k]
  congr 1
  by_cases h : vis k
  · rw [if_pos h, if_pos h, ← sub_sub, Real.exp_sub, Real.exp_log hpos]
  · rw [if_neg h, if_neg h, zero_div]

/-- The weights as the forward kernel computes them: exponentials of the scores less their largest, times the
    reciprocal of their sum. -/
theorem exp_mul_inv (x : Fin n → EReal) (hx : ∀ k, x k = if vis k then (s k : EReal) else ⊥) (k0 : Fin n) (h0 : vis k0)
    (k : Fin n) :
    Ideal.exp (x k - Finset.univ.fold max ⊥ x) * Ideal.div 1 (∑ j, Ideal.exp (x j - Finset.univ.fold max ⊥ x))
      = (sm s vis k : EReal) := by
  obtain ⟨m, hm⟩ := fold_max_real x (fun k => by rw [hx]; split <;> simp) k0 (by rw [hx, if_pos h0]; simp)
  rw [hm]
  have he : ∀ j : Fin n, Ideal.exp (x j - (m : EReal)) = ((if vis j then Real.exp (s j - m) else 0 : ℝ) : EReal) := by
    intro j
    rw [hx]
    by_cases h : vis j
    · rw [if_pos h, if_pos h, ← EReal.coe_sub, Ideal.exp_coe]
    · rw [if_neg h, if_neg h, EReal.bot_sub, Ideal.exp_bot, EReal.coe_zero]
  have hpos := sum_exp_pos s vis k0 h0 m
  rw [Finset.sum_congr rfl fun j _ => he j, coe_sum, he, Ideal.div_coe hpos.ne', one_mul, ← EReal.coe_mul,
    ← sm_shift s vis m k, mul_one_div]

end row

end Cert.Mla

end
-- ==== Proof.Spec.lean ====
/-
  The attention and its gradient over the reals: `a0` … `a5` are the six arguments as real arrays (queries and keys in a
  part without and a part with position, values, and the gradient of the result).  Rows and keys below 4096 are latent;
  a latent row sees every key, a context row the context keys.
-/
module

public import Idealize.ShloMosaic.Lib.Pointwise
public import proofs.«01_k».proof.Proof.Softmax

@[expose] public section

noncomputable section

namespace Cert.Mla

/-- The array's row of latent row `i`, -/
def latE (i : Fin 4096) : Fin 4352 := ⟨i.val, by omega⟩
/-- and of context row `i`. -/
def ctxE (i : Fin 256) : Fin 4352 := ⟨4096 + i.val, by omega⟩

theorem row_cases (k : Fin 4352) : (∃ i, k = latE i) ∨ ∃ i, k = ctxE i := by
  by_cases h : k.val < 4096
  · exact .inl ⟨⟨k.val, h⟩, rfl⟩
  · exact .inr ⟨⟨k.val - 4096, by omega⟩, Fin.ext (by simp only [ctxE]; omega)⟩

/-- A sum over all rows is the sum over the latent rows and the sum over the context rows. -/
theorem sum_rows {M : Type} [AddCommMonoid M] (f : Fin 4352 → M) : ∑ i, f i = ∑ i, f (latE i) + ∑ i, f (ctxE i) :=
  Fin.sum_univ_add (a := 4096) (b := 256) f

/-- Whether row `i` sees key `k`. -/
def vis (i k : Fin 4352) : Prop := i.val < 4096 ∨ 4096 ≤ k.val

instance (i : Fin 4352) : DecidablePred (vis i) := fun k => by unfold vis; infer_instance

theorem vis_lat (i : Fin 4096) (k : Fin 4352) : vis (latE i) k := .inl i.isLt
theorem vis_ctx (i k : Fin 256) : vis (ctxE i) (ctxE k) := .inr (Nat.le_add_right _ _)
theorem not_vis (i : Fin 256) (k : Fin 4096) : ¬vis (ctxE i) (latE k) := by
  simp only [vis, ctxE, latE]; omega
theorem vis_self (i : Fin 4352) : vis i i := by unfold vis; omega

structure Args where
  a0 : Fin 4352 → Fin 512 → ℝ
  a1 : Fin 4352 → Fin 256 → ℝ
  a2 : Fin 4352 → Fin 512 → ℝ
  a3 : Fin 4352 → Fin 64 → ℝ
  a4 : Fin 4352 → Fin 512 → ℝ
  a5 : Fin 4352 → Fin 512 → ℝ

namespace Args
variable (A : Args)

/-- The score of key `k` for row `i` in head `h`, -/
def s (h : Fin 4) (i k : Fin 4352) : ℝ :=
  ((∑ d : Fin 128, A.a0 i (hl h d) * A.a2 k (hl h d)) + ∑ d : Fin 64, A.a1 i (hl h d) * A.a3 k d) * scale
/-- its softmax weight, -/
def w (h : Fin 4) (i k : Fin 4352) : ℝ := sm (A.s h i) (vis i) k
/-- the gradient of the weight, -/
def dp (h : Fin 4) (i k : Fin 4352) : ℝ := ∑ d : Fin 128, A.a5 i (hl h d) * A.a4 k (hl h d)
/-- and of the score before its scaling. -/
def ds (h : Fin 4) (i k : Fin 4352) : ℝ := A.w h i k * (A.dp h i k - ∑ j, A.dp h i j * A.w h i j) * scale

/-- A row of queries in one head, padded to 256 lanes, -/
def q (h : Fin 4) (i : Fin 4352) (d : Fin 256) : ℝ :=
  if h1 : d.val < 128 then A.a0 i (hl h (⟨d.val, h1⟩ : Fin 128))
  else if h2 : d.val - 128 < 64 then A.a1 i (hl h (⟨d.val - 128, h2⟩ : Fin 64)) else 0
/-- and of keys. -/
def k (h : Fin 4) (i : Fin 4352) (d : Fin 256) : ℝ :=
  if h1 : d.val < 128 then A.a2 i (hl h (⟨d.val, h1⟩ : Fin 128))
  else if h2 : d.val - 128 < 64 then A.a3 i ⟨d.val - 128, h2⟩ else 0

/-- The attention's result, -/
def o (h : Fin 4) (i : Fin 4352) (d : Fin 128) : ℝ := ∑ k, A.w h i k * A.a4 k (hl h d)
/-- the gradient of the queries, -/
def dq (h : Fin 4) (i : Fin 4352) (d : Fin 256) : ℝ := ∑ k, A.ds h i k * A.k h k d
/-- of the keys, -/
def dk (h : Fin 4) (k : Fin 4352) (d : Fin 256) : ℝ := ∑ i, A.ds h i k * A.q h i d
/-- and of the values. -/
def dv (h : Fin 4) (k : Fin 4352) (d : Fin 128) : ℝ := ∑ i, A.w h i k * A.a5 i (hl h d)

theorem sum_lanes (f : Fin 256 → ℝ) : ∑ d, f d = (∑ d : Fin 128, f ⟨d.val, by omega⟩)
    + ((∑ d : Fin 64, f ⟨128 + d.val, by omega⟩) + ∑ d : Fin 64, f ⟨192 + d.val, by omega⟩) := by
  refine (Fin.sum_univ_add (a := 128) (b := 128) f).trans (congrArg₂ (· + ·) rfl ?_)
  refine (Fin.sum_univ_add (a := 64) (b := 64) (fun d : Fin 128 => f (Fin.natAdd 128 d))).trans (congrArg₂ (· + ·) rfl ?_)
  refine Finset.sum_congr rfl fun d _ => congrArg f (Fin.ext ?_)
  simp only [Fin.natAdd]
  omega

/-- The score is the product of the padded rows. -/
theorem s_eq (h : Fin 4) (i j : Fin 4352) : A.s h i j = (∑ d, A.q h i d * A.k h j d) * scale := by
  unfold s
  rw [sum_lanes]
  congr 1
  refine congrArg₂ (· + ·) (Finset.sum_congr rfl fun d _ => ?_) ?_
  · simp only [q, k, d.isLt, dite_true]
  · refine Eq.symm (Eq.trans (congrArg₂ (· + ·) (Finset.sum_congr rfl fun d _ => ?_) (Finset.sum_eq_zero fun d _ => ?_)) (add_zero _))
    · have h1 : ¬128 + d.val < 128 := by omega
      have h2 : 128 + d.val - 128 < 64 := by omega
      have h3 : (⟨128 + d.val - 128, h2⟩ : Fin 64) = d := Fin.ext (by simp only []; omega)
      simp only [q, k, h1, h2, h3, dite_true, dite_false]
    · have h1 : ¬192 + d.val < 128 := by omega
      have h2 : ¬192 + d.val - 128 < 64 := by omega
      simp only [q, k, h1, h2, dite_false, mul_zero]

theorem w_lat (h : Fin 4) (i : Fin 4096) (k : Fin 4352) : A.w h (latE i) k = sm (A.s h (latE i)) (fun _ => True) k := by
  simp only [w, sm, vis_lat, if_true]

theorem w_ctx (h : Fin 4) (i k : Fin 256) :
    A.w h (ctxE i) (ctxE k) = sm (fun k => A.s h (ctxE i) (ctxE k)) (fun _ => True) k := by
  unfold w sm
  rw [sum_rows]
  simp only [vis_ctx, not_vis, if_true, if_false, Finset.sum_const_zero, zero_add]

theorem w_hidden (h : Fin 4) (i : Fin 256) (k : Fin 4096) : A.w h (ctxE i) (latE k) = 0 := by
  simp only [w, sm, not_vis, if_false, zero_div]

theorem ds_lat (h : Fin 4) (i : Fin 4096) (k : Fin 4352) :
    A.ds h (latE i) k = sm (A.s h (latE i)) (fun _ => True) k
      * (A.dp h (latE i) k - ∑ j, A.dp h (latE i) j * sm (A.s h (latE i)) (fun _ => True) j) * scale := by
  simp only [ds, w_lat]

theorem ds_ctx (h : Fin 4) (i k : Fin 256) :
    A.ds h (ctxE i) (ctxE k) = sm (fun k => A.s h (ctxE i) (ctxE k)) (fun _ => True) k
      * (A.dp h (ctxE i) (ctxE k) - ∑ j, A.dp h (ctxE i) (ctxE j) * sm (fun k => A.s h (ctxE i) (ctxE k)) (fun _ => True) j) * scale := by
  unfold ds
  rw [sum_rows]
  simp only [w_ctx, w_hidden, mul_zero, Finset.sum_const_zero, zero_add]

theorem ds_hidden (h : Fin 4) (i : Fin 256) (k : Fin 4096) : A.ds h (ctxE i) (latE k) = 0 := by
  simp only [ds, w_hidden, zero_mul]

end Args

open Idealize.ShloMosaic

/-- The six arrays are the real arrays of `A`. -/
structure Args.Of (A : Args) (x0 : (⟨2, ![4352, 512]⟩ : Shape).Idx → EReal)
    (x1 : (⟨2, ![4352, 256]⟩ : Shape).Idx → EReal) (x2 : (⟨2, ![4352, 512]⟩ : Shape).Idx → EReal)
    (x3 : (⟨2, ![4352, 64]⟩ : Shape).Idx → EReal) (x4 x5 : (⟨2, ![4352, 512]⟩ : Shape).Idx → EReal) : Prop where
  e0 : ∀ i j, x0 (ix2 i j) = (A.a0 i j : EReal)
  e1 : ∀ i j, x1 (ix2 i j) = (A.a1 i j : EReal)
  e2 : ∀ i j, x2 (ix2 i j) = (A.a2 i j : EReal)
  e3 : ∀ i j, x3 (ix2 i j) = (A.a3 i j : EReal)
  e4 : ∀ i j, x4 (ix2 i j) = (A.a4 i j : EReal)
  e5 : ∀ i j, x5 (ix2 i j) = (A.a5 i j : EReal)

end Cert.Mla

end
-- ==== Proof.Run.lean ====
/-
  The kernel's run with its results: what the four result arrays hold when `main` has ended, beside the arguments
  as launched. The launch is the one of the frame; only what is read off the last boundary's contents differs.
-/
module

public import proofs.«01_k».proof.Proof.Gen.KernelIdeal.Frame

@[expose] public section

set_option maxRecDepth 16384

noncomputable section

namespace Cert.Mla.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of `main` ends, and leaves the results at what the two regions' write-backs leave and the
    arguments as launched. -/
theorem run : θ_run defs (onTc (τ := τ) (main (F := F))) ⟨m, fun _ => 0, ρ⟩ (fun r => ∀ c : Dev nD,
      r.2.mem ((c.tc : Thread nD τ).loc main_v19_0) = (dat1 (V2 m ρ) c).arrAt 5 cfg1.N
      ∧ r.2.mem ((c.tc : Thread nD τ).loc main_v19_1) = (dat1 (V2 m ρ) c).arrAt 6 cfg1.N
      ∧ r.2.mem ((c.tc : Thread nD τ).loc main_v19_2) = (dat1 (V2 m ρ) c).arrAt 7 cfg1.N
      ∧ r.2.mem ((c.tc : Thread nD τ).loc main_v18_0) = (dat0 (V1 m ρ) c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v19_0 (by decide))).trans (W3_arr m ρ c 5),
       (h c _ (mem_uc main_v19_1 (by decide))).trans (W3_arr m ρ c 6),
       (h c _ (mem_uc main_v19_2 (by decide))).trans (W3_arr m ρ c 7),
       (h c _ (mem_uc main_v18_0 (by decide))).trans ((W3_of m ρ c main_v18_0 (by decide)).trans (W2_arr m ρ c 3)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.Mla.Ker

end
-- ==== Proof.Entry.lean ====
/-
  The arrays the host prepares for the two kernels, read at an entry: per head the query and the key are 128 lanes
  without position, 64 lanes with it, and 64 lanes of zero.
-/
module

public import Idealize.ShloMosaic.Lib.Pipeline.ValueKit
public import Idealize.ShloMosaic.Lib.Pointwise
public import Idealize.ShloMosaic.Lib.Claim
public import proofs.«01_k».proof.Proof.Softmax
public import proofs.«01_k».proof.Proof.Gen.KernelIdeal.Frame

@[expose] public section

set_option maxRecDepth 16384

noncomputable section

namespace Cert.Mla.Ker

open Idealize.ShloMosaic Idealize.ShloMosaic.TcCoe Idealize.SL.Sem
open Cert.KernelIdeal Cert.KernelIdeal.Gen

section term
variable {F : FTy → Type} [FloatOps F]

/-- The query array of the two kernels, from the arguments. -/
def aqT (x0 : (⟨S4352x512, .f32⟩ : BufTy).Contents (Elt F)) (x1 : (⟨S4352x256, .f32⟩ : BufTy).Contents (Elt F)) :
    (⟨S4352x1024, .bf16⟩ : BufTy).Contents (Elt F) :=
  truncf .bf16 (concatenate S4352x1024 1 [
      ⟨S4352x128, (extractStridedSlice S4352x128 ![0, 0] x0 slices_S4352x512_S4352x128_0_0 : (⟨S4352x128, .f32⟩ : BufTy).Contents (Elt F))⟩, ⟨S4352x64, (extractStridedSlice S4352x64 ![0, 0] x1 slices_S4352x256_S4352x64_0_0 : (⟨S4352x64, .f32⟩ : BufTy).Contents (Elt F))⟩,
        ⟨S4352x64, (broadcastInDim S4352x64 ![] bcast_S_S4352x64 (constant S_ .f32 0x00000000#32) : (⟨S4352x64, .f32⟩ : BufTy).Contents (Elt F))⟩,
      ⟨S4352x128, (extractStridedSlice S4352x128 ![0, 128] x0 slices_S4352x512_S4352x128_0_128 : (⟨S4352x128, .f32⟩ : BufTy).Contents (Elt F))⟩, ⟨S4352x64, (extractStridedSlice S4352x64 ![0, 64] x1 slices_S4352x256_S4352x64_0_64 : (⟨S4352x64, .f32⟩ : BufTy).Contents (Elt F))⟩,
        ⟨S4352x64, (broadcastInDim S4352x64 ![] bcast_S_S4352x64 (constant S_ .f32 0x00000000#32) : (⟨S4352x64, .f32⟩ : BufTy).Contents (Elt F))⟩,
      ⟨S4352x128, (extractStridedSlice S4352x128 ![0, 256] x0 slices_S4352x512_S4352x128_0_256 : (⟨S4352x128, .f32⟩ : BufTy).Contents (Elt F))⟩, ⟨S4352x64, (extractStridedSlice S4352x64 ![0, 128] x1 slices_S4352x256_S4352x64_0_128 : (⟨S4352x64, .f32⟩ : BufTy).Contents (Elt F))⟩,
        ⟨S4352x64, (broadcastInDim S4352x64 ![] bcast_S_S4352x64 (constant S_ .f32 0x00000000#32) : (⟨S4352x64, .f32⟩ : BufTy).Contents (Elt F))⟩,
      ⟨S4352x128, (extractStridedSlice S4352x128 ![0, 384] x0 slices_S4352x512_S4352x128_0_384 : (⟨S4352x128, .f32⟩ : BufTy).Contents (Elt F))⟩, ⟨S4352x64, (extractStridedSlice S4352x64 ![0, 192] x1 slices_S4352x256_S4352x64_0_192 : (⟨S4352x64, .f32⟩ : BufTy).Contents (Elt F))⟩,
        ⟨S4352x64, (broadcastInDim S4352x64 ![] bcast_S_S4352x64 (constant S_ .f32 0x00000000#32) : (⟨S4352x64, .f32⟩ : BufTy).Contents (Elt F))⟩]
    concatenates_S4352x128_S4352x64_S4352x64_S4352x128_S4352x64_S4352x64_S4352x128_S4352x64_S4352x64_S4352x128_S4352x64_S4352x64_S4352x1024_d1 : (⟨S4352x1024, .f32⟩ : BufTy).Contents (Elt F)) bitsLt_bf16_f32

/-- The key array of the two kernels, from the arguments. -/
def akT (x2 : (⟨S4352x512, .f32⟩ : BufTy).Contents (Elt F)) (x3 : (⟨S4352x64, .f32⟩ : BufTy).Contents (Elt F)) :
    (⟨S4352x1024, .bf16⟩ : BufTy).Contents (Elt F) :=
  truncf .bf16 (concatenate S4352x1024 1 [
      ⟨S4352x128, (extractStridedSlice S4352x128 ![0, 0] x2 slices_S4352x512_S4352x128_0_0 : (⟨S4352x128, .f32⟩ : BufTy).Contents (Elt F))⟩, ⟨S4352x64, x3⟩,
        ⟨S4352x64, (broadcastInDim S4352x64 ![] bcast_S_S4352x64 (constant S_ .f32 0x00000000#32) : (⟨S4352x64, .f32⟩ : BufTy).Contents (Elt F))⟩,
      ⟨S4352x128, (extractStridedSlice S4352x128 ![0, 128] x2 slices_S4352x512_S4352x128_0_128 : (⟨S4352x128, .f32⟩ : BufTy).Contents (Elt F))⟩, ⟨S4352x64, x3⟩,
        ⟨S4352x64, (broadcastInDim S4352x64 ![] bcast_S_S4352x64 (constant S_ .f32 0x00000000#32) : (⟨S4352x64, .f32⟩ : BufTy).Contents (Elt F))⟩,
      ⟨S4352x128, (extractStridedSlice S4352x128 ![0, 256] x2 slices_S4352x512_S4352x128_0_256 : (⟨S4352x128, .f32⟩ : BufTy).Contents (Elt F))⟩, ⟨S4352x64, x3⟩,
        ⟨S4352x64, (broadcastInDim S4352x64 ![] bcast_S_S4352x64 (constant S_ .f32 0x00000000#32) : (⟨S4352x64, .f32⟩ : BufTy).Contents (Elt F))⟩,
      ⟨S4352x128, (extractStridedSlice S4352x128 ![0, 384] x2 slices_S4352x512_S4352x128_0_384 : (⟨S4352x128, .f32⟩ : BufTy).Contents (Elt F))⟩, ⟨S4352x64, x3⟩,
        ⟨S4352x64, (broadcastInDim S4352x64 ![] bcast_S_S4352x64 (constant S_ .f32 0x00000000#32) : (⟨S4352x64, .f32⟩ : BufTy).Contents (Elt F))⟩]
    concatenates_S4352x128_S4352x64_S4352x64_S4352x128_S4352x64_S4352x64_S4352x128_S4352x64_S4352x64_S4352x128_S4352x64_S4352x64_S4352x1024_d1 : (⟨S4352x1024, .f32⟩ : BufTy).Contents (Elt F)) bitsLt_bf16_f32

theorem after_aq (W : Valuation τ sig (Elt F)) : StableHlo.after hostOps0 W (Proc.devRef .tc main_v14)
    = aqT (W (Proc.devRef .tc main_arg0)) (W (Proc.devRef .tc main_arg1)) := rfl

theorem after_ak (W : Valuation τ sig (Elt F)) : StableHlo.after hostOps0 W (Proc.devRef .tc main_v16)
    = akT (W (Proc.devRef .tc main_arg2)) (W (Proc.devRef .tc main_arg3)) := rfl

end term

/-- A case distinction equals `z` when both its values do. -/
theorem dite_eq_of {α : Type} {p : Prop} [Decidable p] {f : p → α} {g : ¬p → α} {z : α} (h1 : ∀ h, f h = z) (h2 : ∀ h, g h = z) :
    dite p f g = z := by
  by_cases h : p
  · rw [dif_pos h]; exact h1 h
  · rw [dif_neg h]; exact h2 h

set_option maxHeartbeats 1000000 in
theorem aqT_at (x0 : (⟨S4352x512, .f32⟩ : BufTy).Contents (Elt Ideal)) (x1 : (⟨S4352x256, .f32⟩ : BufTy).Contents (Elt Ideal)) (i : Fin 4352) (h : Fin 4) (d : Fin 256) :
    (aqT x0 x1 : S4352x1024.Idx → EReal) (ix2 i (hl h d : Fin 1024))
      = if h1 : d.val < 128 then x0 (ix2 i (hl h (⟨d.val, h1⟩ : Fin 128) : Fin 512))
        else if h2 : d.val - 128 < 64 then x1 (ix2 i (hl h (⟨d.val - 128, h2⟩ : Fin 64) : Fin 256)) else 0 := by
  unfold aqT
  pointwise
  have hh := h.isLt
  have hd := d.isLt
  have hv : (hl h d).val = h.val * 256 + d.val := rfl
  iterate 11
    refine dite_eq_of ?_ ?_
    · intro g
      refine Eq.symm (dite_eq_of (fun g1 => ?_) fun g1 => dite_eq_of (fun g2 => ?_) fun g2 => ?_) <;>
        first
        | rfl
        | (exfalso; omega)
        | (refine congrArg x0 (congrArg (ix2 i) (Fin.ext ?_)); simp only [hl_val]; omega)
        | (refine congrArg x1 (congrArg (ix2 i) (Fin.ext ?_)); simp only [hl_val]; omega)
    intro g
  refine Eq.symm (dite_eq_of (fun g1 => ?_) fun g1 => dite_eq_of (fun g2 => ?_) fun g2 => ?_) <;>
      first
        | rfl
        | (exfalso; omega)
        | (refine congrArg x0 (congrArg (ix2 i) (Fin.ext ?_)); simp only [hl_val]; omega)
        | (refine congrArg x1 (congrArg (ix2 i) (Fin.ext ?_)); simp only [hl_val]; omega)

set_option maxHeartbeats 1000000 in
theorem akT_at (x2 : (⟨S4352x512, .f32⟩ : BufTy).Contents (Elt Ideal)) (x3 : (⟨S4352x64, .f32⟩ : BufTy).Contents (Elt Ideal)) (i : Fin 4352) (h : Fin 4) (d : Fin 256) :
    (akT x2 x3 : S4352x1024.Idx → EReal) (ix2 i (hl h d : Fin 1024))
      = if h1 : d.val < 128 then x2 (ix2 i (hl h (⟨d.val, h1⟩ : Fin 128) : Fin 512))
        else if h2 : d.val - 128 < 64 then x3 (ix2 i (⟨d.val - 128, h2⟩ : Fin 64)) else 0 := by
  unfold akT
  pointwise
  have hh := h.isLt
  have hd := d.isLt
  have hv : (hl h d).val = h.val * 256 + d.val := rfl
  iterate 11
    refine dite_eq_of ?_ ?_
    · intro g
      refine Eq.symm (dite_eq_of (fun g1 => ?_) fun g1 => dite_eq_of (fun g2 => ?_) fun g2 => ?_) <;>
        first
        | rfl
        | (exfalso; omega)
        | (refine congrArg x2 (congrArg (ix2 i) (Fin.ext ?_)); simp only [hl_val]; omega)
        | (refine congrArg x3 (congrArg (ix2 i) (Fin.ext ?_)); simp only [hl_val]; omega)
    intro g
  refine Eq.symm (dite_eq_of (fun g1 => ?_) fun g1 => dite_eq_of (fun g2 => ?_) fun g2 => ?_) <;>
      first
        | rfl
        | (exfalso; omega)
        | (refine congrArg x2 (congrArg (ix2 i) (Fin.ext ?_)); simp only [hl_val]; omega)
        | (refine congrArg x3 (congrArg (ix2 i) (Fin.ext ?_)); simp only [hl_val]; omega)

variable (m : (ℓ : Loc nD τ sig) → Buf (Elt Ideal) ℓ) (ρ : Dev nD → PrngReg)

theorem entry_av (c : Dev nD) (i : Fin 4352) (j : Fin 512) :
    (show S4352x512.Idx → EReal from StableHlo.after hostOps0 (W0 m ρ c) (Proc.devRef .tc main_v17)) (ix2 i j) = (show S4352x512.Idx → EReal from m ((c : Thread nD τ).loc main_arg4)) (ix2 i j) := by
  entry_read
  pointwise

end Cert.Mla.Ker

end
-- ==== Proof.Pay.lean ====
/-
  What the two kernels' bodies compute at one entry of a block, over abstract blocks: the scores with the mask, the
  saved row sums, the forward result, the softmax weights from the row sums, and the four products of the backward pass.
-/
module

public import Idealize.ShloMosaic.Lib.Pipeline.ValueKit
public import Idealize.ShloMosaic.Lib.Pointwise
public import Idealize.ShloMosaic.Lib.WordCmp
public import proofs.«01_k».proof.Proof.Gen.KernelIdeal.Skeleton
public import proofs.«01_k».proof.Proof.Softmax

@[expose] public section

set_option maxRecDepth 16384

noncomputable section

namespace Cert.Mla.Ker

open Idealize.ShloMosaic Idealize.ShloMosaic.TcCoe Idealize.SL.Sem
open Cert.KernelIdeal Cert.KernelIdeal.Gen Idealize.ShloMosaic.WordCmp

/-- What the mask adds to the score of key `k` in row block `n`: minus infinity for a latent key in the context rows' block. -/
def msk (n k : ℕ) : EReal := if 16 ≤ n ∧ k < 4096 then ⊥ else 0

theorem mask_select (n k : ℕ) (hn : n < 17) (hk : k < 4352) :
    Scalar.select (IntOp.andi (Scalar.cmpi .sge (BitVec.ofNat 32 n) 16#32) (IntOp.cmpi .slt (BitVec.ofNat 32 k) 4096#32))
      (Named.named (F := Ideal) (φ := .f32) κ "mask" 0xF149F2CA#32) (0 : EReal) = msk n k := by
  show Scalar.select (IntOp.andi (IntOp.cmpi .sge (BitVec.ofNat 32 n) (BitVec.ofNat 32 16)) (IntOp.cmpi .slt (BitVec.ofNat 32 k) (BitVec.ofNat 32 4096)))
      (⊥ : EReal) (0 : EReal) = msk n k
  rw [cmpi_sge_ofNat (by omega) (by omega), cmpi_slt_ofNat (by omega) (by omega), andi_ofBool, select_ofBool]
  simp only [msk, Bool.and_eq_true, decide_eq_true_eq]

/-- The logarithm of the sum of the exponentials of a row, as the forward kernel computes it. -/
def lse {n : ℕ} (x : Fin n → EReal) : EReal :=
  Finset.univ.fold max ⊥ x + Ideal.log (∑ j, Ideal.exp (x j - Finset.univ.fold max ⊥ x))

theorem pay2_at (i : grid0.Coords) (x0 : Vec Ideal S256x256 .bf16) (x1 : Vec Ideal S4352x256 .bf16) (a : Fin 256) (k : Fin 4352) :
    k0_pay2 i x0 x1 (ix2 a k) = (∑ d : Fin 256, x0 (ix2 a d) * x1 (ix2 k d)) * (scale : EReal) + msk (i 1).val k.val := by
  refine Eq.trans (by pointwise [k0_pay2]) (congrArg₂ (· + ·) (congrArg₂ (· * ·) rfl ofBits_scale) (mask_select (i 1).val k.val (i 1).isLt k.isLt))

theorem pay6_at (i : grid0.Coords) (x0 : Vec Ideal S256x256 .bf16) (x1 : Vec Ideal S4352x256 .bf16) (z : Fin 1) (a : Fin 256) (y : Fin 1) :
    k0_pay6 i x0 x1 (ix3 z a y) = lse fun k : Fin 4352 => k0_pay2 i x0 x1 (ix2 a k) := by
  unfold lse
  rw [← ofBits_neg_inf]
  unfold k0_pay6 k0_pay5 k0_pay4 k0_pay3
  generalize k0_pay2 i x0 x1 = s
  pointwise

/-- A row's softmax weights, as the forward kernel computes them. -/
def soft {n : ℕ} (x : Fin n → EReal) (k : Fin n) : EReal :=
  Ideal.exp (x k - Finset.univ.fold max ⊥ x) * Ideal.div 1 (∑ j, Ideal.exp (x j - Finset.univ.fold max ⊥ x))

theorem pay7_at (i : grid0.Coords) (x0 : Vec Ideal S256x256 .bf16) (x1 : Vec Ideal S4352x256 .bf16) (x2 : Vec Ideal S4352x128 .bf16)
    (a : Fin 256) (d : Fin 128) :
    k0_pay1 (k0_pay7 i x0 x1 x2) (ix2 a d) = ∑ k : Fin 4352, soft (fun k : Fin 4352 => k0_pay2 i x0 x1 (ix2 a k)) k * x2 (ix2 k d) := by
  unfold soft
  rw [← ofBits_neg_inf, ← Ideal.ofBits_one_f32]
  unfold k0_pay1 k0_pay7 k0_pay5 k0_pay4 k0_pay3
  generalize k0_pay2 i x0 x1 = s
  pointwise

theorem pay10_at (i : grid1.Coords) (x0 : Vec Ideal S256x256 .bf16) (x1 : Vec Ideal S4352x256 .bf16) (x3 : Vec Ideal S1x256x1 .f32)
    (a : Fin 256) (k : Fin 4352) :
    k1_pay10 i x0 x1 x3 (ix2 a k)
      = Ideal.exp ((∑ d : Fin 256, x0 (ix2 a d) * x1 (ix2 k d)) * (scale : EReal) + msk (i 1).val k.val - x3 (ix3 0 a 0)) := by
  refine Eq.trans (by pointwise [k1_pay10, k1_pay6, k1_pay7]) (congrArg Ideal.exp (congrArg₂ (· - ·) (congrArg₂ (· + ·) (congrArg₂ (· * ·) rfl ofBits_scale) (mask_select (i 1).val k.val (i 1).isLt k.isLt)) rfl))

theorem pay11_at (i : grid1.Coords) (x0 : Vec Ideal S256x256 .bf16) (x1 : Vec Ideal S4352x256 .bf16) (x4 : Vec Ideal S256x128 .f32)
    (x3 : Vec Ideal S1x256x1 .f32) (acc : Vec Ideal S4352x128 .f32) (k : Fin 4352) (d : Fin 128) :
    k1_pay11 i x0 x1 x4 x3 acc (ix2 k d) = acc (ix2 k d) + ∑ a : Fin 256, k1_pay10 i x0 x1 x3 (ix2 a k) * x4 (ix2 a d) := by
  unfold k1_pay11 k1_pay9
  generalize k1_pay10 i x0 x1 x3 = p
  pointwise

theorem pay1_at (x2 : FVec Ideal S4352x128 .bf16) (x4 : FVec Ideal S256x128 .bf16) (p : FVec Ideal S256x4352 .f32) (a : Fin 256) (k : Fin 4352) :
    k1_pay1 x2 x4 p (ix2 a k)
      = p (ix2 a k) * ((∑ d : Fin 128, x4 (ix2 a d) * x2 (ix2 k d))
          - ∑ j : Fin 4352, (∑ d : Fin 128, x4 (ix2 a d) * x2 (ix2 j d)) * p (ix2 a j)) * (scale : EReal) := by
  rw [← ofBits_scale]
  pointwise [k1_pay1]

theorem pay2b_at (x1 : FVec Ideal S4352x256 .bf16) (x2 : FVec Ideal S4352x128 .bf16) (x4 : FVec Ideal S256x128 .bf16) (p : FVec Ideal S256x4352 .f32)
    (a d : Fin 256) :
    k1_pay2 x1 x2 x4 p (ix2 a d) = ∑ k : Fin 4352, k1_pay1 x2 x4 p (ix2 a k) * x1 (ix2 k d) := by
  unfold k1_pay2
  generalize k1_pay1 x2 x4 p = s
  pointwise

theorem pay3_at (x0 : FVec Ideal S256x256 .bf16) (x2 : FVec Ideal S4352x128 .bf16) (x4 : FVec Ideal S256x128 .bf16) (p : FVec Ideal S256x4352 .f32)
    (acc : Vec Ideal S4352x256 .f32) (k : Fin 4352) (d : Fin 256) :
    k1_pay3 x0 x2 x4 p acc (ix2 k d) = acc (ix2 k d) + ∑ a : Fin 256, k1_pay1 x2 x4 p (ix2 a k) * x0 (ix2 a d) := by
  unfold k1_pay3
  generalize k1_pay1 x2 x4 p = s
  pointwise

end Cert.Mla.Ker

end
-- ==== Proof.Arr.lean ====
/-
  What the forward kernel leaves in its array of row sums and in its result, and what the backward
  kernel leaves in its three result arrays, as functions of the arrays the two find.
-/
module

public import Idealize.ShloMosaic.Lib.Claim
public import proofs.«01_k».proof.Proof.Gen.KernelIdeal.Frame
public import proofs.«01_k».proof.Proof.Entry
public import proofs.«01_k».proof.Proof.Pay

@[expose] public section

set_option maxRecDepth 16384

noncomputable section

namespace Cert.Mla.Ker

open Idealize.ShloMosaic Idealize.ShloMosaic.TcCoe Idealize.SL.Sem
open Idealize.ShloMosaic.Pipeline (Dat)
open Cert.KernelIdeal Cert.KernelIdeal.Gen

/-- The masked score of key `k` for row `i` in head `h`, over the prepared query and key arrays. -/
def scE (aq ak : S4352x1024.Idx → EReal) (h : Fin 4) (i k : Fin 4352) : EReal :=
  (∑ d : Fin 256, aq (ix2 i (hl h d : Fin 1024)) * ak (ix2 k (hl h d : Fin 1024))) * (scale : EReal)
    + (if 4096 ≤ i.val ∧ k.val < 4096 then ⊥ else 0)

theorem msk_row (n a k : ℕ) (ha : a < 256) : msk n k = if 4096 ≤ n * 256 + a ∧ k < 4096 then ⊥ else 0 := by
  unfold msk
  have : 16 ≤ n ↔ 4096 ≤ n * 256 + a := by omega
  simp only [this]

variable (V : (c : Dev nD) → (b : Ref sig .tc) → Buf (Elt Ideal) ((c : Thread nD τ).loc b)) (c : Dev nD)

/-! ## The forward kernel's row sums -/

theorem idx0 : ∀ t : Fin cfg0.N, win0_0.index t = ![t.val % 17, t.val / 17] ∧ win0_1.index t = ![0, t.val / 17]
    ∧ win0_4.index t = ![t.val / 17, t.val % 17, 0] ∧ (grid0.coords t 0).val = t.val / 17 ∧ (grid0.coords t 1).val = t.val % 17 ∧ t.val / 17 < 4 :=
  (by decide +kernel : ∀ t : Fin grid0.N, _)

theorem b0_0 (t : Fin cfg0.N) (a : Fin 256) (d : Fin 256) : (show Vec Ideal S256x256 .bf16 from iblk0 V c 0 t) (ix2 a d)
    = (show S4352x1024.Idx → EReal from V c main_v14)
      (ix2 ⟨t.val % 17 * 256 + a.val, by omega⟩ ⟨t.val / 17 * 256 + d.val, by have := (idx0 t).2.2.2.2.2; omega⟩) := by
  have := (idx0 t).2.2.2.2.2
  blk_ext [iblk0, idx0 t]

theorem b0_1 (t : Fin cfg0.N) (k : Fin 4352) (d : Fin 256) : (show Vec Ideal S4352x256 .bf16 from iblk0 V c 1 t) (ix2 k d)
    = (show S4352x1024.Idx → EReal from V c main_v16)
      (ix2 k ⟨t.val / 17 * 256 + d.val, by have := (idx0 t).2.2.2.2.2; omega⟩) := by
  have := (idx0 t).2.2.2.2.2
  blk_ext [iblk0, idx0 t]

/-- Row `a` of the block of rows of point `t`, 17 blocks to a head. -/
def rw' (t : ℕ) (a : Fin 256) : Fin 4352 := ⟨t % 17 * 256 + a.val, by omega⟩

theorem emb0_4 (t : Fin cfg0.N) (y0 : Fin 1) (y1 : Fin 256) (y2 : Fin 1) :
    ((win0_4.blk t).view.emb (ix3 y0 y1 y2) : S4x4352x1.Idx)
      = ix3 ⟨t.val / 17, (idx0 t).2.2.2.2.2⟩ (rw' t.val y1) (0 : Fin 1) := by
  have := (idx0 t).2.2.2.2.2
  unfold rw'
  blk_ext [idx0 t]

/-- The array of row sums after the forward kernel, at an entry. -/
def lseG : S4x4352x1.Idx → EReal := fun j => lse (scE (V c main_v14) (V c main_v16) (j 0) (j 1))

/-- The array of row sums after the forward kernel. -/
theorem lse_final : (dat0 V c).arrAt 4 cfg0.N = lseG V c := by
  refine (dat0 V c).arrAt_eq_of_covers 4 _ (by decide +kernel) fun t hf y => ?_
  blk_simp
  rw [after0_4]
  frame_out
  idx_vars y
  refine Eq.trans ?_ (congrArg (lseG V c) (emb0_4 t y0 y1 y2).symm)
  refine (pay6_at _ _ _ _ _ _).trans (congrArg lse (funext fun k => ?_))
  refine (pay2_at _ _ _ _ _).trans ?_
  refine congrArg₂ (· + ·) (congrArg (· * (scale : EReal)) (Finset.sum_congr rfl fun d _ => congrArg₂ (· * ·) (b0_0 V c t y1 d) (b0_1 V c t k d))) ?_
  exact (congrArg (msk · k.val) (idx0 t).2.2.2.2.1).trans (msk_row _ _ _ y1.isLt)

/-! ## The forward kernel's result -/

theorem idx0' : ∀ t : Fin cfg0.N, win0_2.index t = ![0, t.val / 17] ∧ win0_3.index t = ![t.val % 17, t.val / 17] ∧ t.val / 17 < 4 :=
  (by decide +kernel : ∀ t : Fin grid0.N, _)

theorem b0_2 (t : Fin cfg0.N) (k : Fin 4352) (d : Fin 128) : (show Vec Ideal S4352x128 .bf16 from iblk0 V c 2 t) (ix2 k d)
    = (show S4352x512.Idx → EReal from V c main_v17)
      (ix2 k ⟨t.val / 17 * 128 + d.val, by have := (idx0' t).2.2; omega⟩) := by
  have := (idx0' t).2.2
  blk_ext [iblk0, idx0' t]

theorem emb0_3 (t : Fin cfg0.N) (y0 : Fin 256) (y1 : Fin 128) :
    ((win0_3.blk t).view.emb (ix2 y0 y1) : S4352x512.Idx) = ix2 (rw' t.val y0) (hl (⟨t.val / 17, (idx0' t).2.2⟩ : Fin 4) y1 : Fin 512) := by
  have := (idx0' t).2.2
  unfold rw' hl
  blk_ext [idx0' t]

/-- A row of the forward kernel's result in one head: the values, weighted. -/
def oE (h : Fin 4) (i : Fin 4352) (d : Fin 128) : EReal :=
  ∑ k : Fin 4352, soft (scE (V c main_v14) (V c main_v16) h i) k * (show S4352x512.Idx → EReal from V c main_v17) (ix2 k (hl h d : Fin 512))

/-- The forward kernel's result at an entry. -/
def oG : S4352x512.Idx → EReal := fun j => oE V c (hdOf (n := 128) (j 1)) (j 0) (lnOf (n := 128) (j 1))

theorem oG_at (h : Fin 4) (i : Fin 4352) (d : Fin 128) : oG V c (ix2 i (hl h d : Fin 512)) = oE V c h i d := by
  show oE V c (hdOf (hl h d)) i (lnOf (hl h d)) = _
  rw [hdOf_hl, lnOf_hl]

/-- The forward kernel's result. -/
theorem o_final : (dat0 V c).arrAt 3 cfg0.N = oG V c := by
  refine (dat0 V c).arrAt_eq_of_covers 3 _ (by decide +kernel) fun t hf y => ?_
  blk_simp
  rw [after0_3]
  frame_out
  idx_vars y
  refine Eq.trans ?_ (congrArg (oG V c) (emb0_3 t y0 y1).symm)
  rw [oG_at]
  refine (pay7_at _ _ _ _ _ _).trans (Finset.sum_congr rfl fun k _ => congrArg₂ (· * ·) (congrArg (soft · k) (funext fun k => ?_)) (b0_2 V c t k y1))
  refine (pay2_at _ _ _ _ _).trans ?_
  refine congrArg₂ (· + ·) (congrArg (· * (scale : EReal)) (Finset.sum_congr rfl fun d _ => congrArg₂ (· * ·) (b0_0 V c t y0 d) (b0_1 V c t k d))) ?_
  exact (congrArg (msk · k.val) (idx0 t).2.2.2.2.1).trans (msk_row _ _ _ y0.isLt)

/-! ## The backward kernel -/

theorem idx1 : ∀ t : Fin cfg1.N, win1_0.index t = ![t.val % 17, t.val / 17] ∧ win1_1.index t = ![0, t.val / 17] ∧ win1_2.index t = ![0, t.val / 17]
    ∧ win1_3.index t = ![t.val / 17, t.val % 17, 0] ∧ win1_4.index t = ![t.val % 17, t.val / 17]
    ∧ win1_5.index t = ![t.val % 17, t.val / 17] ∧ win1_6.index t = ![0, t.val / 17] ∧ win1_7.index t = ![0, t.val / 17]
    ∧ (grid1.coords t 1).val = t.val % 17 ∧ t.val / 17 < 4 :=
  (by decide +kernel : ∀ t : Fin grid1.N, _)

/-- The head of point `t`. -/
def hd (t : Fin cfg1.N) : Fin 4 := ⟨t.val / 17, (idx1 t).2.2.2.2.2.2.2.2.2⟩

section reads
variable (t : Fin cfg1.N)

theorem b1_0 (a d : Fin 256) : (show Vec Ideal S256x256 .bf16 from iblk1 V c 0 t) (ix2 a d)
    = (show S4352x1024.Idx → EReal from V c main_v14) (ix2 (rw' t.val a) (hl (hd t) d : Fin 1024)) := by
  have := (hd t).isLt
  unfold rw' hl hd
  blk_ext [iblk1, idx1 t]

theorem b1_1 (k : Fin 4352) (d : Fin 256) : (show Vec Ideal S4352x256 .bf16 from iblk1 V c 1 t) (ix2 k d)
    = (show S4352x1024.Idx → EReal from V c main_v16) (ix2 k (hl (hd t) d : Fin 1024)) := by
  have := (hd t).isLt
  unfold hl hd
  blk_ext [iblk1, idx1 t]

theorem b1_2 (k : Fin 4352) (d : Fin 128) : (show Vec Ideal S4352x128 .bf16 from iblk1 V c 2 t) (ix2 k d)
    = (show S4352x512.Idx → EReal from V c main_v17) (ix2 k (hl (hd t) d : Fin 512)) := by
  have := (hd t).isLt
  unfold hl hd
  blk_ext [iblk1, idx1 t]

theorem b1_3 (z : Fin 1) (a : Fin 256) (y : Fin 1) : (show Vec Ideal S1x256x1 .f32 from iblk1 V c 3 t) (ix3 z a y)
    = (show S4x4352x1.Idx → EReal from V c main_v18_1) (ix3 (hd t) (rw' t.val a) (0 : Fin 1)) := by
  have := (hd t).isLt
  unfold rw' hd
  blk_ext [iblk1, idx1 t]

theorem b1_4 (a : Fin 256) (d : Fin 128) : (show Vec Ideal S256x128 .f32 from iblk1 V c 4 t) (ix2 a d)
    = (show S4352x512.Idx → EReal from V c main_arg5) (ix2 (rw' t.val a) (hl (hd t) d : Fin 512)) := by
  have := (hd t).isLt
  unfold rw' hl hd
  blk_ext [iblk1, idx1 t]

end reads

/-- The softmax weight as the backward kernel computes it from the saved row sums. -/
def pE (h : Fin 4) (i k : Fin 4352) : EReal :=
  Ideal.exp (scE (V c main_v14) (V c main_v16) h i k - (show S4x4352x1.Idx → EReal from V c main_v18_1) (ix3 h i (0 : Fin 1)))

/-- The gradient of the weight: the row of the result's gradient against the row of the value. -/
def dpE (h : Fin 4) (i k : Fin 4352) : EReal :=
  ∑ d : Fin 128, (show S4352x512.Idx → EReal from V c main_arg5) (ix2 i (hl h d : Fin 512)) * (show S4352x512.Idx → EReal from V c main_v17) (ix2 k (hl h d : Fin 512))

/-- The gradient of the score. -/
def dsE (h : Fin 4) (i k : Fin 4352) : EReal :=
  pE V c h i k * (dpE V c h i k - ∑ j : Fin 4352, dpE V c h i j * pE V c h i j) * (scale : EReal)

section point
variable (t : Fin cfg1.N)

/-- The block of weights at point `t`. -/
abbrev pB : FVec Ideal S256x4352 .f32 := k1_pay10 (grid1.coords t) (iblk1 V c 0 t) (iblk1 V c 1 t) (iblk1 V c 3 t)
/-- The block of score gradients at point `t`. -/
abbrev dsB : FVec Ideal S256x4352 .bf16 := k1_pay1 (k1_pay8 (iblk1 V c 2 t)) (k1_pay9 (iblk1 V c 4 t)) (pB V c t)

theorem pB_at (a : Fin 256) (k : Fin 4352) : pB V c t (ix2 a k) = pE V c (hd t) (rw' t.val a) k := by
  refine (pay10_at _ _ _ _ _ _).trans (congrArg Ideal.exp (congrArg₂ (· - ·) (congrArg₂ (· + ·)
    (congrArg (· * (scale : EReal)) (Finset.sum_congr rfl fun d _ => congrArg₂ (· * ·) (b1_0 V c t a d) (b1_1 V c t k d))) ?_) (b1_3 V c t 0 a 0)))
  exact (congrArg (msk · k.val) (idx1 t).2.2.2.2.2.2.2.2.1).trans (msk_row _ _ _ a.isLt)

theorem pay7_id (x : Vec Ideal S4352x256 .bf16) : k1_pay7 x = x := by unfold k1_pay7; exact shapeCast_self _ _
theorem pay6_id (x : Vec Ideal S256x256 .bf16) : k1_pay6 x = x := by unfold k1_pay6; exact shapeCast_self _ _
theorem pay8_id (x : Vec Ideal S4352x128 .bf16) : k1_pay8 x = x := by unfold k1_pay8; exact shapeCast_self _ _
theorem pay9_id (x : Vec Ideal S256x128 .f32) : (k1_pay9 x : S256x128.Idx → EReal) = x := rfl

theorem dsB_at (a : Fin 256) (k : Fin 4352) : dsB V c t (ix2 a k) = dsE V c (hd t) (rw' t.val a) k := by
  have hdp : ∀ j : Fin 4352, ∑ d : Fin 128, (k1_pay9 (iblk1 V c 4 t)) (ix2 a d) * (k1_pay8 (iblk1 V c 2 t)) (ix2 j d)
      = dpE V c (hd t) (rw' t.val a) j := fun j => by
    rw [pay8_id]
    exact Finset.sum_congr rfl fun d _ => congrArg₂ (· * ·) (b1_4 V c t a d) (b1_2 V c t j d)
  refine (pay1_at _ _ _ _ _).trans (congrArg (· * (scale : EReal)) (congrArg₂ (· * ·) (pB_at V c t a k) (congrArg₂ (· - ·) (hdp k)
    (Finset.sum_congr rfl fun j _ => congrArg₂ (· * ·) (hdp j) (pB_at V c t a j)))))

end point

end Cert.Mla.Ker

end
-- ==== Proof.Bwd.lean ====
/-
  What the backward kernel leaves in its three result arrays, as functions of the arrays it finds.
-/
module

public import Idealize.ShloMosaic.Lib.Claim
public import proofs.«01_k».proof.Proof.Arr

@[expose] public section

set_option maxRecDepth 16384

noncomputable section

namespace Cert.Mla.Ker

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The gradient of the queries, -/
def dqE (h : Fin 4) (i : Fin 4352) (d : Fin 256) : EReal :=
  ∑ k : Fin 4352, dsE V c h i k * (show S4352x1024.Idx → EReal from V c main_v16) (ix2 k (hl h d : Fin 1024))
/-- of the keys, -/
def dkE (h : Fin 4) (k : Fin 4352) (d : Fin 256) : EReal :=
  ∑ i : Fin 4352, dsE V c h i k * (show S4352x1024.Idx → EReal from V c main_v14) (ix2 i (hl h d : Fin 1024))
/-- and of the values. -/
def dvE (h : Fin 4) (k : Fin 4352) (d : Fin 128) : EReal :=
  ∑ i : Fin 4352, pE V c h i k * (show S4352x512.Idx → EReal from V c main_arg5) (ix2 i (hl h d : Fin 512))

def dqG : S4352x1024.Idx → EReal := fun j => dqE V c (hdOf (n := 256) (j 1)) (j 0) (lnOf (n := 256) (j 1))
def dkG : S4352x1024.Idx → EReal := fun j => dkE V c (hdOf (n := 256) (j 1)) (j 0) (lnOf (n := 256) (j 1))
def dvG : S4352x512.Idx → EReal := fun j => dvE V c (hdOf (n := 128) (j 1)) (j 0) (lnOf (n := 128) (j 1))

theorem dqG_at (h : Fin 4) (i : Fin 4352) (d : Fin 256) : dqG V c (ix2 i (hl h d : Fin 1024)) = dqE V c h i d := by
  show dqE V c (hdOf (hl h d)) i (lnOf (hl h d)) = _
  rw [hdOf_hl, lnOf_hl]
theorem dkG_at (h : Fin 4) (i : Fin 4352) (d : Fin 256) : dkG V c (ix2 i (hl h d : Fin 1024)) = dkE V c h i d := by
  show dkE V c (hdOf (hl h d)) i (lnOf (hl h d)) = _
  rw [hdOf_hl, lnOf_hl]
theorem dvG_at (h : Fin 4) (i : Fin 4352) (d : Fin 128) : dvG V c (ix2 i (hl h d : Fin 512)) = dvE V c h i d := by
  show dvE V c (hdOf (hl h d)) i (lnOf (hl h d)) = _
  rw [hdOf_hl, lnOf_hl]

theorem emb1_5 (t : Fin cfg1.N) (y0 y1 : Fin 256) :
    ((win1_5.blk t).view.emb (ix2 y0 y1) : S4352x1024.Idx) = ix2 (rw' t.val y0) (hl (hd t) y1 : Fin 1024) := by
  have := (hd t).isLt
  unfold rw' hl hd
  blk_ext [idx1 t]
theorem emb1_6 (t : Fin cfg1.N) (y0 : Fin 4352) (y1 : Fin 256) :
    ((win1_6.blk t).view.emb (ix2 y0 y1) : S4352x1024.Idx) = ix2 y0 (hl (hd t) y1 : Fin 1024) := by
  have := (hd t).isLt
  unfold hl hd
  blk_ext [idx1 t]
theorem emb1_7 (t : Fin cfg1.N) (y0 : Fin 4352) (y1 : Fin 128) :
    ((win1_7.blk t).view.emb (ix2 y0 y1) : S4352x512.Idx) = ix2 y0 (hl (hd t) y1 : Fin 512) := by
  have := (hd t).isLt
  unfold hl hd
  blk_ext [idx1 t]

theorem dqB_at (t : Fin cfg1.N) (a d : Fin 256) :
    k1_pay2 (k1_pay7 (iblk1 V c 1 t)) (k1_pay8 (iblk1 V c 2 t)) (k1_pay9 (iblk1 V c 4 t)) (pB V c t) (ix2 a d)
      = dqE V c (hd t) (rw' t.val a) d := by
  refine (pay2b_at _ _ _ _ _ _).trans (Finset.sum_congr rfl fun k _ => congrArg₂ (· * ·) (dsB_at V c t a k) ?_)
  rw [pay7_id]
  exact b1_1 V c t k d

theorem dq_final : (dat1 V c).arrAt 5 cfg1.N = dqG V c := by
  refine (dat1 V c).arrAt_eq_of_covers 5 _ (by decide +kernel) fun t hf y => ?_
  blk_simp
  rw [after1_5]
  by_cases h0 : t.val % 17 = 0
  · rw [outsAt1_A V c t h0]
    frame_out
    idx_vars y
    refine Eq.trans ?_ (congrArg (dqG V c) (emb1_5 t y0 y1).symm)
    rw [dqG_at]
    exact dqB_at V c t y0 y1
  · rw [outsAt1_B V c t h0]
    frame_out
    idx_vars y
    refine Eq.trans ?_ (congrArg (dqG V c) (emb1_5 t y0 y1).symm)
    rw [dqG_at]
    exact dqB_at V c t y0 y1

/-- One point's share of the gradient of the keys, -/
def dkT (t : Fin cfg1.N) (j : S4352x256.Idx) : EReal :=
  ∑ a : Fin 256, dsE V c (hd t) (rw' t.val a) (j 0) * (show S4352x1024.Idx → EReal from V c main_v14) (ix2 (rw' t.val a) (hl (hd t) (j 1) : Fin 1024))
/-- and of the values. -/
def dvT (t : Fin cfg1.N) (j : S4352x128.Idx) : EReal :=
  ∑ a : Fin 256, pE V c (hd t) (rw' t.val a) (j 0) * (show S4352x512.Idx → EReal from V c main_arg5) (ix2 (rw' t.val a) (hl (hd t) (j 1) : Fin 512))

theorem dkB_at (t : Fin cfg1.N) (acc : Vec Ideal S4352x256 .f32) (j : S4352x256.Idx) :
    (k1_pay3 (k1_pay6 (iblk1 V c 0 t)) (k1_pay8 (iblk1 V c 2 t)) (k1_pay9 (iblk1 V c 4 t)) (pB V c t) acc j : EReal)
      = acc j + dkT V c t j := by
  idx_vars j
  refine (pay3_at _ _ _ _ _ _ _).trans (congrArg (acc (ix2 j0 j1) + ·) (Finset.sum_congr rfl fun a _ => congrArg₂ (· * ·) (dsB_at V c t a j0) ?_))
  rw [pay6_id]
  exact b1_0 V c t a j1

theorem dvB_at (t : Fin cfg1.N) (acc : Vec Ideal S4352x128 .f32) (j : S4352x128.Idx) :
    (k1_pay11 (grid1.coords t) (iblk1 V c 0 t) (iblk1 V c 1 t) (iblk1 V c 4 t) (iblk1 V c 3 t) acc j : EReal) = acc j + dvT V c t j := by
  idx_vars j
  exact (pay11_at _ _ _ _ _ _ _ _).trans (congrArg (acc (ix2 j0 j1) + ·) (Finset.sum_congr rfl fun a _ => congrArg₂ (· * ·) (pB_at V c t a j0) (b1_4 V c t a j1)))

theorem pay4_zero (j : S4352x256.Idx) : ((k1_pay4 : FVec Ideal S4352x256 .f32) j : EReal) = 0 := by
  idx_vars j
  pointwise [k1_pay4]
theorem pay5_zero (j : S4352x128.Idx) : ((k1_pay5 : FVec Ideal S4352x128 .f32) j : EReal) = 0 := by
  idx_vars j
  pointwise [k1_pay5]

/-- The head of the points of one run is one, -/
theorem hd_run (t : Fin cfg1.N) (s : Fin 17) (h) : hd ⟨17 * (t.val / 17) + s.val, h⟩ = hd t := by
  apply Fin.ext
  have := s.isLt
  show (17 * (t.val / 17) + s.val) / 17 = t.val / 17
  omega
/-- and its blocks of rows are the array's rows in order. -/
theorem rw_run (t : ℕ) (s : Fin 17) (k : Fin 256) (h) : rw' (17 * (t / 17) + s.val) k = ⟨s.val * 256 + k.val, h⟩ := by
  apply Fin.ext
  have := s.isLt
  show (17 * (t / 17) + s.val) % 17 * 256 + k.val = _
  rw [Nat.mul_add_mod, Nat.mod_eq_of_lt this]

theorem dk_final : (dat1 V c).arrAt 6 cfg1.N = dkG V c := by
  refine (dat1 V c).arrAt_eq_of_covers 6 _ (by decide +kernel) fun t hf y => ?_
  blk_simp
  rw [after1_6]
  rw [Pipeline.eq_sum_fin_of_reset_step_apply_of_flush (fun n h => (outsAt1 V c n h).2.1) 17 (fun _ => 0) (dkT V c)
    (fun t h j => by
      rw [outsAt1_A V c t h]
      frame_out
      exact (dkB_at V c t _ j).trans (congrArg (· + dkT V c t j) (pay4_zero j)))
    (fun t h j => by
      rw [outsAt1_B V c t h]
      frame_out
      exact dkB_at V c t _ j) t ((flush1_6 t).mp hf) _, zero_add]
  idx_vars y
  refine Eq.trans ?_ (congrArg (dkG V c) (emb1_6 t y0 y1).symm)
  rw [dkG_at]
  unfold dkE dkT
  refine Fin.sum_mul_add_congr fun s k hk => ?_
  rw [hd_run, rw_run _ _ _ hk]
  rfl

theorem dv_final : (dat1 V c).arrAt 7 cfg1.N = dvG V c := by
  refine (dat1 V c).arrAt_eq_of_covers 7 _ (by decide +kernel) fun t hf y => ?_
  blk_simp
  rw [after1_7]
  rw [Pipeline.eq_sum_fin_of_reset_step_apply_of_flush (fun n h => (outsAt1 V c n h).2.2) 17 (fun _ => 0) (dvT V c)
    (fun t h j => by
      rw [outsAt1_A V c t h]
      frame_out
      exact (dvB_at V c t _ j).trans (congrArg (· + dvT V c t j) (pay5_zero j)))
    (fun t h j => by
      rw [outsAt1_B V c t h]
      frame_out
      exact dvB_at V c t _ j) t ((flush1_7 t).mp hf) _, zero_add]
  idx_vars y
  refine Eq.trans ?_ (congrArg (dvG V c) (emb1_7 t y0 y1).symm)
  rw [dvG_at]
  unfold dvE dvT
  refine Fin.sum_mul_add_congr fun s k hk => ?_
  rw [hd_run, rw_run _ _ _ hk]
  rfl

end Cert.Mla.Ker

end
-- ==== Proof.KerSpec.lean ====
/-
  The kernel program's results, at finite arguments, are the attention and its gradient of `Spec.lean`.
-/
module

public import proofs.«01_k».proof.Proof.Spec
public import proofs.«01_k».proof.Proof.Run
public import proofs.«01_k».proof.Proof.Bwd

@[expose] public section

set_option maxRecDepth 16384

noncomputable section

namespace Cert.Mla.Ker

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD) (A : Args)
  (H : A.Of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)))
include H

theorem q1_at (h : Fin 4) (i : Fin 4352) (d : Fin 256) :
    (show S4352x1024.Idx → EReal from V1 m ρ c main_v14) (ix2 i (hl h d : Fin 1024)) = (A.q h i d : EReal) := by
  refine (congrFun (after_aq (W0 m ρ c)) _).trans ((aqT_at _ _ i h d).trans ?_)
  unfold Args.q
  split_ifs
  · exact H.e0 _ _
  · exact H.e1 _ _
  · exact EReal.coe_zero.symm

theorem k1_at (h : Fin 4) (i : Fin 4352) (d : Fin 256) :
    (show S4352x1024.Idx → EReal from V1 m ρ c main_v16) (ix2 i (hl h d : Fin 1024)) = (A.k h i d : EReal) := by
  refine (congrFun (after_ak (W0 m ρ c)) _).trans ((akT_at _ _ i h d).trans ?_)
  unfold Args.k
  split_ifs
  · exact H.e2 _ _
  · exact H.e3 _ _
  · exact EReal.coe_zero.symm

/-- The masked score is the score at a visible key and minus infinity at a hidden one. -/
theorem sc_at (h : Fin 4) (i k : Fin 4352) :
    scE (V1 m ρ c main_v14) (V1 m ρ c main_v16) h i k = if vis i k then (A.s h i k : EReal) else ⊥ := by
  have e : (∑ d : Fin 256, (show S4352x1024.Idx → EReal from V1 m ρ c main_v14) (ix2 i (hl h d : Fin 1024)) * (show S4352x1024.Idx → EReal from V1 m ρ c main_v16) (ix2 k (hl h d : Fin 1024))) * (scale : EReal)
      = (A.s h i k : EReal) := by
    rw [Finset.sum_congr rfl fun d _ => congrArg₂ (· * ·) (q1_at m ρ c A H h i d) (k1_at m ρ c A H h k d), coe_dot, ← EReal.coe_mul, A.s_eq]
  refine (congrArg (· + _) e).trans ?_
  by_cases hv : vis i k
  · rw [if_pos hv, if_neg (by unfold vis at hv; omega), add_zero]
  · rw [if_neg hv, if_pos (by unfold vis at hv; omega), EReal.add_bot]

theorem V2_q : V2 m ρ c main_v14 = V1 m ρ c main_v14 := W2_of m ρ c main_v14 (by decide)
theorem V2_k : V2 m ρ c main_v16 = V1 m ρ c main_v16 := W2_of m ρ c main_v16 (by decide)
theorem V2_v (i : Fin 4352) (j : Fin 512) : (show S4352x512.Idx → EReal from V2 m ρ c main_v17) (ix2 i j) = (A.a4 i j : EReal) := by
  have e : V2 m ρ c main_v17 = V1 m ρ c main_v17 := W2_of m ρ c main_v17 (by decide)
  rw [e]
  exact (entry_av m ρ c i j).trans (H.e4 i j)
theorem V2_do (i : Fin 4352) (j : Fin 512) : (show S4352x512.Idx → EReal from V2 m ρ c main_arg5) (ix2 i j) = (A.a5 i j : EReal) := by
  have e : V2 m ρ c main_arg5 = V1 m ρ c main_arg5 := W2_of m ρ c main_arg5 (by decide)
  rw [e, show V1 m ρ c main_arg5 = _ from W1_of m ρ c main_arg5 (by decide)]
  exact H.e5 i j
theorem V2_lse : V2 m ρ c main_v18_1 = lseG (V1 m ρ) c := (W2_arr m ρ c 4).trans (lse_final (V1 m ρ) c)

theorem w_at (h : Fin 4) (i k : Fin 4352) : pE (V2 m ρ) c h i k = (A.w h i k : EReal) := by
  unfold pE
  rw [V2_q m ρ c A H, V2_k m ρ c A H, V2_lse m ρ c A H]
  exact exp_sub_lse (A.s h i) (vis i) _ (sc_at m ρ c A H h i) i (vis_self i) k

theorem dp_at (h : Fin 4) (i k : Fin 4352) : dpE (V2 m ρ) c h i k = (A.dp h i k : EReal) := by
  unfold dpE
  rw [Finset.sum_congr rfl fun d _ => congrArg₂ (· * ·) (V2_do m ρ c A H i (hl h d)) (V2_v m ρ c A H k (hl h d)), coe_dot]
  rfl

theorem ds_at (h : Fin 4) (i k : Fin 4352) : dsE (V2 m ρ) c h i k = (A.ds h i k : EReal) := by
  refine (congrArg (· * (scale : EReal)) (congrArg₂ (· * ·) (w_at m ρ c A H h i k) (congrArg₂ (· - ·) (dp_at m ρ c A H h i k)
    ((Finset.sum_congr rfl fun j _ => congrArg₂ (· * ·) (dp_at m ρ c A H h i j) (w_at m ρ c A H h i j)).trans (coe_dot _ _ _))))).trans ?_
  show (A.w h i k : EReal) * ((A.dp h i k : EReal) - _) * (scale : EReal) = _
  rw [← EReal.coe_sub, ← EReal.coe_mul, ← EReal.coe_mul]
  rfl

/-- The attention's result. -/
theorem o_at (h : Fin 4) (i : Fin 4352) (d : Fin 128) :
    (show S4352x512.Idx → EReal from (dat0 (V1 m ρ) c).arrAt 3 cfg0.N) (ix2 i (hl h d : Fin 512)) = (A.o h i d : EReal) := by
  refine (congrFun (o_final (V1 m ρ) c) _).trans ((oG_at (V1 m ρ) c h i d).trans ?_)
  refine Eq.trans (Finset.sum_congr rfl fun k _ => congrArg₂ (· * ·) (exp_mul_inv (A.s h i) (vis i) _ (sc_at m ρ c A H h i) i (vis_self i) k)
    ((entry_av m ρ c k (hl h d)).trans (H.e4 k (hl h d)))) (coe_dot _ _ _)

/-- The gradient of the queries, -/
theorem dq_at (h : Fin 4) (i : Fin 4352) (d : Fin 256) :
    (show S4352x1024.Idx → EReal from (dat1 (V2 m ρ) c).arrAt 5 cfg1.N) (ix2 i (hl h d : Fin 1024)) = (A.dq h i d : EReal) := by
  refine (congrFun (dq_final (V2 m ρ) c) _).trans ((dqG_at (V2 m ρ) c h i d).trans ?_)
  unfold dqE
  rw [V2_k m ρ c A H, Finset.sum_congr rfl fun k _ => congrArg₂ (· * ·) (ds_at m ρ c A H h i k) (k1_at m ρ c A H h k d), coe_dot]
  rfl
/-- of the keys, -/
theorem dk_at (h : Fin 4) (k : Fin 4352) (d : Fin 256) :
    (show S4352x1024.Idx → EReal from (dat1 (V2 m ρ) c).arrAt 6 cfg1.N) (ix2 k (hl h d : Fin 1024)) = (A.dk h k d : EReal) := by
  refine (congrFun (dk_final (V2 m ρ) c) _).trans ((dkG_at (V2 m ρ) c h k d).trans ?_)
  unfold dkE
  rw [V2_q m ρ c A H, Finset.sum_congr rfl fun i _ => congrArg₂ (· * ·) (ds_at m ρ c A H h i k) (q1_at m ρ c A H h i d), coe_dot]
  rfl
/-- and of the values. -/
theorem dv_at (h : Fin 4) (k : Fin 4352) (d : Fin 128) :
    (show S4352x512.Idx → EReal from (dat1 (V2 m ρ) c).arrAt 7 cfg1.N) (ix2 k (hl h d : Fin 512)) = (A.dv h k d : EReal) := by
  refine (congrFun (dv_final (V2 m ρ) c) _).trans ((dvG_at (V2 m ρ) c h k d).trans ?_)
  unfold dvE
  rw [Finset.sum_congr rfl fun i _ => congrArg₂ (· * ·) (w_at m ρ c A H h i k) (V2_do m ρ c A H i (hl h d)), coe_dot]
  rfl

end Cert.Mla.Ker

end
-- ==== Proof.Ref.lean ====
/-
  The reference program's stages read at an index: the rows of scores, what the softmax and its derivative make of
  a row, and the products with them, first for the latent rows (all keys) and then for the context rows (256 keys).
-/
module

public import Idealize.ShloMosaic.Lib.Claim
public import Idealize.ShloMosaic.Lib.Pointwise
public import Idealize.ShloMosaic.Lib.KernelVsHost
public import proofs.«01_k».proof.Proof.Gen.ReferenceIdeal.Read
public import proofs.«01_k».proof.Proof.Softmax

@[expose] public section

set_option maxRecDepth 16384

noncomputable section

namespace Cert.Mla

open Idealize.ShloMosaic

/-! ## A row of the softmax and of its derivative, as the reference computes them -/

section row
variable {n : ℕ} (x dp : Fin n → EReal)

def rE (k : Fin n) : EReal := Ideal.exp (x k - max ⊥ (Finset.univ.fold max ⊥ x))
def rL : EReal := 0 + ∑ k, rE x k
def rP (k : Fin n) : EReal := Ideal.div (rE x k) (rL x)
def rI : EReal := Ideal.div 1 (rL x * rL x)
def rDs (k : Fin n) : EReal :=
  (Ideal.div (dp k) (rL x) + (0 + ∑ _ : Fin 1, -(0 + ∑ j, dp j * rI x * rE x j))) * rE x k * (scale : EReal)

theorem rE_real (s : Fin n → ℝ) (k0 : Fin n) :
    ∃ m : ℝ, ∀ k, rE (fun k => (s k : EReal)) k = (Real.exp (s k - m) : EReal) := by
  obtain ⟨m, hm⟩ := fold_max_real (fun k => (s k : EReal)) (fun k => EReal.coe_ne_top _) k0 (EReal.coe_ne_bot _)
  refine ⟨m, fun k => ?_⟩
  unfold rE
  rw [hm, max_eq_right bot_le, ← EReal.coe_sub, Ideal.exp_coe]

/-- The weights of a row of reals are the softmax weights, -/
theorem rP_real (s : Fin n → ℝ) (k : Fin n) : rP (fun k => (s k : EReal)) k = (sm s (fun _ => True) k : EReal) := by
  obtain ⟨m, hm⟩ := rE_real s k
  have hpos := sum_exp_pos s (fun _ => True) k trivial m
  have h := sm_shift s (fun _ => True) m k
  simp only [if_true] at hpos h
  unfold rP rL
  simp only [hm]
  rw [coe_sum, zero_add, Ideal.div_coe hpos.ne', ← EReal.coe_mul, ← h, mul_one_div]

/-- and the derivative of the scores is the weight times the deviation of its gradient from the row's mean. -/
theorem rDs_real (s d : Fin n → ℝ) (k : Fin n) : rDs (fun k => (s k : EReal)) (fun k => (d k : EReal)) k
    = (sm s (fun _ => True) k * (d k - ∑ j, d j * sm s (fun _ => True) j) * scale : ℝ) := by
  obtain ⟨m, hm⟩ := rE_real s k
  have hpos := sum_exp_pos s (fun _ => True) k trivial m
  have h := fun j => sm_shift s (fun _ => True) m j
  simp only [if_true] at hpos h
  unfold rDs rI rL
  simp only [hm, coe_sum, zero_add]
  set l := ∑ j, Real.exp (s j - m) with hl
  rw [← EReal.coe_mul, ← EReal.coe_one, Ideal.div_coe (mul_pos hpos hpos).ne', Ideal.div_coe hpos.ne']
  simp only [← EReal.coe_mul, coe_sum, ← EReal.coe_neg, ← EReal.coe_add]
  simp only [← h]
  refine congrArg (fun r : ℝ => (r : EReal)) ?_
  have e : ∑ j, d j * (1 * (1 / (l * l))) * Real.exp (s j - m) = (∑ j, d j * (Real.exp (s j - m) / l)) / l := by
    rw [Finset.sum_div]
    refine Finset.sum_congr rfl fun j _ => ?_
    field_simp
  rw [e]
  simp only [Finset.univ_unique, Finset.sum_const, Finset.card_singleton, one_smul]
  field_simp
  ring

end row

end Cert.Mla

namespace Cert.Mla.Ref

open Idealize.ShloMosaic Idealize.ShloMosaic.TcCoe Cert.ReferenceIdeal Cert.ReferenceIdeal.Read

/-- An array of the program's arguments' shapes. -/
abbrev A512 := (⟨S4352x512, .f32⟩ : BufTy).Contents (Elt Ideal)
abbrev A256 := (⟨S4352x256, .f32⟩ : BufTy).Contents (Elt Ideal)
abbrev A64 := (⟨S4352x64, .f32⟩ : BufTy).Contents (Elt Ideal)

variable (x0 x2 x4 x5 : A512) (x1 : A256) (x3 : A64)

section lat

/-- The row of scores of a latent row, -/
abbrev sL (h : Fin 4) (i : Fin 4096) : Fin 4352 → EReal := fun k => val_main_v12 (F := Ideal) x0 x1 x2 x3 (ix3 h i k)
/-- and the row of the weights' gradients. -/
abbrev dL (h : Fin 4) (i : Fin 4096) : Fin 4352 → EReal := fun k => val_main_v119 (F := Ideal) x4 x5 (ix3 h i k)

theorem v13_at (h : Fin 4) (i : Fin 4096) : (val_main_v13 (F := Ideal) x0 x1 x2 x3 (ix2 h i) : EReal) = Finset.univ.fold max ⊥ (sL x0 x2 x1 x3 h i) := by
  unfold val_main_v13 sL
  generalize val_main_v12 (F := Ideal) x0 x1 x2 x3 = y
  pointwise [val_main_cst_0]
  rw [ofBits_neg_inf]

theorem v33_at (h : Fin 4) (i : Fin 4096) (k : Fin 4352) :
    (val_main_v33 (F := Ideal) x0 x1 x2 x3 (ix3 h i k) : EReal) = rE (sL x0 x2 x1 x3 h i) k := by
  have e : idx_main_v30 (idx_main_v31 (ix3 h i k)) = ix2 h i := by funext a; fin_cases a <;> rfl
  rw [val_main_v33_apply, val_main_v32_apply, val_main_v31_apply, val_main_v30_apply, val_main_v20_apply, e,
    val_main_v19_apply, val_main_cst_2_apply]
  unfold rE
  rw [← v13_at, ← ofBits_neg_inf]
  rfl

theorem v34_at (h : Fin 4) (i : Fin 4096) :
    (val_main_v34 (F := Ideal) x0 x1 x2 x3 (ix2 h i) : EReal) = rL (sL x0 x2 x1 x3 h i) := by
  rw [val_main_v34_apply, val_main_cst_8_apply]
  unfold rL
  refine congrArg₂ (· + ·) Ideal.ofBits_zero_f32 (Finset.sum_congr rfl fun k _ => ?_)
  have e : idx_main_v34 (ix2 h i) k = ix3 h i k := by funext a; fin_cases a <;> rfl
  rw [e, v33_at]

theorem v35_at (h : Fin 4) (i : Fin 4096) (z : Fin 1) :
    (val_main_v35 (F := Ideal) x0 x1 x2 x3 (ix3 h i z) : EReal) = rL (sL x0 x2 x1 x3 h i) := by
  rw [val_main_v35_apply, ← v34_at]
  congr 1
  funext a; fin_cases a <;> rfl

theorem v37_at (h : Fin 4) (i : Fin 4096) (k : Fin 4352) :
    (val_main_v37 (F := Ideal) x0 x1 x2 x3 (ix3 h i k) : EReal) = rP (sL x0 x2 x1 x3 h i) k := by
  have e : idx_main_v36 (ix3 h i k) = ix3 h i (0 : Fin 1) := by funext a; fin_cases a <;> rfl
  rw [val_main_v37_apply, val_main_v36_apply, e, v33_at, v35_at]
  rfl

theorem v40_at (h : Fin 4) (i : Fin 4096) (z : Fin 1) :
    (val_main_v40 (F := Ideal) x0 x1 x2 x3 (ix3 h i z) : EReal) = rI (sL x0 x2 x1 x3 h i) := by
  rw [val_main_v40_apply, val_main_v39_apply, val_main_v38_apply, val_main_cst_9_apply, v35_at]
  unfold rI
  rw [← Ideal.ofBits_one_f32]
  rfl

theorem v125_at (h : Fin 4) (i : Fin 4096) (k : Fin 4352) :
    (val_main_v125 (F := Ideal) x0 x1 x2 x3 x4 x5 (ix3 h i k) : EReal)
      = dL x4 x5 h i k * rI (sL x0 x2 x1 x3 h i) * rE (sL x0 x2 x1 x3 h i) k := by
  have e : idx_main_v123 (ix3 h i k) = ix3 h i (0 : Fin 1) := by funext a; fin_cases a <;> rfl
  rw [val_main_v125_apply, val_main_v124_apply, val_main_v123_apply, e, v33_at, v40_at]
  rfl

theorem v131_at (h : Fin 4) (i : Fin 4096) :
    (val_main_v131 (F := Ideal) x0 x1 x2 x3 x4 x5 (ix2 h i) : EReal)
      = 0 + ∑ _ : Fin 1, -(0 + ∑ j, dL x4 x5 h i j * rI (sL x0 x2 x1 x3 h i) * rE (sL x0 x2 x1 x3 h i) j) := by
  rw [val_main_v131_apply, val_main_cst_30_apply]
  refine congrArg₂ (· + ·) Ideal.ofBits_zero_f32 (Finset.sum_congr rfl fun z _ => ?_)
  rw [val_main_v128_apply, val_main_v127_apply]
  have e : idx_main_v127 (idx_main_v131 (ix2 h i) z) = ix2 h i := by
    have := h.isLt
    have := i.isLt
    funext a
    fin_cases a <;> refine Fin.ext ?_ <;> simp [idx_main_v127, idx_main_v131] <;> omega
  rw [e, val_main_v126_apply, val_main_cst_29_apply]
  refine congrArg Neg.neg (congrArg₂ (· + ·) Ideal.ofBits_zero_f32 (Finset.sum_congr rfl fun k _ => ?_))
  have e : idx_main_v126 (ix2 h i) k = ix3 h i k := by funext a; fin_cases a <;> rfl
  rw [e, v125_at]

theorem v136_at (h : Fin 4) (i : Fin 4096) (k : Fin 4352) :
    (val_main_v136 (F := Ideal) x0 x1 x2 x3 x4 x5 (ix3 h i k) : EReal) = rDs (sL x0 x2 x1 x3 h i) (dL x4 x5 h i) k := by
  have e : idx_main_v129 (ix3 h i k) = ix3 h i (0 : Fin 1) := by funext a; fin_cases a <;> rfl
  have e' : idx_main_v132 (ix3 h i k) = ix2 h i := by funext a; fin_cases a <;> rfl
  rw [val_main_v136_apply, val_main_v134_apply, val_main_v133_apply, val_main_v130_apply, val_main_v129_apply,
    val_main_v132_apply, e, e', v33_at, v35_at, v131_at, val_main_v135_apply, val_main_cst_31_apply]
  unfold rDs
  rw [← ofBits_scale]
  rfl

end lat

section ctx

/-- The row of scores of a context row, -/
abbrev sC (h : Fin 4) (i : Fin 256) : Fin 256 → EReal := fun k => val_main_v52 (F := Ideal) x0 x1 x2 x3 (ix3 h i k)
/-- and the row of the weights' gradients. -/
abbrev dC (h : Fin 4) (i : Fin 256) : Fin 256 → EReal := fun k => val_main_v88 (F := Ideal) x4 x5 (ix3 h i k)

theorem v53_at (h : Fin 4) (i : Fin 256) : (val_main_v53 (F := Ideal) x0 x1 x2 x3 (ix2 h i) : EReal) = Finset.univ.fold max ⊥ (sC x0 x2 x1 x3 h i) := by
  unfold val_main_v53 sC
  generalize val_main_v52 (F := Ideal) x0 x1 x2 x3 = y
  pointwise [val_main_cst_11]
  rw [ofBits_neg_inf]

theorem v73_at (h : Fin 4) (i : Fin 256) (k : Fin 256) :
    (val_main_v73 (F := Ideal) x0 x1 x2 x3 (ix3 h i k) : EReal) = rE (sC x0 x2 x1 x3 h i) k := by
  have e : idx_main_v70 (idx_main_v71 (ix3 h i k)) = ix2 h i := by funext a; fin_cases a <;> rfl
  rw [val_main_v73_apply, val_main_v72_apply, val_main_v71_apply, val_main_v70_apply, val_main_v60_apply, e,
    val_main_v59_apply, val_main_cst_13_apply]
  unfold rE
  rw [← v53_at, ← ofBits_neg_inf]
  rfl

theorem v74_at (h : Fin 4) (i : Fin 256) :
    (val_main_v74 (F := Ideal) x0 x1 x2 x3 (ix2 h i) : EReal) = rL (sC x0 x2 x1 x3 h i) := by
  rw [val_main_v74_apply, val_main_cst_19_apply]
  unfold rL
  refine congrArg₂ (· + ·) Ideal.ofBits_zero_f32 (Finset.sum_congr rfl fun k _ => ?_)
  have e : idx_main_v74 (ix2 h i) k = ix3 h i k := by funext a; fin_cases a <;> rfl
  rw [e, v73_at]

theorem v75_at (h : Fin 4) (i : Fin 256) (z : Fin 1) :
    (val_main_v75 (F := Ideal) x0 x1 x2 x3 (ix3 h i z) : EReal) = rL (sC x0 x2 x1 x3 h i) := by
  rw [val_main_v75_apply, ← v74_at]
  congr 1
  funext a; fin_cases a <;> rfl

theorem v77_at (h : Fin 4) (i : Fin 256) (k : Fin 256) :
    (val_main_v77 (F := Ideal) x0 x1 x2 x3 (ix3 h i k) : EReal) = rP (sC x0 x2 x1 x3 h i) k := by
  have e : idx_main_v76 (ix3 h i k) = ix3 h i (0 : Fin 1) := by funext a; fin_cases a <;> rfl
  rw [val_main_v77_apply, val_main_v76_apply, e, v73_at, v75_at]
  rfl

theorem v80_at (h : Fin 4) (i : Fin 256) (z : Fin 1) :
    (val_main_v80 (F := Ideal) x0 x1 x2 x3 (ix3 h i z) : EReal) = rI (sC x0 x2 x1 x3 h i) := by
  rw [val_main_v80_apply, val_main_v79_apply, val_main_v78_apply, val_main_cst_20_apply, v75_at]
  unfold rI
  rw [← Ideal.ofBits_one_f32]
  rfl

theorem v93_at (h : Fin 4) (i : Fin 256) (k : Fin 256) :
    (val_main_v93 (F := Ideal) x0 x1 x2 x3 x4 x5 (ix3 h i k) : EReal)
      = dC x4 x5 h i k * rI (sC x0 x2 x1 x3 h i) * rE (sC x0 x2 x1 x3 h i) k := by
  have e : idx_main_v91 (ix3 h i k) = ix3 h i (0 : Fin 1) := by funext a; fin_cases a <;> rfl
  rw [val_main_v93_apply, val_main_v92_apply, val_main_v91_apply, e, v73_at, v80_at]
  rfl

theorem v99_at (h : Fin 4) (i : Fin 256) :
    (val_main_v99 (F := Ideal) x0 x1 x2 x3 x4 x5 (ix2 h i) : EReal)
      = 0 + ∑ _ : Fin 1, -(0 + ∑ j, dC x4 x5 h i j * rI (sC x0 x2 x1 x3 h i) * rE (sC x0 x2 x1 x3 h i) j) := by
  rw [val_main_v99_apply, val_main_cst_22_apply]
  refine congrArg₂ (· + ·) Ideal.ofBits_zero_f32 (Finset.sum_congr rfl fun z _ => ?_)
  rw [val_main_v96_apply, val_main_v95_apply]
  have e : idx_main_v95 (idx_main_v99 (ix2 h i) z) = ix2 h i := by
    have := h.isLt
    have := i.isLt
    funext a
    fin_cases a <;> refine Fin.ext ?_ <;> simp [idx_main_v95, idx_main_v99] <;> omega
  rw [e, val_main_v94_apply, val_main_cst_21_apply]
  refine congrArg Neg.neg (congrArg₂ (· + ·) Ideal.ofBits_zero_f32 (Finset.sum_congr rfl fun k _ => ?_))
  have e : idx_main_v94 (ix2 h i) k = ix3 h i k := by funext a; fin_cases a <;> rfl
  rw [e, v93_at]

theorem v104_at (h : Fin 4) (i : Fin 256) (k : Fin 256) :
    (val_main_v104 (F := Ideal) x0 x1 x2 x3 x4 x5 (ix3 h i k) : EReal) = rDs (sC x0 x2 x1 x3 h i) (dC x4 x5 h i) k := by
  have e : idx_main_v97 (ix3 h i k) = ix3 h i (0 : Fin 1) := by funext a; fin_cases a <;> rfl
  have e' : idx_main_v100 (ix3 h i k) = ix2 h i := by funext a; fin_cases a <;> rfl
  rw [val_main_v104_apply, val_main_v102_apply, val_main_v101_apply, val_main_v98_apply, val_main_v97_apply,
    val_main_v100_apply, e, e', v73_at, v75_at, v99_at, val_main_v103_apply, val_main_cst_23_apply]
  unfold rDs
  rw [← ofBits_scale]
  rfl

end ctx

end Cert.Mla.Ref

end
-- ==== Proof.Ref2.lean ====
/-
  The reference program's scores and products read at an index, over the arguments.
-/
module

public import proofs.«01_k».proof.Proof.Ref
public import proofs.«01_k».proof.Proof.Spec

@[expose] public section

set_option maxRecDepth 16384

noncomputable section

namespace Cert.Mla.Ref

open Idealize.ShloMosaic Idealize.ShloMosaic.TcCoe Cert.ReferenceIdeal Cert.ReferenceIdeal.Read

variable (x0 x2 x4 x5 : A512) (x1 : A256) (x3 : A64)

theorem v12_at (h : Fin 4) (i : Fin 4096) (k : Fin 4352) :
    (val_main_v12 (F := Ideal) x0 x1 x2 x3 (ix3 h i k) : EReal)
      = ((∑ d : Fin 128, x0 (ix2 (latE i) (hl h d : Fin 512)) * x2 (ix2 k (hl h d : Fin 512)))
          + ∑ d : Fin 64, x1 (ix2 (latE i) (hl h d : Fin 256)) * x3 (ix2 k d)) * (scale : EReal) := by
  rw [← ofBits_scale]
  pointwise [val_main_v12, val_main_v11, val_main_cst, val_main_v10, val_main_v9, val_main_v8, val_main_v7, val_main_v6, val_main_v4, val_main_v3, val_main_v2, val_main_v1, val_main_v0]
  rfl

theorem v52_at (h : Fin 4) (i : Fin 256) (k : Fin 256) :
    (val_main_v52 (F := Ideal) x0 x1 x2 x3 (ix3 h i k) : EReal)
      = ((∑ d : Fin 128, x0 (ix2 (ctxE i) (hl h d : Fin 512)) * x2 (ix2 (ctxE k) (hl h d : Fin 512)))
          + ∑ d : Fin 64, x1 (ix2 (ctxE i) (hl h d : Fin 256)) * x3 (ix2 (ctxE k) d)) * (scale : EReal) := by
  rw [← ofBits_scale]
  pointwise [val_main_v52, val_main_v51, val_main_cst_10, val_main_v50, val_main_v49, val_main_v48, val_main_v46, val_main_v45, val_main_v44, val_main_v43, val_main_v4, val_main_v3, val_main_v2, val_main_v1, val_main_v0]
  rfl

theorem v119_at (h : Fin 4) (i : Fin 4096) (k : Fin 4352) :
    (val_main_v119 (F := Ideal) x4 x5 (ix3 h i k) : EReal)
      = ∑ d : Fin 128, x5 (ix2 (latE i) (hl h d : Fin 512)) * x4 (ix2 k (hl h d : Fin 512)) := by
  pointwise [val_main_v119, val_main_v118, val_main_v85, val_main_v84, val_main_v5]
  rfl

theorem v88_at (h : Fin 4) (i : Fin 256) (k : Fin 256) :
    (val_main_v88 (F := Ideal) x4 x5 (ix3 h i k) : EReal)
      = ∑ d : Fin 128, x5 (ix2 (ctxE i) (hl h d : Fin 512)) * x4 (ix2 (ctxE k) (hl h d : Fin 512)) := by
  pointwise [val_main_v88, val_main_v87, val_main_v86, val_main_v84, val_main_v47, val_main_v5]
  rfl

theorem v121_at (k : Fin 4352) (h : Fin 4) (d : Fin 128) :
    (val_main_v121 (F := Ideal) x0 x1 x2 x3 x5 (ix3 k h d) : EReal)
      = ∑ i : Fin 4096, x5 (ix2 (latE i) (hl h d : Fin 512)) * rP (sL x0 x2 x1 x3 h i) k := by
  simp only [← v37_at]
  unfold val_main_v121 val_main_v120
  generalize val_main_v37 (F := Ideal) x0 x1 x2 x3 = y
  pointwise [val_main_v118, val_main_v85, val_main_v84]
  rfl

theorem v42_at (i : Fin 4096) (h : Fin 4) (d : Fin 128) :
    (val_main_v42 (F := Ideal) x0 x1 x2 x3 x4 (ix3 i h d) : EReal)
      = ∑ k : Fin 4352, x4 (ix2 k (hl h d : Fin 512)) * rP (sL x0 x2 x1 x3 h i) k := by
  simp only [← v37_at]
  unfold val_main_v42 val_main_v41
  generalize val_main_v37 (F := Ideal) x0 x1 x2 x3 = y
  pointwise [val_main_v5]
  rfl

theorem v82_at (i : Fin 256) (h : Fin 4) (d : Fin 128) :
    (val_main_v82 (F := Ideal) x0 x1 x2 x3 x4 (ix3 i h d) : EReal)
      = ∑ k : Fin 256, x4 (ix2 (ctxE k) (hl h d : Fin 512)) * rP (sC x0 x2 x1 x3 h i) k := by
  simp only [← v77_at]
  unfold val_main_v82 val_main_v81
  generalize val_main_v77 (F := Ideal) x0 x1 x2 x3 = y
  pointwise [val_main_v47, val_main_v5]
  rfl

theorem v138_at (k : Fin 4352) (h : Fin 4) (d : Fin 64) :
    (val_main_v138 (F := Ideal) x0 x1 x2 x3 x4 x5 (ix3 k h d) : EReal)
      = ∑ i : Fin 4096, rDs (sL x0 x2 x1 x3 h i) (dL x4 x5 h i) k * x1 (ix2 (latE i) (hl h d : Fin 256)) := by
  simp only [← v136_at]
  unfold val_main_v138 val_main_v137
  generalize val_main_v136 (F := Ideal) x0 x1 x2 x3 x4 x5 = y
  pointwise [val_main_v7, val_main_v1]
  rfl

theorem v143_at (k : Fin 4352) (h : Fin 4) (d : Fin 128) :
    (val_main_v143 (F := Ideal) x0 x1 x2 x3 x4 x5 (ix3 k h d) : EReal)
      = ∑ i : Fin 4096, rDs (sL x0 x2 x1 x3 h i) (dL x4 x5 h i) k * x0 (ix2 (latE i) (hl h d : Fin 512)) := by
  simp only [← v136_at]
  unfold val_main_v143 val_main_v142
  generalize val_main_v136 (F := Ideal) x0 x1 x2 x3 x4 x5 = y
  pointwise [val_main_v6, val_main_v0]
  rfl

theorem v141_at (i : Fin 4096) (h : Fin 4) (d : Fin 64) :
    (val_main_v141 (F := Ideal) x0 x1 x2 x3 x4 x5 (ix3 i h d) : EReal)
      = ∑ k : Fin 4352, rDs (sL x0 x2 x1 x3 h i) (dL x4 x5 h i) k * x3 (ix2 k d) := by
  simp only [← v136_at]
  unfold val_main_v141 val_main_v140
  generalize val_main_v136 (F := Ideal) x0 x1 x2 x3 x4 x5 = y
  pointwise [val_main_v4, val_main_v3]

theorem v146_at (i : Fin 4096) (h : Fin 4) (d : Fin 128) :
    (val_main_v146 (F := Ideal) x0 x1 x2 x3 x4 x5 (ix3 i h d) : EReal)
      = ∑ k : Fin 4352, rDs (sL x0 x2 x1 x3 h i) (dL x4 x5 h i) k * x2 (ix2 k (hl h d : Fin 512)) := by
  simp only [← v136_at]
  unfold val_main_v146 val_main_v145
  generalize val_main_v136 (F := Ideal) x0 x1 x2 x3 x4 x5 = y
  pointwise [val_main_v2]
  rfl

theorem v90_at (k : Fin 256) (h : Fin 4) (d : Fin 128) :
    (val_main_v90 (F := Ideal) x0 x1 x2 x3 x5 (ix3 k h d) : EReal)
      = ∑ i : Fin 256, x5 (ix2 (ctxE i) (hl h d : Fin 512)) * rP (sC x0 x2 x1 x3 h i) k := by
  simp only [← v77_at]
  unfold val_main_v90 val_main_v89
  generalize val_main_v77 (F := Ideal) x0 x1 x2 x3 = y
  pointwise [val_main_v87, val_main_v86, val_main_v84]
  rfl

theorem v106_at (k : Fin 256) (h : Fin 4) (d : Fin 64) :
    (val_main_v106 (F := Ideal) x0 x1 x2 x3 x4 x5 (ix3 k h d) : EReal)
      = ∑ i : Fin 256, rDs (sC x0 x2 x1 x3 h i) (dC x4 x5 h i) k * x1 (ix2 (ctxE i) (hl h d : Fin 256)) := by
  simp only [← v104_at]
  unfold val_main_v106 val_main_v105
  generalize val_main_v104 (F := Ideal) x0 x1 x2 x3 x4 x5 = y
  pointwise [val_main_v44, val_main_v1]
  rfl

theorem v110_at (k : Fin 256) (h : Fin 4) (d : Fin 128) :
    (val_main_v110 (F := Ideal) x0 x1 x2 x3 x4 x5 (ix3 k h d) : EReal)
      = ∑ i : Fin 256, rDs (sC x0 x2 x1 x3 h i) (dC x4 x5 h i) k * x0 (ix2 (ctxE i) (hl h d : Fin 512)) := by
  simp only [← v104_at]
  unfold val_main_v110 val_main_v109
  generalize val_main_v104 (F := Ideal) x0 x1 x2 x3 x4 x5 = y
  pointwise [val_main_v43, val_main_v0]
  rfl

theorem v108_at (i : Fin 256) (h : Fin 4) (d : Fin 64) :
    (val_main_v108 (F := Ideal) x0 x1 x2 x3 x4 x5 (ix3 i h d) : EReal)
      = ∑ k : Fin 256, rDs (sC x0 x2 x1 x3 h i) (dC x4 x5 h i) k * x3 (ix2 (ctxE k) d) := by
  simp only [← v104_at]
  unfold val_main_v108 val_main_v107
  generalize val_main_v104 (F := Ideal) x0 x1 x2 x3 x4 x5 = y
  pointwise [val_main_v46, val_main_v4, val_main_v3]
  rfl

theorem v112_at (i : Fin 256) (h : Fin 4) (d : Fin 128) :
    (val_main_v112 (F := Ideal) x0 x1 x2 x3 x4 x5 (ix3 i h d) : EReal)
      = ∑ k : Fin 256, rDs (sC x0 x2 x1 x3 h i) (dC x4 x5 h i) k * x2 (ix2 (ctxE k) (hl h d : Fin 512)) := by
  simp only [← v104_at]
  unfold val_main_v112 val_main_v111
  generalize val_main_v104 (F := Ideal) x0 x1 x2 x3 x4 x5 = y
  pointwise [val_main_v45, val_main_v2]
  rfl

end Cert.Mla.Ref

end
-- ==== Proof.RefSpec.lean ====
/-
  The reference program's results, at finite arguments, are the attention and its gradient of `Spec.lean`.
-/
module

public import proofs.«01_k».proof.Proof.Ref2

@[expose] public section

set_option maxRecDepth 16384

noncomputable section

namespace Cert.Mla.Ref

open Idealize.ShloMosaic Idealize.ShloMosaic.TcCoe Cert.ReferenceIdeal Cert.ReferenceIdeal.Read

variable (x0 x2 x4 x5 : A512) (x1 : A256) (x3 : A64) (A : Args) (H : A.Of x0 x1 x2 x3 x4 x5)

section rows
include H

theorem sL_eq (h : Fin 4) (i : Fin 4096) : sL x0 x2 x1 x3 h i = fun k => (A.s h (latE i) k : EReal) := by
  funext k
  refine (v12_at ..).trans ?_
  simp only [H.e0, H.e1, H.e2, H.e3, coe_dot, ← EReal.coe_add, ← EReal.coe_mul]
  rfl
theorem sC_eq (h : Fin 4) (i : Fin 256) : sC x0 x2 x1 x3 h i = fun k => (A.s h (ctxE i) (ctxE k) : EReal) := by
  funext k
  refine (v52_at ..).trans ?_
  simp only [H.e0, H.e1, H.e2, H.e3, coe_dot, ← EReal.coe_add, ← EReal.coe_mul]
  rfl
theorem dL_eq (h : Fin 4) (i : Fin 4096) : dL x4 x5 h i = fun k => (A.dp h (latE i) k : EReal) := by
  funext k
  refine (v119_at ..).trans ?_
  simp only [H.e4, H.e5, coe_dot]
  rfl
theorem dC_eq (h : Fin 4) (i : Fin 256) : dC x4 x5 h i = fun k => (A.dp h (ctxE i) (ctxE k) : EReal) := by
  funext k
  refine (v88_at ..).trans ?_
  simp only [H.e4, H.e5, coe_dot]
  rfl

theorem wL_eq (h : Fin 4) (i : Fin 4096) (k : Fin 4352) : rP (sL x0 x2 x1 x3 h i) k = (A.w h (latE i) k : EReal) := by
  rw [sL_eq x0 x2 x4 x5 x1 x3 A H, rP_real, A.w_lat]
theorem wC_eq (h : Fin 4) (i k : Fin 256) : rP (sC x0 x2 x1 x3 h i) k = (A.w h (ctxE i) (ctxE k) : EReal) := by
  rw [sC_eq x0 x2 x4 x5 x1 x3 A H, rP_real, A.w_ctx]
theorem dsL_eq (h : Fin 4) (i : Fin 4096) (k : Fin 4352) :
    rDs (sL x0 x2 x1 x3 h i) (dL x4 x5 h i) k = (A.ds h (latE i) k : EReal) := by
  rw [sL_eq x0 x2 x4 x5 x1 x3 A H, dL_eq x0 x2 x4 x5 x1 x3 A H, rDs_real, A.ds_lat]
theorem dsC_eq (h : Fin 4) (i k : Fin 256) :
    rDs (sC x0 x2 x1 x3 h i) (dC x4 x5 h i) k = (A.ds h (ctxE i) (ctxE k) : EReal) := by
  rw [sC_eq x0 x2 x4 x5 x1 x3 A H, dC_eq x0 x2 x4 x5 x1 x3 A H, rDs_real, A.ds_ctx]

end rows

/-! ## The paddings -/

section pads
variable (v : S_.Idx → EReal) (hv : ∀ i, v i = 0)
include hv

theorem padLo_lat {D : ℕ} (y : (⟨3, ![256, 4, D]⟩ : Shape).Idx → EReal) (hp : (⟨3, ![256, 4, D]⟩ : Shape).Pads ![4096, 0, 0] ![0, 0, 0] ![0, 0, 0] ⟨3, ![4352, 4, D]⟩)
    (hu : 0 < S_.numel) (i : Fin 4096) (h : Fin 4) (d : Fin D) :
    pad (⟨3, ![4352, 4, D]⟩ : Shape) ![4096, 0, 0] ![0, 0, 0] ![0, 0, 0] y v hp hu (ix3 (latE i) h d) = 0 := by
  rw [pad_apply_of_not_inside _ _ _ _ _ hp hu _ (0 : Fin 3) (fun hh => by
    have := hh.1
    have e : ((ix3 (latE i) h d : (⟨3, ![4352, 4, D]⟩ : Shape).Idx) ((0 : Fin 3).cast hp.1)).val = i.val := rfl
    rw [e] at this
    have := i.isLt
    simp at *
    omega), hv]

theorem padLo_ctx {D : ℕ} (y : (⟨3, ![256, 4, D]⟩ : Shape).Idx → EReal) (hp : (⟨3, ![256, 4, D]⟩ : Shape).Pads ![4096, 0, 0] ![0, 0, 0] ![0, 0, 0] ⟨3, ![4352, 4, D]⟩)
    (hu : 0 < S_.numel) (i : Fin 256) (h : Fin 4) (d : Fin D) :
    pad (⟨3, ![4352, 4, D]⟩ : Shape) ![4096, 0, 0] ![0, 0, 0] ![0, 0, 0] y v hp hu (ix3 (ctxE i) h d) = y (ix3 i h d) := by
  refine pad_apply_of_inside _ _ _ _ _ hp hu _ _ fun a => ?_
  fin_cases a
  · show 4096 + i.val = 4096 + i.val * 1; omega
  · show h.val = 0 + h.val * 1; omega
  · show d.val = 0 + d.val * 1; omega

theorem padHi_lat {D : ℕ} (y : (⟨3, ![4096, 4, D]⟩ : Shape).Idx → EReal) (hp : (⟨3, ![4096, 4, D]⟩ : Shape).Pads ![0, 0, 0] ![256, 0, 0] ![0, 0, 0] ⟨3, ![4352, 4, D]⟩)
    (hu : 0 < S_.numel) (i : Fin 4096) (h : Fin 4) (d : Fin D) :
    pad (⟨3, ![4352, 4, D]⟩ : Shape) ![0, 0, 0] ![256, 0, 0] ![0, 0, 0] y v hp hu (ix3 (latE i) h d) = y (ix3 i h d) := by
  refine pad_apply_of_inside _ _ _ _ _ hp hu _ _ fun a => ?_
  fin_cases a
  · show i.val = 0 + i.val * 1; omega
  · show h.val = 0 + h.val * 1; omega
  · show d.val = 0 + d.val * 1; omega

theorem padHi_ctx {D : ℕ} (y : (⟨3, ![4096, 4, D]⟩ : Shape).Idx → EReal) (hp : (⟨3, ![4096, 4, D]⟩ : Shape).Pads ![0, 0, 0] ![256, 0, 0] ![0, 0, 0] ⟨3, ![4352, 4, D]⟩)
    (hu : 0 < S_.numel) (i : Fin 256) (h : Fin 4) (d : Fin D) :
    pad (⟨3, ![4352, 4, D]⟩ : Shape) ![0, 0, 0] ![256, 0, 0] ![0, 0, 0] y v hp hu (ix3 (ctxE i) h d) = 0 := by
  rw [pad_apply_of_not_inside _ _ _ _ _ hp hu _ (0 : Fin 3) (fun hh => by
    have := hh.2.2
    have e : ((ix3 (ctxE i) h d : (⟨3, ![4352, 4, D]⟩ : Shape).Idx) ((0 : Fin 3).cast hp.1)).val = 4096 + i.val := rfl
    rw [e] at this
    simp at *), hv]

/-- The share of the context rows, padded, and that of the latent rows make a sum over all rows, -/
theorem key_sum {D : ℕ} (y : (⟨3, ![256, 4, D]⟩ : Shape).Idx → EReal) (hp : (⟨3, ![256, 4, D]⟩ : Shape).Pads ![4096, 0, 0] ![0, 0, 0] ![0, 0, 0] ⟨3, ![4352, 4, D]⟩)
    (hu : 0 < S_.numel) (z : EReal) (G : Fin 4352 → Fin 4352 → ℝ) (hG : ∀ i k, G (ctxE i) (latE k) = 0) (k : Fin 4352) (h : Fin 4) (d : Fin D)
    (hy : ∀ k : Fin 256, y (ix3 k h d) = ((∑ i, G (ctxE i) (ctxE k) : ℝ) : EReal)) (hz : z = ((∑ i, G (latE i) k : ℝ) : EReal)) :
    pad (⟨3, ![4352, 4, D]⟩ : Shape) ![4096, 0, 0] ![0, 0, 0] ![0, 0, 0] y v hp hu (ix3 k h d) + z = ((∑ i, G i k : ℝ) : EReal) := by
  rw [hz, sum_rows]
  rcases row_cases k with ⟨k, rfl⟩ | ⟨k, rfl⟩
  · rw [padLo_lat v hv]
    simp only [hG, Finset.sum_const_zero, add_zero, zero_add]
  · rw [padLo_ctx v hv, hy, ← EReal.coe_add, add_comm]

/-- and the two parts of the gradient of the queries a sum over all keys. -/
theorem qry_sum {D : ℕ} (w : S_.Idx → EReal) (hw : ∀ i, w i = 0) (y : (⟨3, ![256, 4, D]⟩ : Shape).Idx → EReal) (hp : (⟨3, ![256, 4, D]⟩ : Shape).Pads ![4096, 0, 0] ![0, 0, 0] ![0, 0, 0] ⟨3, ![4352, 4, D]⟩)
    (z : (⟨3, ![4096, 4, D]⟩ : Shape).Idx → EReal) (hq : (⟨3, ![4096, 4, D]⟩ : Shape).Pads ![0, 0, 0] ![256, 0, 0] ![0, 0, 0] ⟨3, ![4352, 4, D]⟩)
    (hu hu' : 0 < S_.numel) (G : Fin 4352 → Fin 4352 → ℝ) (hG : ∀ i k, G (ctxE i) (latE k) = 0) (i : Fin 4352) (h : Fin 4) (d : Fin D)
    (hy : ∀ i : Fin 256, y (ix3 i h d) = ((∑ k, G (ctxE i) (ctxE k) : ℝ) : EReal))
    (hz : ∀ i : Fin 4096, z (ix3 i h d) = ((∑ k, G (latE i) k : ℝ) : EReal)) :
    pad (⟨3, ![4352, 4, D]⟩ : Shape) ![4096, 0, 0] ![0, 0, 0] ![0, 0, 0] y v hp hu (ix3 i h d)
      + pad (⟨3, ![4352, 4, D]⟩ : Shape) ![0, 0, 0] ![256, 0, 0] ![0, 0, 0] z w hq hu' (ix3 i h d) = ((∑ k, G i k : ℝ) : EReal) := by
  rcases row_cases i with ⟨i, rfl⟩ | ⟨i, rfl⟩
  · rw [padLo_lat v hv, padHi_lat w hw, hz, zero_add]
  · rw [padLo_ctx v hv, padHi_ctx w hw, hy, add_zero, sum_rows]
    simp only [hG, Finset.sum_const_zero, zero_add]

end pads

theorem cst_zero (i : S_.Idx) : (constant S_ .f32 0x00000000#32 : FVec Ideal S_ .f32) i = 0 := Ideal.ofBits_zero_f32

/-! ## The results in three axes -/

section res
include H

theorem v122_at (k : Fin 4352) (h : Fin 4) (d : Fin 128) :
    (val_main_v122 (F := Ideal) x0 x1 x2 x3 x5 (ix3 k h d) : EReal) = (A.dv h k d : EReal) := by
  refine key_sum _ cst_zero _ _ _ _ (fun i k => A.w h i k * A.a5 i (hl h d)) (fun i k => by simp only [A.w_hidden, zero_mul]) k h d (fun k => ?_) ?_
  · refine (v90_at x0 x2 x5 x1 x3 k h d).trans ?_
    simp only [wC_eq x0 x2 x4 x5 x1 x3 A H, H.e5, coe_dot, mul_comm]
  · refine (v121_at x0 x2 x5 x1 x3 k h d).trans ?_
    simp only [wL_eq x0 x2 x4 x5 x1 x3 A H, H.e5, coe_dot, mul_comm]

theorem v139_at (k : Fin 4352) (h : Fin 4) (d : Fin 64) :
    (val_main_v139 (F := Ideal) x0 x1 x2 x3 x4 x5 (ix3 k h d) : EReal) = ((∑ i, A.ds h i k * A.a1 i (hl h d) : ℝ) : EReal) := by
  refine key_sum _ cst_zero _ _ _ _ (fun i k => A.ds h i k * A.a1 i (hl h d)) (fun i k => by simp only [A.ds_hidden, zero_mul]) k h d (fun k => ?_) ?_
  · refine (v106_at x0 x2 x4 x5 x1 x3 k h d).trans ?_
    simp only [dsC_eq x0 x2 x4 x5 x1 x3 A H, H.e1, coe_dot]
  · refine (v138_at x0 x2 x4 x5 x1 x3 k h d).trans ?_
    simp only [dsL_eq x0 x2 x4 x5 x1 x3 A H, H.e1, coe_dot]

theorem v144_at (k : Fin 4352) (h : Fin 4) (d : Fin 128) :
    (val_main_v144 (F := Ideal) x0 x1 x2 x3 x4 x5 (ix3 k h d) : EReal) = ((∑ i, A.ds h i k * A.a0 i (hl h d) : ℝ) : EReal) := by
  refine key_sum _ cst_zero _ _ _ _ (fun i k => A.ds h i k * A.a0 i (hl h d)) (fun i k => by simp only [A.ds_hidden, zero_mul]) k h d (fun k => ?_) ?_
  · refine (v110_at x0 x2 x4 x5 x1 x3 k h d).trans ?_
    simp only [dsC_eq x0 x2 x4 x5 x1 x3 A H, H.e0, coe_dot]
  · refine (v143_at x0 x2 x4 x5 x1 x3 k h d).trans ?_
    simp only [dsL_eq x0 x2 x4 x5 x1 x3 A H, H.e0, coe_dot]

theorem v148_at (i : Fin 4352) (h : Fin 4) (d : Fin 64) :
    (val_main_v148 (F := Ideal) x0 x1 x2 x3 x4 x5 (ix3 i h d) : EReal) = ((∑ k, A.ds h i k * A.a3 k d : ℝ) : EReal) := by
  refine qry_sum _ cst_zero _ cst_zero _ _ _ _ _ _ (fun i k => A.ds h i k * A.a3 k d) (fun i k => by simp only [A.ds_hidden, zero_mul]) i h d (fun i => ?_) (fun i => ?_)
  · refine (v108_at x0 x2 x4 x5 x1 x3 i h d).trans ?_
    simp only [dsC_eq x0 x2 x4 x5 x1 x3 A H, H.e3, coe_dot]
  · refine (v141_at x0 x2 x4 x5 x1 x3 i h d).trans ?_
    simp only [dsL_eq x0 x2 x4 x5 x1 x3 A H, H.e3, coe_dot]

theorem v150_at (i : Fin 4352) (h : Fin 4) (d : Fin 128) :
    (val_main_v150 (F := Ideal) x0 x1 x2 x3 x4 x5 (ix3 i h d) : EReal) = ((∑ k, A.ds h i k * A.a2 k (hl h d) : ℝ) : EReal) := by
  refine qry_sum _ cst_zero _ cst_zero _ _ _ _ _ _ (fun i k => A.ds h i k * A.a2 k (hl h d)) (fun i k => by simp only [A.ds_hidden, zero_mul]) i h d (fun i => ?_) (fun i => ?_)
  · refine (v112_at x0 x2 x4 x5 x1 x3 i h d).trans ?_
    simp only [dsC_eq x0 x2 x4 x5 x1 x3 A H, H.e2, coe_dot]
  · refine (v146_at x0 x2 x4 x5 x1 x3 i h d).trans ?_
    simp only [dsL_eq x0 x2 x4 x5 x1 x3 A H, H.e2, coe_dot]

/-! ## The results -/

theorem v83_at (i : Fin 4352) (h : Fin 4) (d : Fin 128) :
    (val_main_v83 (F := Ideal) x0 x1 x2 x3 x4 (ix3 i h d) : EReal) = (A.o h i d : EReal) := by
  have eL := fun i => v42_at x0 x2 x4 x1 x3 i h d
  have eC := fun i => v82_at x0 x2 x4 x1 x3 i h d
  simp only [wL_eq x0 x2 x4 x5 x1 x3 A H, H.e4, coe_dot] at eL
  simp only [wC_eq x0 x2 x4 x5 x1 x3 A H, H.e4, coe_dot] at eC
  unfold val_main_v83
  generalize val_main_v42 (F := Ideal) x0 x1 x2 x3 x4 = y at eL ⊢
  generalize val_main_v82 (F := Ideal) x0 x1 x2 x3 x4 = z at eC ⊢
  rcases row_cases i with ⟨i, rfl⟩ | ⟨i, rfl⟩
  · have h1 : (latE i).val < 4096 := i.isLt
    pointwise
    simp only [h1, dite_true]
    refine (eL i).trans (congrArg _ (Finset.sum_congr rfl fun k _ => mul_comm _ _))
  · have h1 : ¬(ctxE i).val < 4096 := by show ¬4096 + i.val < 4096; omega
    pointwise
    simp only [h1, dite_false]
    have e : (ctxE i).val - 4096 = i.val := by show 4096 + i.val - 4096 = i.val; omega
    simp only [e]
    refine (eC i).trans (congrArg _ ?_)
    unfold Args.o
    rw [sum_rows]
    simp only [A.w_hidden, zero_mul, Finset.sum_const_zero, zero_add]
    exact Finset.sum_congr rfl fun k _ => mul_comm _ _

theorem v159_at (i : Fin 4352) (h : Fin 4) (d : Fin 128) :
    (val_main_v159 (F := Ideal) x0 x1 x2 x3 x4 (ix2 i (hl h d : Fin 512)) : EReal) = (A.o h i d : EReal) := by
  rw [← v83_at x0 x2 x4 x5 x1 x3 A H]
  unfold val_main_v159 val_main_v158
  generalize val_main_v83 (F := Ideal) x0 x1 x2 x3 x4 = y
  pointwise
  exact congrArg y (congrArg₂ (ix3 i) (Fin.ext (hl_div h d)) (Fin.ext (hl_mod h d)))

theorem v157_at (k : Fin 4352) (h : Fin 4) (d : Fin 128) :
    (val_main_v157 (F := Ideal) x0 x1 x2 x3 x5 (ix2 k (hl h d : Fin 512)) : EReal) = (A.dv h k d : EReal) := by
  rw [← v122_at x0 x2 x4 x5 x1 x3 A H]
  unfold val_main_v157
  generalize val_main_v122 (F := Ideal) x0 x1 x2 x3 x5 = y
  pointwise
  exact congrArg y (congrArg₂ (ix3 k) (Fin.ext (hl_div h d)) (Fin.ext (hl_mod h d)))

theorem v156_at (k : Fin 4352) (h : Fin 4) (d : Fin 256) :
    (val_main_v156 (F := Ideal) x0 x1 x2 x3 x4 x5 (ix2 k (hl h d : Fin 1024)) : EReal) = (A.dk h k d : EReal) := by
  have e1 := v144_at x0 x2 x4 x5 x1 x3 A H k h
  have e2 := v139_at x0 x2 x4 x5 x1 x3 A H k h
  have e : (val_main_v155 (F := Ideal) x0 x1 x2 x3 x4 x5 (ix3 k h d) : EReal) = (A.dk h k d : EReal) := by
    unfold val_main_v155
    generalize val_main_v144 (F := Ideal) x0 x1 x2 x3 x4 x5 = y at e1 ⊢
    generalize val_main_v139 (F := Ideal) x0 x1 x2 x3 x4 x5 = z at e2 ⊢
    pointwise [val_main_v154, val_main_cst_35]
    unfold Args.dk Args.q
    by_cases h1 : d.val < 128
    · simp only [h1, dite_true, e1]
    · by_cases h2 : d.val - 128 < 64
      · simp only [h1, h2, dite_true, dite_false, e2]
      · simp only [h1, h2, dite_false, mul_zero, Finset.sum_const_zero, EReal.coe_zero]
  rw [← e]
  unfold val_main_v156
  generalize val_main_v155 (F := Ideal) x0 x1 x2 x3 x4 x5 = y
  pointwise
  exact congrArg y (congrArg₂ (ix3 k) (Fin.ext (hl_div h d)) (Fin.ext (hl_mod h d)))

theorem v153_at (i : Fin 4352) (h : Fin 4) (d : Fin 256) :
    (val_main_v153 (F := Ideal) x0 x1 x2 x3 x4 x5 (ix2 i (hl h d : Fin 1024)) : EReal) = (A.dq h i d : EReal) := by
  have e1 := v150_at x0 x2 x4 x5 x1 x3 A H i h
  have e2 := v148_at x0 x2 x4 x5 x1 x3 A H i h
  have e : (val_main_v152 (F := Ideal) x0 x1 x2 x3 x4 x5 (ix3 i h d) : EReal) = (A.dq h i d : EReal) := by
    unfold val_main_v152
    generalize val_main_v150 (F := Ideal) x0 x1 x2 x3 x4 x5 = y at e1 ⊢
    generalize val_main_v148 (F := Ideal) x0 x1 x2 x3 x4 x5 = z at e2 ⊢
    pointwise [val_main_v151, val_main_cst_34]
    unfold Args.dq Args.k
    by_cases h1 : d.val < 128
    · simp only [h1, dite_true, e1]
    · by_cases h2 : d.val - 128 < 64
      · simp only [h1, h2, dite_true, dite_false, e2]
      · simp only [h1, h2, dite_false, mul_zero, Finset.sum_const_zero, EReal.coe_zero]
  rw [← e]
  unfold val_main_v153
  generalize val_main_v152 (F := Ideal) x0 x1 x2 x3 x4 x5 = y
  pointwise
  exact congrArg y (congrArg₂ (ix3 i) (Fin.ext (hl_div h d)) (Fin.ext (hl_mod h d)))

end res

end Cert.Mla.Ref

end
-- ==== Proof.MlaClaims.lean ====
/-
  The claims about the attention and its gradient. The precondition makes every argument an array of
  real numbers; over the reals the kernel's four results (`KerSpec.lean`) and the reference's
  (`RefSpec.lean`) are the arrays of `Spec.lean`.
-/
module

public import proofs.«01_k».proof.Defs
public import proofs.«01_k».proof.Proof.KerSpec
public import proofs.«01_k».proof.Proof.RefSpec
public import proofs.«01_k».proof.Proof.Gen.Kernel.Frame
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.Mla

/-- The side conditions the precondition's operations state. -/
theorem preFacts : Cert.Pre_finite.Facts where
  bcast_S_S4352x512 := by decide
  bcast_S_S4352x256 := by decide
  bcast_S_S4352x64 := by decide

/-- A number whose absolute value compares below infinity is a real number. -/
theorem real_of_lt (x : EReal)
    (h : Ideal.cmp .olt (max x (-x)) (FloatOps.ofBits (F := Ideal) .f32 0x7F800000#32) = 1#1) : x = ((x.toReal : ℝ) : EReal) := by
  rw [show FloatOps.ofBits (F := Ideal) .f32 0x7F800000#32 = (⊤ : EReal) from ofBits_inf] at h
  have h2 : max x (-x) < ⊤ := by
    by_contra hc
    simp [Ideal.cmp, hc] at h
  refine (EReal.coe_toReal ?_ ?_).symm
  · rintro rfl
    simp at h2
  · rintro rfl
    simp at h2

theorem real_at {s : Shape} (x : FVec Ideal s .f32) (hb : (⟨0, ![]⟩ : Shape).BroadcastsInDim s (![] : Fin 0 → Fin s.rank))
    (h : cmpf .olt (Host.absf x) (broadcastInDim s ![] hb (constant (⟨0, ![]⟩ : Shape) .f32 0x7F800000#32 : FVec Ideal ⟨0, ![]⟩ .f32)) = fun _ => 1#1)
    (i : s.Idx) : (show EReal from x i) = (((show EReal from x i).toReal : ℝ) : EReal) :=
  real_of_lt _ (congrFun h i)

section

variable (m : (ℓ : Loc Cert.KernelIdeal.nD Cert.KernelIdeal.τ Cert.KernelIdeal.sig) → Buf (Elt Ideal) ℓ)
  (c : Dev Cert.KernelIdeal.nD)

/-- The real arrays of a device's arguments. -/
def argsOf : Args where
  a0 i j := (show Cert.KernelIdeal.S4352x512.Idx → EReal from m ((c : Thread Cert.KernelIdeal.nD Cert.KernelIdeal.τ).loc Cert.KernelIdeal.main_arg0)) (ix2 i j) |>.toReal
  a1 i j := (show Cert.KernelIdeal.S4352x256.Idx → EReal from m ((c : Thread Cert.KernelIdeal.nD Cert.KernelIdeal.τ).loc Cert.KernelIdeal.main_arg1)) (ix2 i j) |>.toReal
  a2 i j := (show Cert.KernelIdeal.S4352x512.Idx → EReal from m ((c : Thread Cert.KernelIdeal.nD Cert.KernelIdeal.τ).loc Cert.KernelIdeal.main_arg2)) (ix2 i j) |>.toReal
  a3 i j := (show Cert.KernelIdeal.S4352x64.Idx → EReal from m ((c : Thread Cert.KernelIdeal.nD Cert.KernelIdeal.τ).loc Cert.KernelIdeal.main_arg3)) (ix2 i j) |>.toReal
  a4 i j := (show Cert.KernelIdeal.S4352x512.Idx → EReal from m ((c : Thread Cert.KernelIdeal.nD Cert.KernelIdeal.τ).loc Cert.KernelIdeal.main_arg4)) (ix2 i j) |>.toReal
  a5 i j := (show Cert.KernelIdeal.S4352x512.Idx → EReal from m ((c : Thread Cert.KernelIdeal.nD Cert.KernelIdeal.τ).loc Cert.KernelIdeal.main_arg5)) (ix2 i j) |>.toReal

theorem argsOf_of (h : Cert.Pre_KernelIdeal_finite (hPre_finite := preFacts) m) :
    (argsOf m c).Of (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)) where
  e0 i j := real_at (s := ⟨2, ![4352, 512]⟩) _ preFacts.bcast_S_S4352x512 (h c).1 (ix2 i j)
  e1 i j := real_at (s := ⟨2, ![4352, 256]⟩) _ preFacts.bcast_S_S4352x256 (h c).2.1 (ix2 i j)
  e2 i j := real_at (s := ⟨2, ![4352, 512]⟩) _ preFacts.bcast_S_S4352x512 (h c).2.2.1 (ix2 i j)
  e3 i j := real_at (s := ⟨2, ![4352, 64]⟩) _ preFacts.bcast_S_S4352x64 (h c).2.2.2.1 (ix2 i j)
  e4 i j := real_at (s := ⟨2, ![4352, 512]⟩) _ preFacts.bcast_S_S4352x512 (h c).2.2.2.2.1 (ix2 i j)
  e5 i j := real_at (s := ⟨2, ![4352, 512]⟩) _ preFacts.bcast_S_S4352x512 (h c).2.2.2.2.2 (ix2 i j)

end

/-- Two arrays of `4 * n` lanes per row that agree at every lane of every head are equal. -/
theorem ext_heads {n : ℕ} {f g : (⟨2, ![4352, 4 * n]⟩ : Shape).Idx → EReal}
    (h : ∀ i (k : Fin 4) (d : Fin n), f (ix2 i (hl k d)) = g (ix2 i (hl k d))) : f = g := by
  funext j
  have e : ∀ (a : Fin 4352) (b : Fin (4 * n)), f (ix2 a b) = g (ix2 a b) := fun a b => by
    have := h a (hdOf b) (lnOf b)
    rwa [hl_hdOf] at this
  have ej : j = ix2 (n0 := 4352) (n1 := 4 * n) (j 0) (j 1) := by
    funext a
    fin_cases a <;> rfl
  rw [ej]
  exact e _ _

theorem frame_p : Cert.quiescent_Kernel (hKernel := Cert.Kernel.Gen.facts) := fun m ρ _ => Cert.Kernel.Gen.frame m ρ
theorem frame_pi : Cert.quiescent_KernelIdeal (hKernelIdeal := Cert.KernelIdeal.Gen.facts) := fun m ρ _ => Cert.KernelIdeal.Gen.frame m ρ
theorem frame_pi_pre : Cert.quiescent_KernelIdeal_pre_finite (hKernelIdeal := Cert.KernelIdeal.Gen.facts) (hPre_finite := preFacts) :=
  fun m ρ _ => Cert.KernelIdeal.Gen.frame m ρ

theorem frame_ri : Cert.quiescent_ReferenceIdeal (hReferenceIdeal := Cert.ReferenceIdeal.Gen.facts) := fun m ρ _ =>
  (θ_run Cert.ReferenceIdeal.defs _ _).mono (fun r h => ⟨fun c => (h c).2.2.2.2,
      sem_eq_zero_of_no_sems (by decide) r.2⟩) (Cert.ReferenceIdeal.Value.run (F := Ideal) m ρ)
theorem frame_ri_pre : Cert.quiescent_ReferenceIdeal_pre_finite (hReferenceIdeal := Cert.ReferenceIdeal.Gen.facts) (hPre_finite := preFacts) :=
  fun m ρ _ => (θ_run Cert.ReferenceIdeal.defs _ _).mono (fun r h => ⟨fun c => (h c).2.2.2.2,
      sem_eq_zero_of_no_sems (by decide) r.2⟩) (Cert.ReferenceIdeal.Value.run (F := Ideal) m ρ)

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hagree
  refine ⟨_, _, _, _, Ker.run m ρ, (θ_run Cert.ReferenceIdeal.defs _ _).mono
    (fun _ h c => ⟨(h c).1.trans ?_, (h c).2.1.trans ?_, (h c).2.2.1.trans ?_, (h c).2.2.2.1.trans ?_, (h c).2.2.2.2⟩) (Cert.ReferenceIdeal.Value.run (F := Ideal) m' ρ')⟩
  · refine (Cert.ReferenceIdeal.Read.val_main_v153_eq _).trans ?_
    obtain ⟨a0, a1, a2, a3, a4, a5⟩ := hagree c
    refine (congr (congr (congr (congr (congr (congrArg (Cert.ReferenceIdeal.Read.val_main_v153 (F := Ideal)) a0) a1) a2) a3) a4) a5).trans ?_
    exact ext_heads (n := 256) fun i k d => (Ref.v153_at _ _ _ _ _ _ (argsOf m c) (argsOf_of m c hpre) i k d).trans
      (Ker.dq_at m ρ c (argsOf m c) (argsOf_of m c hpre) k i d).symm
  · refine (Cert.ReferenceIdeal.Read.val_main_v156_eq _).trans ?_
    obtain ⟨a0, a1, a2, a3, a4, a5⟩ := hagree c
    refine (congr (congr (congr (congr (congr (congrArg (Cert.ReferenceIdeal.Read.val_main_v156 (F := Ideal)) a0) a1) a2) a3) a4) a5).trans ?_
    exact ext_heads (n := 256) fun i k d => (Ref.v156_at _ _ _ _ _ _ (argsOf m c) (argsOf_of m c hpre) i k d).trans
      (Ker.dk_at m ρ c (argsOf m c) (argsOf_of m c hpre) k i d).symm
  · refine (Cert.ReferenceIdeal.Read.val_main_v157_eq _).trans ?_
    obtain ⟨a0, a1, a2, a3, a4, a5⟩ := hagree c
    refine (congr (congr (congr (congr (congrArg (Cert.ReferenceIdeal.Read.val_main_v157 (F := Ideal)) a0) a1) a2) a3) a5).trans ?_
    exact ext_heads (n := 128) fun i k d => (Ref.v157_at _ _ _ _ _ _ (argsOf m c) (argsOf_of m c hpre) i k d).trans
      (Ker.dv_at m ρ c (argsOf m c) (argsOf_of m c hpre) k i d).symm
  · refine (Cert.ReferenceIdeal.Read.val_main_v159_eq _).trans ?_
    obtain ⟨a0, a1, a2, a3, a4, a5⟩ := hagree c
    refine (congr (congr (congr (congr (congrArg (Cert.ReferenceIdeal.Read.val_main_v159 (F := Ideal)) a0) a1) a2) a3) a4).trans ?_
    exact ext_heads (n := 128) fun i k d => (Ref.v159_at _ _ _ _ _ _ (argsOf m c) (argsOf_of m c hpre) i k d).trans
      (Ker.o_at m ρ c (argsOf m c) (argsOf_of m c hpre) k i d).symm

end Cert.Mla

end
-- ==== Proof.OutProd.lean ====
/-
  The output projection and its two gradients: what the three kernels leave in their arrays is the product and the two
  products of its gradient, each a sum over the whole contracted axis; and so does the reference.
-/
module

public import Idealize.ShloMosaic.Lib.Pipeline.ValueKit
public import Idealize.ShloMosaic.Lib.Pointwise
public import Idealize.ShloMosaic.Lib.Claim
public import proofs.«01_k».proof.Proof.Gen.OutIdeal.Frame
public import proofs.«01_k».proof.Proof.Gen.OutRefIdeal.Run
public import proofs.«01_k».proof.Proof.Gen.OutRefIdeal.Read

@[expose] public section

set_option maxRecDepth 16384

noncomputable section

namespace Cert.OutProd

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The product of the two arguments, -/
def prod (a : S4352x2048.Idx → EReal) (b : S2048x2048.Idx → EReal) : S4352x2048.Idx → EReal := fun j => ∑ k : Fin 2048, a (ix2 (j 0) k) * b (ix2 k (j 1))
/-- the gradient of the left one, -/
def gradL (d : S4352x2048.Idx → EReal) (b : S2048x2048.Idx → EReal) : S4352x2048.Idx → EReal := fun j => ∑ k : Fin 2048, d (ix2 (j 0) k) * b (ix2 (j 1) k)
/-- and of the right one. -/
def gradR (a : S4352x2048.Idx → EReal) (d : S4352x2048.Idx → EReal) : S2048x2048.Idx → EReal := fun j => ∑ k : Fin 4352, a (ix2 k (j 0)) * d (ix2 k (j 1))

section regions

variable (V : (c : Dev nD) → (b : Ref sig .tc) → Buf (Elt Ideal) ((c : Thread nD τ).loc b)) (c : Dev nD)

/-! ## The product -/

theorem idx0 : ∀ t : Fin cfg0.N, win0_0.index t = ![t.val, 0] ∧ win0_1.index t = ![0, 0]
    ∧ win0_2.index t = ![t.val, 0] ∧ t.val < 8 :=
  (by decide +kernel : ∀ t : Fin grid0.N, _)
theorem b0_0 (t : Fin cfg0.N) (a : Fin 544) (k : Fin 2048) : (show Vec Ideal S544x2048 .bf16 from iblk0 V c 0 t) (ix2 a k)
    = (show S4352x2048.Idx → EReal from V c main_v0) (ix2 ⟨t.val * 544 + a.val, by have := (idx0 t).2.2.2; omega⟩ k) := by
  have := (idx0 t).2.2.2
  blk_ext [iblk0, idx0 t]

theorem b0_1 (t : Fin cfg0.N) (k : Fin 2048) (b : Fin 2048) : (show Vec Ideal S2048x2048 .bf16 from iblk0 V c 1 t) (ix2 k b)
    = (show S2048x2048.Idx → EReal from V c main_v1) (ix2 k b) := by
  have := (idx0 t).2.2.2
  blk_ext [iblk0, idx0 t]

theorem emb0 (t : Fin cfg0.N) (a : Fin 544) (b : Fin 2048) :
    ((win0_2.blk t).view.emb (ix2 a b) : S4352x2048.Idx) = ix2 ⟨t.val * 544 + a.val, by have := (idx0 t).2.2.2; omega⟩ b := by
  have := (idx0 t).2.2.2
  blk_ext [idx0 t]

theorem pay0 (x : Vec Ideal S544x2048 .bf16) (y : Vec Ideal S2048x2048 .bf16) (a : Fin 544) (b : Fin 2048) :
    (k0_pay1 x y (ix2 a b) : EReal) = ∑ k : Fin 2048, x (ix2 a k) * y (ix2 k b) := by
  pointwise [k0_pay1]

theorem final0 : (dat0 V c).arrAt 2 cfg0.N = prod (V c main_v0) (V c main_v1) := by
  refine (dat0 V c).arrAt_eq_of_covers 2 _ (by decide +kernel) fun t hf y => ?_
  blk_simp
  rw [after0_2]
  frame_out
  idx_vars y
  refine Eq.trans ?_ (congrArg (prod (V c main_v0) (V c main_v1)) (emb0 t y0 y1).symm)
  exact (pay0 _ _ _ _).trans (Finset.sum_congr rfl fun k _ => congrArg₂ (· * ·) (b0_0 V c t y0 k) (b0_1 V c t k y1))

/-! ## The gradient of the left argument -/

theorem idx1 : ∀ t : Fin cfg1.N, win1_0.index t = ![t.val, 0] ∧ win1_1.index t = ![0, 0]
    ∧ win1_2.index t = ![t.val, 0] ∧ t.val < 8 :=
  (by decide +kernel : ∀ t : Fin grid1.N, _)
theorem b1_0 (t : Fin cfg1.N) (a : Fin 544) (k : Fin 2048) : (show Vec Ideal S544x2048 .bf16 from iblk1 V c 0 t) (ix2 a k)
    = (show S4352x2048.Idx → EReal from V c main_v2) (ix2 ⟨t.val * 544 + a.val, by have := (idx1 t).2.2.2; omega⟩ k) := by
  have := (idx1 t).2.2.2
  blk_ext [iblk1, idx1 t]

theorem b1_1 (t : Fin cfg1.N) (k : Fin 2048) (b : Fin 2048) : (show Vec Ideal S2048x2048 .bf16 from iblk1 V c 1 t) (ix2 b k)
    = (show S2048x2048.Idx → EReal from V c main_v1) (ix2 b k) := by
  have := (idx1 t).2.2.2
  blk_ext [iblk1, idx1 t]

theorem emb1 (t : Fin cfg1.N) (a : Fin 544) (b : Fin 2048) :
    ((win1_2.blk t).view.emb (ix2 a b) : S4352x2048.Idx) = ix2 ⟨t.val * 544 + a.val, by have := (idx1 t).2.2.2; omega⟩ b := by
  have := (idx1 t).2.2.2
  blk_ext [idx1 t]

theorem pay1 (x : Vec Ideal S544x2048 .bf16) (y : Vec Ideal S2048x2048 .bf16) (a : Fin 544) (b : Fin 2048) :
    (k1_pay1 x y (ix2 a b) : EReal) = ∑ k : Fin 2048, x (ix2 a k) * y (ix2 b k) := by
  pointwise [k1_pay1]

theorem final1 : (dat1 V c).arrAt 2 cfg1.N = gradL (V c main_v2) (V c main_v1) := by
  refine (dat1 V c).arrAt_eq_of_covers 2 _ (by decide +kernel) fun t hf y => ?_
  blk_simp
  rw [after1_2]
  frame_out
  idx_vars y
  refine Eq.trans ?_ (congrArg (gradL (V c main_v2) (V c main_v1)) (emb1 t y0 y1).symm)
  exact (pay1 _ _ _ _).trans (Finset.sum_congr rfl fun k _ => congrArg₂ (· * ·) (b1_0 V c t y0 k) (b1_1 V c t k y1))

/-! ## The gradient of the right argument -/

theorem idx2 : ∀ t : Fin cfg2.N, win2_0.index t = ![0, t.val / 4] ∧ win2_1.index t = ![0, t.val % 4]
    ∧ win2_2.index t = ![t.val / 4, t.val % 4] ∧ t.val / 4 < 2 :=
  (by decide +kernel : ∀ t : Fin grid2.N, _)
theorem b2_0 (t : Fin cfg2.N) (a : Fin 1024) (k : Fin 4352) : (show Vec Ideal S4352x1024 .bf16 from iblk2 V c 0 t) (ix2 k a)
    = (show S4352x2048.Idx → EReal from V c main_v0) (ix2 k ⟨t.val / 4 * 1024 + a.val, by have := (idx2 t).2.2.2; omega⟩) := by
  have := (idx2 t).2.2.2
  blk_ext [iblk2, idx2 t]

theorem b2_1 (t : Fin cfg2.N) (k : Fin 4352) (b : Fin 512) : (show Vec Ideal S4352x512 .bf16 from iblk2 V c 1 t) (ix2 k b)
    = (show S4352x2048.Idx → EReal from V c main_v2) (ix2 k ⟨t.val % 4 * 512 + b.val, by omega⟩) := by
  have := (idx2 t).2.2.2
  blk_ext [iblk2, idx2 t]

theorem emb2 (t : Fin cfg2.N) (a : Fin 1024) (b : Fin 512) :
    ((win2_2.blk t).view.emb (ix2 a b) : S2048x2048.Idx) = ix2 ⟨t.val / 4 * 1024 + a.val, by have := (idx2 t).2.2.2; omega⟩ ⟨t.val % 4 * 512 + b.val, by omega⟩ := by
  have := (idx2 t).2.2.2
  blk_ext [idx2 t]

theorem pay2 (x : Vec Ideal S4352x1024 .bf16) (y : Vec Ideal S4352x512 .bf16) (a : Fin 1024) (b : Fin 512) :
    (k2_pay1 x y (ix2 a b) : EReal) = ∑ k : Fin 4352, x (ix2 k a) * y (ix2 k b) := by
  pointwise [k2_pay1]

theorem final2 : (dat2 V c).arrAt 2 cfg2.N = gradR (V c main_v0) (V c main_v2) := by
  refine (dat2 V c).arrAt_eq_of_covers 2 _ (by decide +kernel) fun t hf y => ?_
  blk_simp
  rw [after2_2]
  frame_out
  idx_vars y
  refine Eq.trans ?_ (congrArg (gradR (V c main_v0) (V c main_v2)) (emb2 t y0 y1).symm)
  exact (pay2 _ _ _ _).trans (Finset.sum_congr rfl fun k _ => congrArg₂ (· * ·) (b2_0 V c t y0 k) (b2_1 V c t k y1))

end regions

section run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of `main` ends, and leaves the three results at what the regions' write-backs leave and the arguments as
    launched. -/
theorem run : θ_run defs (onTc (τ := τ) (main (F := F))) ⟨m, fun _ => 0, ρ⟩ (fun r => ∀ c : Dev nD,
      r.2.mem ((c.tc : Thread nD τ).loc main_v3) = (dat0 (V1 m ρ) c).arrAt 2 cfg0.N
      ∧ r.2.mem ((c.tc : Thread nD τ).loc main_v4) = (dat1 (V2 m ρ) c).arrAt 2 cfg1.N
      ∧ r.2.mem ((c.tc : Thread nD τ).loc main_v5) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v3 (by decide))).trans ((W4_of m ρ c main_v3 (by decide)).trans ((W3_of m ρ c main_v3 (by decide)).trans (W2_arr m ρ c 2))),
       (h c _ (mem_uc main_v4 (by decide))).trans ((W4_of m ρ c main_v4 (by decide)).trans (W3_arr m ρ c 2)),
       (h c _ (mem_uc main_v5 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end run

section values

variable (m : (ℓ : Loc nD τ sig) → Buf (Elt Ideal) ℓ) (ρ : Dev nD → PrngReg) (c : Dev nD)

theorem V1_0 : V1 m ρ c main_v0 = m ((c : Thread nD τ).loc main_arg0) := rfl
theorem V1_1 : V1 m ρ c main_v1 = m ((c : Thread nD τ).loc main_arg1) := rfl
theorem V1_2 : V1 m ρ c main_v2 = m ((c : Thread nD τ).loc main_arg2) := rfl
theorem V2_1 : V2 m ρ c main_v1 = m ((c : Thread nD τ).loc main_arg1) := (W2_of m ρ c main_v1 (by decide)).trans (V1_1 m ρ c)
theorem V2_2 : V2 m ρ c main_v2 = m ((c : Thread nD τ).loc main_arg2) := (W2_of m ρ c main_v2 (by decide)).trans (V1_2 m ρ c)
theorem V3_0 : V3 m ρ c main_v0 = m ((c : Thread nD τ).loc main_arg0) :=
  (W3_of m ρ c main_v0 (by decide)).trans ((W2_of m ρ c main_v0 (by decide)).trans (V1_0 m ρ c))
theorem V3_2 : V3 m ρ c main_v2 = m ((c : Thread nD τ).loc main_arg2) := (W3_of m ρ c main_v2 (by decide)).trans (V2_2 m ρ c)

theorem res0 : (dat0 (V1 m ρ) c).arrAt 2 cfg0.N = prod (m ((c : Thread nD τ).loc main_arg0)) (m ((c : Thread nD τ).loc main_arg1)) :=
  (final0 (V1 m ρ) c).trans (congrArg₂ prod (V1_0 m ρ c) (V1_1 m ρ c))
theorem res1 : (dat1 (V2 m ρ) c).arrAt 2 cfg1.N = gradL (m ((c : Thread nD τ).loc main_arg2)) (m ((c : Thread nD τ).loc main_arg1)) :=
  (final1 (V2 m ρ) c).trans (congrArg₂ gradL (V2_2 m ρ c) (V2_1 m ρ c))
theorem res2 : (dat2 (V3 m ρ) c).arrAt 2 cfg2.N = gradR (m ((c : Thread nD τ).loc main_arg0)) (m ((c : Thread nD τ).loc main_arg2)) :=
  (final2 (V3 m ρ) c).trans (congrArg₂ gradR (V3_0 m ρ c) (V3_2 m ρ c))

end values

/-! ## The reference -/

section reference

open Cert.OutRefIdeal.Read

theorem ref0 (x0 : S4352x2048.Idx → EReal) (x1 : S2048x2048.Idx → EReal) : val_main_v0 (F := Ideal) x0 x1 = prod x0 x1 := by
  funext j
  idx_vars j
  pointwise [val_main_v0]
  rfl
theorem ref1 (x1 : S2048x2048.Idx → EReal) (x2 : S4352x2048.Idx → EReal) : val_main_v3 (F := Ideal) x1 x2 = gradL x2 x1 := by
  funext j
  idx_vars j
  pointwise [val_main_v3]
  rfl
theorem ref2 (x0 : S4352x2048.Idx → EReal) (x2 : S4352x2048.Idx → EReal) : val_main_v4 (F := Ideal) x0 x2 = gradR x0 x2 := by
  funext j
  idx_vars j
  pointwise [val_main_v4, val_main_v2, val_main_v1]
  exact Finset.sum_congr rfl fun k _ => mul_comm _ _

end reference

end Cert.OutProd

end
-- ==== Proof.InProd.lean ====
/-
  The input projection and its two gradients: what the three kernels leave in their arrays is the product and the two
  products of its gradient, each a sum over the whole contracted axis; and so does the reference.
-/
module

public import Idealize.ShloMosaic.Lib.Pipeline.ValueKit
public import Idealize.ShloMosaic.Lib.Pointwise
public import Idealize.ShloMosaic.Lib.Claim
public import proofs.«01_k».proof.Proof.Gen.InpIdeal.Frame
public import proofs.«01_k».proof.Proof.Gen.InpRefIdeal.Run
public import proofs.«01_k».proof.Proof.Gen.InpRefIdeal.Read

@[expose] public section

set_option maxRecDepth 16384

noncomputable section

namespace Cert.InProd

open Cert.InpIdeal Cert.InpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The product of the two arguments, -/
def prod (a : S4352x2048.Idx → EReal) (b : S2048x3840.Idx → EReal) : S4352x3840.Idx → EReal := fun j => ∑ k : Fin 2048, a (ix2 (j 0) k) * b (ix2 k (j 1))
/-- the gradient of the left one, -/
def gradL (d : S4352x3840.Idx → EReal) (b : S2048x3840.Idx → EReal) : S4352x2048.Idx → EReal := fun j => ∑ k : Fin 3840, d (ix2 (j 0) k) * b (ix2 (j 1) k)
/-- and of the right one. -/
def gradR (a : S4352x2048.Idx → EReal) (d : S4352x3840.Idx → EReal) : S2048x3840.Idx → EReal := fun j => ∑ k : Fin 4352, a (ix2 k (j 0)) * d (ix2 k (j 1))

section regions

variable (V : (c : Dev nD) → (b : Ref sig .tc) → Buf (Elt Ideal) ((c : Thread nD τ).loc b)) (c : Dev nD)

/-! ## The product -/

theorem idx0 : ∀ t : Fin cfg0.N, win0_0.index t = ![t.val / 15, 0] ∧ win0_1.index t = ![0, t.val % 15]
    ∧ win0_2.index t = ![t.val / 15, t.val % 15] ∧ t.val / 15 < 2 :=
  (by decide +kernel : ∀ t : Fin grid0.N, _)
theorem b0_0 (t : Fin cfg0.N) (a : Fin 2176) (k : Fin 2048) : (show Vec Ideal S2176x2048 .bf16 from iblk0 V c 0 t) (ix2 a k)
    = (show S4352x2048.Idx → EReal from V c main_v0) (ix2 ⟨t.val / 15 * 2176 + a.val, by have := (idx0 t).2.2.2; omega⟩ k) := by
  have := (idx0 t).2.2.2
  blk_ext [iblk0, idx0 t]

theorem b0_1 (t : Fin cfg0.N) (k : Fin 2048) (b : Fin 256) : (show Vec Ideal S2048x256 .bf16 from iblk0 V c 1 t) (ix2 k b)
    = (show S2048x3840.Idx → EReal from V c main_v1) (ix2 k ⟨t.val % 15 * 256 + b.val, by omega⟩) := by
  have := (idx0 t).2.2.2
  blk_ext [iblk0, idx0 t]

theorem emb0 (t : Fin cfg0.N) (a : Fin 2176) (b : Fin 256) :
    ((win0_2.blk t).view.emb (ix2 a b) : S4352x3840.Idx) = ix2 ⟨t.val / 15 * 2176 + a.val, by have := (idx0 t).2.2.2; omega⟩ ⟨t.val % 15 * 256 + b.val, by omega⟩ := by
  have := (idx0 t).2.2.2
  blk_ext [idx0 t]

theorem pay0 (x : Vec Ideal S2176x2048 .bf16) (y : Vec Ideal S2048x256 .bf16) (a : Fin 2176) (b : Fin 256) :
    (k0_pay1 x y (ix2 a b) : EReal) = ∑ k : Fin 2048, x (ix2 a k) * y (ix2 k b) := by
  pointwise [k0_pay1]

theorem final0 : (dat0 V c).arrAt 2 cfg0.N = prod (V c main_v0) (V c main_v1) := by
  refine (dat0 V c).arrAt_eq_of_covers 2 _ (by decide +kernel) fun t hf y => ?_
  blk_simp
  rw [after0_2]
  frame_out
  idx_vars y
  refine Eq.trans ?_ (congrArg (prod (V c main_v0) (V c main_v1)) (emb0 t y0 y1).symm)
  exact (pay0 _ _ _ _).trans (Finset.sum_congr rfl fun k _ => congrArg₂ (· * ·) (b0_0 V c t y0 k) (b0_1 V c t k y1))

/-! ## The gradient of the left argument -/

theorem idx1 : ∀ t : Fin cfg1.N, win1_0.index t = ![t.val, 0] ∧ win1_1.index t = ![0, 0]
    ∧ win1_2.index t = ![t.val, 0] ∧ t.val < 17 :=
  (by decide +kernel : ∀ t : Fin grid1.N, _)
theorem b1_0 (t : Fin cfg1.N) (a : Fin 256) (k : Fin 3840) : (show Vec Ideal S256x3840 .bf16 from iblk1 V c 0 t) (ix2 a k)
    = (show S4352x3840.Idx → EReal from V c main_v2) (ix2 ⟨t.val * 256 + a.val, by have := (idx1 t).2.2.2; omega⟩ k) := by
  have := (idx1 t).2.2.2
  blk_ext [iblk1, idx1 t]

theorem b1_1 (t : Fin cfg1.N) (k : Fin 3840) (b : Fin 2048) : (show Vec Ideal S2048x3840 .bf16 from iblk1 V c 1 t) (ix2 b k)
    = (show S2048x3840.Idx → EReal from V c main_v1) (ix2 b k) := by
  have := (idx1 t).2.2.2
  blk_ext [iblk1, idx1 t]

theorem emb1 (t : Fin cfg1.N) (a : Fin 256) (b : Fin 2048) :
    ((win1_2.blk t).view.emb (ix2 a b) : S4352x2048.Idx) = ix2 ⟨t.val * 256 + a.val, by have := (idx1 t).2.2.2; omega⟩ b := by
  have := (idx1 t).2.2.2
  blk_ext [idx1 t]

theorem pay1 (x : Vec Ideal S256x3840 .bf16) (y : Vec Ideal S2048x3840 .bf16) (a : Fin 256) (b : Fin 2048) :
    (k1_pay1 x y (ix2 a b) : EReal) = ∑ k : Fin 3840, x (ix2 a k) * y (ix2 b k) := by
  pointwise [k1_pay1]

theorem final1 : (dat1 V c).arrAt 2 cfg1.N = gradL (V c main_v2) (V c main_v1) := by
  refine (dat1 V c).arrAt_eq_of_covers 2 _ (by decide +kernel) fun t hf y => ?_
  blk_simp
  rw [after1_2]
  frame_out
  idx_vars y
  refine Eq.trans ?_ (congrArg (gradL (V c main_v2) (V c main_v1)) (emb1 t y0 y1).symm)
  exact (pay1 _ _ _ _).trans (Finset.sum_congr rfl fun k _ => congrArg₂ (· * ·) (b1_0 V c t y0 k) (b1_1 V c t k y1))

/-! ## The gradient of the right argument -/

theorem idx2 : ∀ t : Fin cfg2.N, win2_0.index t = ![0, t.val / 5] ∧ win2_1.index t = ![0, t.val % 5]
    ∧ win2_2.index t = ![t.val / 5, t.val % 5] ∧ t.val / 5 < 2 :=
  (by decide +kernel : ∀ t : Fin grid2.N, _)
theorem b2_0 (t : Fin cfg2.N) (a : Fin 1024) (k : Fin 4352) : (show Vec Ideal S4352x1024 .bf16 from iblk2 V c 0 t) (ix2 k a)
    = (show S4352x2048.Idx → EReal from V c main_v0) (ix2 k ⟨t.val / 5 * 1024 + a.val, by have := (idx2 t).2.2.2; omega⟩) := by
  have := (idx2 t).2.2.2
  blk_ext [iblk2, idx2 t]

theorem b2_1 (t : Fin cfg2.N) (k : Fin 4352) (b : Fin 768) : (show Vec Ideal S4352x768 .bf16 from iblk2 V c 1 t) (ix2 k b)
    = (show S4352x3840.Idx → EReal from V c main_v2) (ix2 k ⟨t.val % 5 * 768 + b.val, by omega⟩) := by
  have := (idx2 t).2.2.2
  blk_ext [iblk2, idx2 t]

theorem emb2 (t : Fin cfg2.N) (a : Fin 1024) (b : Fin 768) :
    ((win2_2.blk t).view.emb (ix2 a b) : S2048x3840.Idx) = ix2 ⟨t.val / 5 * 1024 + a.val, by have := (idx2 t).2.2.2; omega⟩ ⟨t.val % 5 * 768 + b.val, by omega⟩ := by
  have := (idx2 t).2.2.2
  blk_ext [idx2 t]

theorem pay2 (x : Vec Ideal S4352x1024 .bf16) (y : Vec Ideal S4352x768 .bf16) (a : Fin 1024) (b : Fin 768) :
    (k2_pay1 x y (ix2 a b) : EReal) = ∑ k : Fin 4352, x (ix2 k a) * y (ix2 k b) := by
  pointwise [k2_pay1]

theorem final2 : (dat2 V c).arrAt 2 cfg2.N = gradR (V c main_v0) (V c main_v2) := by
  refine (dat2 V c).arrAt_eq_of_covers 2 _ (by decide +kernel) fun t hf y => ?_
  blk_simp
  rw [after2_2]
  frame_out
  idx_vars y
  refine Eq.trans ?_ (congrArg (gradR (V c main_v0) (V c main_v2)) (emb2 t y0 y1).symm)
  exact (pay2 _ _ _ _).trans (Finset.sum_congr rfl fun k _ => congrArg₂ (· * ·) (b2_0 V c t y0 k) (b2_1 V c t k y1))

end regions

section run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of `main` ends, and leaves the three results at what the regions' write-backs leave and the arguments as
    launched. -/
theorem run : θ_run defs (onTc (τ := τ) (main (F := F))) ⟨m, fun _ => 0, ρ⟩ (fun r => ∀ c : Dev nD,
      r.2.mem ((c.tc : Thread nD τ).loc main_v3) = (dat0 (V1 m ρ) c).arrAt 2 cfg0.N
      ∧ r.2.mem ((c.tc : Thread nD τ).loc main_v4) = (dat1 (V2 m ρ) c).arrAt 2 cfg1.N
      ∧ r.2.mem ((c.tc : Thread nD τ).loc main_v5) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v3 (by decide))).trans ((W4_of m ρ c main_v3 (by decide)).trans ((W3_of m ρ c main_v3 (by decide)).trans (W2_arr m ρ c 2))),
       (h c _ (mem_uc main_v4 (by decide))).trans ((W4_of m ρ c main_v4 (by decide)).trans (W3_arr m ρ c 2)),
       (h c _ (mem_uc main_v5 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end run

section values

variable (m : (ℓ : Loc nD τ sig) → Buf (Elt Ideal) ℓ) (ρ : Dev nD → PrngReg) (c : Dev nD)

theorem V1_0 : V1 m ρ c main_v0 = m ((c : Thread nD τ).loc main_arg0) := rfl
theorem V1_1 : V1 m ρ c main_v1 = m ((c : Thread nD τ).loc main_arg1) := rfl
theorem V1_2 : V1 m ρ c main_v2 = m ((c : Thread nD τ).loc main_arg2) := rfl
theorem V2_1 : V2 m ρ c main_v1 = m ((c : Thread nD τ).loc main_arg1) := (W2_of m ρ c main_v1 (by decide)).trans (V1_1 m ρ c)
theorem V2_2 : V2 m ρ c main_v2 = m ((c : Thread nD τ).loc main_arg2) := (W2_of m ρ c main_v2 (by decide)).trans (V1_2 m ρ c)
theorem V3_0 : V3 m ρ c main_v0 = m ((c : Thread nD τ).loc main_arg0) :=
  (W3_of m ρ c main_v0 (by decide)).trans ((W2_of m ρ c main_v0 (by decide)).trans (V1_0 m ρ c))
theorem V3_2 : V3 m ρ c main_v2 = m ((c : Thread nD τ).loc main_arg2) := (W3_of m ρ c main_v2 (by decide)).trans (V2_2 m ρ c)

theorem res0 : (dat0 (V1 m ρ) c).arrAt 2 cfg0.N = prod (m ((c : Thread nD τ).loc main_arg0)) (m ((c : Thread nD τ).loc main_arg1)) :=
  (final0 (V1 m ρ) c).trans (congrArg₂ prod (V1_0 m ρ c) (V1_1 m ρ c))
theorem res1 : (dat1 (V2 m ρ) c).arrAt 2 cfg1.N = gradL (m ((c : Thread nD τ).loc main_arg2)) (m ((c : Thread nD τ).loc main_arg1)) :=
  (final1 (V2 m ρ) c).trans (congrArg₂ gradL (V2_2 m ρ c) (V2_1 m ρ c))
theorem res2 : (dat2 (V3 m ρ) c).arrAt 2 cfg2.N = gradR (m ((c : Thread nD τ).loc main_arg0)) (m ((c : Thread nD τ).loc main_arg2)) :=
  (final2 (V3 m ρ) c).trans (congrArg₂ gradR (V3_0 m ρ c) (V3_2 m ρ c))

end values

/-! ## The reference -/

section reference

open Cert.InpRefIdeal.Read

theorem ref0 (x0 : S4352x2048.Idx → EReal) (x1 : S2048x3840.Idx → EReal) : val_main_v0 (F := Ideal) x0 x1 = prod x0 x1 := by
  funext j
  idx_vars j
  pointwise [val_main_v0]
  rfl
theorem ref1 (x1 : S2048x3840.Idx → EReal) (x2 : S4352x3840.Idx → EReal) : val_main_v3 (F := Ideal) x1 x2 = gradL x2 x1 := by
  funext j
  idx_vars j
  pointwise [val_main_v3]
  rfl
theorem ref2 (x0 : S4352x2048.Idx → EReal) (x2 : S4352x3840.Idx → EReal) : val_main_v4 (F := Ideal) x0 x2 = gradR x0 x2 := by
  funext j
  idx_vars j
  pointwise [val_main_v4, val_main_v2, val_main_v1]
  exact Finset.sum_congr rfl fun k _ => mul_comm _ _

end reference

end Cert.InProd

end
-- ==== Proof.DhProd.lean ====
/-
  The gradient of the up-projection's argument: the kernel adds four products, each over a quarter of the contracted
  axis, in a scratch of its own and stores the sum at the last; the reference is one product over the whole axis.
-/
module

public import Idealize.ShloMosaic.Lib.Pipeline.ValueKit
public import Idealize.ShloMosaic.Lib.Pointwise
public import Idealize.ShloMosaic.Lib.Claim
public import proofs.«01_k».proof.Proof.Gen.DhIdeal.Value
public import proofs.«01_k».proof.Proof.Gen.DhRefIdeal.Run
public import proofs.«01_k».proof.Proof.Gen.DhRefIdeal.Read

@[expose] public section

set_option maxRecDepth 16384

noncomputable section

namespace Cert.DhProd

open Cert.DhIdeal Cert.DhIdeal.Gen
open Idealize.ShloMosaic Idealize.ShloMosaic.TcCoe Idealize.SL.Sem
open Idealize.ShloMosaic.Pipeline (Dat)

/-- Lane `k` of row `i` of the two halves laid side by side. -/
def wide (d : S2x4352x5632.Idx → EReal) (i : Fin 4352) (k : Fin 11264) : EReal :=
  if h : k.val < 5632 then d (ix3 (0 : Fin 2) i (⟨k.val, h⟩ : Fin 5632)) else d (ix3 (1 : Fin 2) i (⟨k.val - 5632, by omega⟩ : Fin 5632))

/-- The gradient: the halves side by side against the rows of the weight. -/
def gradH (w : S2048x11264.Idx → EReal) (d : S2x4352x5632.Idx → EReal) : S4352x2048.Idx → EReal :=
  fun j => ∑ k : Fin 11264, wide d (j 0) k * w (ix2 (j 1) k)

variable (m : (ℓ : Loc nD τ sig) → Buf (Elt Ideal) ℓ) (ρ : Dev nD → PrngReg) (c : Dev nD)

theorem idx0 : ∀ t : Fin cfg0.N, win0_0.index t = ![t.val % 4 / 2, t.val / 8, t.val % 2] ∧ win0_1.index t = ![t.val / 4 % 2, t.val % 4]
    ∧ win0_2.index t = ![t.val / 8, t.val / 4 % 2] ∧ t.val / 8 < 4 :=
  (by decide +kernel : ∀ t : Fin grid0.N, _)

/-- Row `a` of the block of rows of point `t`, -/
def row (t : Fin cfg0.N) (a : Fin 1088) : Fin 4352 := ⟨t.val / 8 * 1088 + a.val, by have := (idx0 t).2.2.2; omega⟩
/-- column `b` of its block of columns, -/
def col (t : Fin cfg0.N) (b : Fin 1024) : Fin 2048 := ⟨t.val / 4 % 2 * 1024 + b.val, by omega⟩
/-- and lane `k` of its quarter of the contracted axis. -/
def lane (t : Fin cfg0.N) (k : Fin 2816) : Fin 11264 := ⟨t.val % 4 * 2816 + k.val, by omega⟩

set_option maxRecDepth 100000 in
theorem b0_0 (t : Fin cfg0.N) (z : Fin 1) (a : Fin 1088) (k : Fin 2816) :
    (show Vec Ideal S1x1088x2816 .bf16 from iblk m c 0 t) (ix3 z a k)
      = wide (m ((c : Thread nD τ).loc main_arg1)) (row t a) (lane t k) := by
  have e : (show Vec Ideal S1x1088x2816 .bf16 from iblk m c 0 t) (ix3 z a k)
      = (show S2x4352x5632.Idx → EReal from V m c main_v0)
        (ix3 (⟨t.val % 4 / 2, by omega⟩ : Fin 2) (row t a) (⟨t.val % 2 * 2816 + k.val, by omega⟩ : Fin 5632)) := by
    have := (idx0 t).2.2.2
    unfold row
    blk_ext [iblk, idx0 t]
  refine e.trans ?_
  show (m ((c : Thread nD τ).loc main_arg1) : S2x4352x5632.Idx → EReal) _ = _
  unfold wide lane
  have := k.isLt
  split_ifs with h
  · refine congrArg (m ((c : Thread nD τ).loc main_arg1)) ?_
    congr 1
    · apply Fin.ext; dsimp only at h ⊢; show t.val % 4 / 2 = 0; omega
    · apply Fin.ext; dsimp only at h ⊢; omega
  · refine congrArg (m ((c : Thread nD τ).loc main_arg1)) ?_
    congr 1
    · apply Fin.ext; dsimp only at h ⊢; show t.val % 4 / 2 = 1; omega
    · apply Fin.ext; dsimp only at h ⊢; omega

theorem b0_1 (t : Fin cfg0.N) (b : Fin 1024) (k : Fin 2816) :
    (show Vec Ideal S1024x2816 .bf16 from iblk m c 1 t) (ix2 b k)
      = (m ((c : Thread nD τ).loc main_arg0) : S2048x11264.Idx → EReal) (ix2 (col t b) (lane t k)) := by
  show _ = (show S2048x11264.Idx → EReal from V m c main_v1) (ix2 (col t b) (lane t k))
  unfold col lane
  blk_ext [iblk, idx0 t]

theorem emb0 (t : Fin cfg0.N) (a : Fin 1088) (b : Fin 1024) :
    ((win0_2.blk t).view.emb (ix2 a b) : S4352x2048.Idx) = ix2 (row t a) (col t b) := by
  have := (idx0 t).2.2.2
  unfold row col
  blk_ext [idx0 t]

/-- One point's share of the sum. -/
def term (t : Fin cfg0.N) (j : S1088x1024.Idx) : EReal :=
  ∑ k : Fin 2816, wide (m ((c : Thread nD τ).loc main_arg1)) (row t (j 0)) (lane t k)
    * (m ((c : Thread nD τ).loc main_arg0) : S2048x11264.Idx → EReal) (ix2 (col t (j 1)) (lane t k))

theorem pay1_zero (j : S1088x1024.Idx) : ((k0_pay1 : FVec Ideal S1088x1024 .f32) j : EReal) = 0 := by
  idx_vars j
  pointwise [k0_pay1]

theorem pay2_at (acc : Vec Ideal S1088x1024 .f32) (x : Vec Ideal S1x1088x2816 .bf16) (y : Vec Ideal S1024x2816 .bf16) (a : Fin 1088) (b : Fin 1024) :
    (k0_pay2 acc x y (ix2 a b) : EReal) = acc (ix2 a b) + ∑ k : Fin 2816, x (ix3 (0 : Fin 1) a k) * y (ix2 b k) := by
  pointwise [k0_pay2]

theorem step_at (t : Fin cfg0.N) (acc : Vec Ideal S1088x1024 .f32) (j : S1088x1024.Idx) :
    (k0_pay2 acc (iblk m c 0 t) (iblk m c 1 t) j : EReal) = acc j + term m c t j := by
  idx_vars j
  exact (pay2_at _ _ _ _ _).trans (congrArg (acc (ix2 j0 j1) + ·) (Finset.sum_congr rfl fun k _ => congrArg₂ (· * ·) (b0_0 m c t 0 j0 k) (b0_1 m c t j1 k)))

theorem run_row (t : Fin cfg0.N) (s : Fin 4) (a : Fin 1088) (h) : row ⟨4 * (t.val / 4) + s.val, h⟩ a = row t a := by
  apply Fin.ext
  have := s.isLt
  show (4 * (t.val / 4) + s.val) / 8 * 1088 + a.val = t.val / 8 * 1088 + a.val
  omega
theorem run_col (t : Fin cfg0.N) (s : Fin 4) (b : Fin 1024) (h) : col ⟨4 * (t.val / 4) + s.val, h⟩ b = col t b := by
  apply Fin.ext
  have := s.isLt
  show (4 * (t.val / 4) + s.val) / 4 % 2 * 1024 + b.val = t.val / 4 % 2 * 1024 + b.val
  omega
theorem run_lane (t : Fin cfg0.N) (s : Fin 4) (k : Fin 2816) (h) (h') : lane ⟨4 * (t.val / 4) + s.val, h⟩ k = ⟨s.val * 2816 + k.val, h'⟩ := by
  apply Fin.ext
  have := s.isLt
  show (4 * (t.val / 4) + s.val) % 4 * 2816 + k.val = s.val * 2816 + k.val
  omega

/-- The last point stores what its scratch holds. -/
theorem out_eq_scratch (t : Fin cfg0.N) (h0 : ¬t.val % 4 = 0) (h1 : t.val % 4 = 3) :
    (outsAt0 m c t.val t.isLt).1 = (outsAt0 m c t.val t.isLt).2 := by
  rw [outsAt0_C m c t h0 h1]
  frame_out

theorem final0 : (dats m 0 c).arrAt 2 cfg0.N = gradH (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_eq_scratch m c t (by omega) h3]
  rw [Pipeline.eq_sum_fin_of_reset_step_apply_of_flush (fun n h => (outsAt0 m c n h).2) 4 (fun _ => 0) (term m c)
    (fun t h j => by
      rw [outsAt0_A m c t h (by omega)]
      frame_out
      exact (step_at m c t _ j).trans (congrArg (· + term m c t j) (pay1_zero j)))
    (fun t h j => by
      by_cases h1 : t.val % 4 = 3
      · rw [outsAt0_C m c t h h1]
        frame_out
        exact (congrFun (congrArg (fun a => k0_pay2 a (iblk m c 0 t) (iblk m c 1 t)) (Memref.IsWhole.read_unread _ _)) j).trans (step_at m c t _ j)
      · rw [outsAt0_B m c t h h1]
        frame_out
        exact (congrFun (congrArg (fun a => k0_pay2 a (iblk m c 0 t) (iblk m c 1 t)) (Memref.IsWhole.read_unread _ _)) j).trans (step_at m c t _ j)) t h3 _, zero_add]
  idx_vars y
  refine Eq.trans ?_ (congrArg (gradH (m ((c : Thread nD τ).loc main_arg0)) (m ((c : Thread nD τ).loc main_arg1))) (emb0 t y0 y1).symm)
  unfold gradH term
  refine Fin.sum_mul_add_congr fun s k hk => ?_
  show wide _ (row _ y0) (lane _ k) * (m ((c : Thread nD τ).loc main_arg0) : S2048x11264.Idx → EReal) (ix2 (col _ y1) (lane _ k))
    = wide _ (row t y0) ⟨s.val * 2816 + k.val, hk⟩ * (m ((c : Thread nD τ).loc main_arg0) : S2048x11264.Idx → EReal) (ix2 (col t y1) ⟨s.val * 2816 + k.val, hk⟩)
  rw [run_row, run_col, run_lane _ _ _ _ hk]

section reference

open Cert.DhRefIdeal.Read

theorem ref0 (x0 : S2048x11264.Idx → EReal) (x1 : S2x4352x5632.Idx → EReal) : val_main_v12 (F := Ideal) x0 x1 = gradH x0 x1 := by
  funext j
  idx_vars j
  refine Eq.trans (b := ∑ k : Fin 5632, x1 (ix3 (0 : Fin 2) j0 k) * x0 (ix2 j1 (⟨k.val, by omega⟩ : Fin 11264))
    + ∑ k : Fin 5632, x1 (ix3 (1 : Fin 2) j0 k) * x0 (ix2 j1 (⟨5632 + k.val, by omega⟩ : Fin 11264))) ?_ ?_
  · pointwise [val_main_v12, val_main_v11, val_main_v10, val_main_v9, val_main_v8, val_main_v7]
  · refine Eq.symm ((Fin.sum_univ_add (fun k : Fin (5632 + 5632) => wide x1 j0 k * x0 (ix2 j1 k))).trans (congrArg₂ (· + ·)
      (Finset.sum_congr rfl fun k _ => congrArg₂ (· * ·) ?_ rfl) (Finset.sum_congr rfl fun k _ => congrArg₂ (· * ·) ?_ rfl)))
    · unfold wide
      rw [dif_pos (show (Fin.castAdd 5632 k).val < 5632 from k.isLt)]
      rfl
    · unfold wide
      rw [dif_neg (show ¬(Fin.natAdd 5632 k).val < 5632 from by show ¬(5632 + k.val < 5632); omega)]
      refine congrArg x1 (congrArg (ix3 (1 : Fin 2) j0) (Fin.ext ?_))
      show 5632 + k.val - 5632 = k.val
      omega

end reference

end Cert.DhProd

end
-- ==== Proof.ProdClaims.lean ====
/-
  The claims about the two projections' products and about the gradient of the up-projection's argument. They hold of
  all extended reals: both programs form the same sums of the same products.
-/
module

public import proofs.«01_k».proof.Defs
public import proofs.«01_k».proof.Proof.OutProd
public import proofs.«01_k».proof.Proof.InProd
public import proofs.«01_k».proof.Proof.DhProd
public import proofs.«01_k».proof.Proof.Gen.Out.Frame
public import proofs.«01_k».proof.Proof.Gen.Inp.Frame
public import proofs.«01_k».proof.Proof.Gen.Dh.Frame
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.OutProd

theorem frame_p : Cert.quiescent_Out (hOut := Cert.Out.Gen.facts) := fun m ρ _ => Cert.Out.Gen.frame m ρ
theorem frame_pi : Cert.quiescent_OutIdeal (hOutIdeal := Cert.OutIdeal.Gen.facts) := fun m ρ _ => Cert.OutIdeal.Gen.frame m ρ
theorem frame_ri : Cert.quiescent_OutRefIdeal (hOutRefIdeal := Cert.OutRefIdeal.Gen.facts) := fun m ρ _ =>
  (θ_run Cert.OutRefIdeal.defs _ _).mono (fun r h => ⟨fun c => (h c).2.2.2,
      sem_eq_zero_of_no_sems (by decide) r.2⟩) (Cert.OutRefIdeal.Value.run (F := Ideal) m ρ)
theorem preserves : Cert.preserves_Out_OutIdeal := trivial

theorem algebraic : Cert.algebraic_OutIdeal_OutRefIdeal (hOutIdeal := Cert.OutIdeal.Gen.facts)
    (hOutRefIdeal := Cert.OutRefIdeal.Gen.facts) := by
  intro m ρ m' ρ' hpre hagree
  refine ⟨_, _, _, run m ρ, (θ_run Cert.OutRefIdeal.defs _ _).mono
    (fun _ h c => ⟨(h c).1.trans ?_, (h c).2.1.trans ?_, (h c).2.2.1.trans ?_, (h c).2.2.2⟩) (Cert.OutRefIdeal.Value.run (F := Ideal) m' ρ')⟩
  · refine (Cert.OutRefIdeal.Read.val_main_v0_eq _ _).trans ?_
    obtain ⟨a0, a1, a2⟩ := hagree c
    refine (congr (congrArg (Cert.OutRefIdeal.Read.val_main_v0 (F := Ideal)) a0) a1).trans ?_
    exact (ref0 _ _).trans (res0 m ρ c).symm
  · refine (Cert.OutRefIdeal.Read.val_main_v3_eq _ _).trans ?_
    obtain ⟨a0, a1, a2⟩ := hagree c
    refine (congr (congrArg (Cert.OutRefIdeal.Read.val_main_v3 (F := Ideal)) a1) a2).trans ?_
    exact (ref1 _ _).trans (res1 m ρ c).symm
  · refine (Cert.OutRefIdeal.Read.val_main_v4_eq _ _).trans ?_
    obtain ⟨a0, a1, a2⟩ := hagree c
    refine (congr (congrArg (Cert.OutRefIdeal.Read.val_main_v4 (F := Ideal)) a0) a2).trans ?_
    exact (ref2 _ _).trans (res2 m ρ c).symm

end Cert.OutProd

namespace Cert.InProd

theorem frame_p : Cert.quiescent_Inp (hInp := Cert.Inp.Gen.facts) := fun m ρ _ => Cert.Inp.Gen.frame m ρ
theorem frame_pi : Cert.quiescent_InpIdeal (hInpIdeal := Cert.InpIdeal.Gen.facts) := fun m ρ _ => Cert.InpIdeal.Gen.frame m ρ
theorem frame_ri : Cert.quiescent_InpRefIdeal (hInpRefIdeal := Cert.InpRefIdeal.Gen.facts) := fun m ρ _ =>
  (θ_run Cert.InpRefIdeal.defs _ _).mono (fun r h => ⟨fun c => (h c).2.2.2,
      sem_eq_zero_of_no_sems (by decide) r.2⟩) (Cert.InpRefIdeal.Value.run (F := Ideal) m ρ)
theorem preserves : Cert.preserves_Inp_InpIdeal := trivial

theorem algebraic : Cert.algebraic_InpIdeal_InpRefIdeal (hInpIdeal := Cert.InpIdeal.Gen.facts)
    (hInpRefIdeal := Cert.InpRefIdeal.Gen.facts) := by
  intro m ρ m' ρ' hpre hagree
  refine ⟨_, _, _, run m ρ, (θ_run Cert.InpRefIdeal.defs _ _).mono
    (fun _ h c => ⟨(h c).1.trans ?_, (h c).2.1.trans ?_, (h c).2.2.1.trans ?_, (h c).2.2.2⟩) (Cert.InpRefIdeal.Value.run (F := Ideal) m' ρ')⟩
  · refine (Cert.InpRefIdeal.Read.val_main_v0_eq _ _).trans ?_
    obtain ⟨a0, a1, a2⟩ := hagree c
    refine (congr (congrArg (Cert.InpRefIdeal.Read.val_main_v0 (F := Ideal)) a0) a1).trans ?_
    exact (ref0 _ _).trans (res0 m ρ c).symm
  · refine (Cert.InpRefIdeal.Read.val_main_v3_eq _ _).trans ?_
    obtain ⟨a0, a1, a2⟩ := hagree c
    refine (congr (congrArg (Cert.InpRefIdeal.Read.val_main_v3 (F := Ideal)) a1) a2).trans ?_
    exact (ref1 _ _).trans (res1 m ρ c).symm
  · refine (Cert.InpRefIdeal.Read.val_main_v4_eq _ _).trans ?_
    obtain ⟨a0, a1, a2⟩ := hagree c
    refine (congr (congrArg (Cert.InpRefIdeal.Read.val_main_v4 (F := Ideal)) a0) a2).trans ?_
    exact (ref2 _ _).trans (res2 m ρ c).symm

end Cert.InProd

namespace Cert.DhProd

theorem frame_p : Cert.quiescent_Dh (hDh := Cert.Dh.Gen.facts) := fun m ρ _ => Cert.Dh.Gen.frame m ρ
theorem frame_pi : Cert.quiescent_DhIdeal (hDhIdeal := Cert.DhIdeal.Gen.facts) := fun m ρ _ => Cert.DhIdeal.Gen.frame m ρ
theorem frame_ri : Cert.quiescent_DhRefIdeal (hDhRefIdeal := Cert.DhRefIdeal.Gen.facts) := fun m ρ _ =>
  (θ_run Cert.DhRefIdeal.defs _ _).mono (fun r h => ⟨fun c => (h c).2,
      sem_eq_zero_of_no_sems (by decide) r.2⟩) (Cert.DhRefIdeal.Value.run (F := Ideal) m ρ)
theorem preserves : Cert.preserves_Dh_DhIdeal := trivial

theorem algebraic : Cert.algebraic_DhIdeal_DhRefIdeal (hDhIdeal := Cert.DhIdeal.Gen.facts)
    (hDhRefIdeal := Cert.DhRefIdeal.Gen.facts) := by
  intro m ρ m' ρ' hpre hagree
  refine ⟨_, Cert.DhIdeal.Value.run_blocks m ρ, (θ_run Cert.DhRefIdeal.defs _ _).mono
    (fun _ h c => ⟨(h c).1.trans ?_, (h c).2⟩) (Cert.DhRefIdeal.Value.run (F := Ideal) m' ρ')⟩
  refine (Cert.DhRefIdeal.Read.val_main_v12_eq _ _).trans ?_
  obtain ⟨a0, a1⟩ := hagree c
  refine (congr (congrArg (Cert.DhRefIdeal.Read.val_main_v12 (F := Ideal)) a0) a1).trans ?_
  exact (ref0 _ _).trans (final0 m c).symm

end Cert.DhProd

end
-- ==== Proof.FeedProd.lean ====
/-
  The feed-forward part's five products: what each kernel leaves in its array is a sum over the whole contracted axis.
-/
module

public import Idealize.ShloMosaic.Lib.Pipeline.ValueKit
public import Idealize.ShloMosaic.Lib.Pointwise
public import Idealize.ShloMosaic.Lib.Claim
public import proofs.«01_k».proof.Proof.Gen.FfnIdeal.Frame

@[expose] public section

set_option maxRecDepth 16384

noncomputable section

namespace Cert.Feed

open Cert.FfnIdeal Cert.FfnIdeal.Gen
open Idealize.ShloMosaic Idealize.ShloMosaic.TcCoe Idealize.SL.Sem
open Idealize.ShloMosaic.Pipeline (Dat)

/-- A column of the wide up-projection, from its half and its place there. -/
def wide (s : Fin 2) (j : Fin 5632) : Fin 11264 := ⟨s.val * 5632 + j.val, by omega⟩

/-- The up-projection, its result's columns in two halves. -/
def upF (h : S4352x2048.Idx → EReal) (w : S2048x11264.Idx → EReal) : S2x4352x5632.Idx → EReal :=
  fun j => ∑ k : Fin 2048, h (ix2 (j 1) k) * w (ix2 k (wide (j 0) (j 2)))
/-- The down-projection, -/
def downF (u : S4352x5632.Idx → EReal) (w : S5632x2048.Idx → EReal) : S4352x2048.Idx → EReal :=
  fun j => ∑ k : Fin 5632, u (ix2 (j 0) k) * w (ix2 k (j 1))
/-- its weight's gradient -/
def dwdF (u : S4352x5632.Idx → EReal) (d : S4352x2048.Idx → EReal) : S5632x2048.Idx → EReal :=
  fun j => ∑ k : Fin 4352, u (ix2 k (j 0)) * d (ix2 k (j 1))
/-- and its argument's. -/
def duF (d : S4352x2048.Idx → EReal) (w : S5632x2048.Idx → EReal) : S4352x5632.Idx → EReal :=
  fun j => ∑ k : Fin 2048, d (ix2 (j 0) k) * w (ix2 (j 1) k)
/-- The half and the place there of a column of the wide array. -/
def halfOf (b : Fin 11264) : Fin 2 := ⟨b.val / 5632, by omega⟩
def laneOf (b : Fin 11264) : Fin 5632 := ⟨b.val % 5632, by omega⟩
/-- The gradient of the up-projection's weight. -/
def dwuF (h : S4352x2048.Idx → EReal) (d : S2x4352x5632.Idx → EReal) : S2048x11264.Idx → EReal :=
  fun j => ∑ k : Fin 4352, h (ix2 k (j 0)) * d (ix3 (halfOf (j 1)) k (laneOf (j 1)))

theorem halfOf_wide (s : Fin 2) (j : Fin 5632) : halfOf (wide s j) = s := by
  apply Fin.ext; simp only [halfOf, wide]; omega
theorem laneOf_wide (s : Fin 2) (j : Fin 5632) : laneOf (wide s j) = j := by
  apply Fin.ext; simp only [laneOf, wide]; omega

variable (V : (c : Dev nD) → (b : Ref sig .tc) → Buf (Elt Ideal) ((c : Thread nD τ).loc b)) (c : Dev nD)

/-! ## The up-projection -/

theorem idx0 : ∀ t : Fin cfg0.N, win0_0.index t = ![t.val / 22, 0] ∧ win0_1.index t = ![0, t.val % 22]
    ∧ win0_2.index t = ![t.val % 22 / 11, t.val / 22, t.val % 22 % 11] ∧ t.val < 44 :=
  (by decide +kernel : ∀ t : Fin grid0.N, _)
theorem b0_0 (t : Fin cfg0.N) (a : Fin 2176) (k : Fin 2048) : (show Vec Ideal S2176x2048 .bf16 from iblk0 V c 0 t) (ix2 a k)
    = (show S4352x2048.Idx → EReal from V c main_v3) (ix2 ⟨t.val / 22 * 2176 + a.val, by have := (idx0 t).2.2.2; omega⟩ k) := by
  have := (idx0 t).2.2.2
  blk_ext [iblk0, idx0 t]

theorem b0_1 (t : Fin cfg0.N) (k : Fin 2048) (b : Fin 512) : (show Vec Ideal S2048x512 .bf16 from iblk0 V c 1 t) (ix2 k b)
    = (show S2048x11264.Idx → EReal from V c main_v4) (ix2 k ⟨t.val % 22 * 512 + b.val, by have := (idx0 t).2.2.2; omega⟩) := by
  have := (idx0 t).2.2.2
  blk_ext [iblk0, idx0 t]

theorem emb0 (t : Fin cfg0.N) (a : Fin 2176) (b : Fin 512) :
    ((win0_2.blk t).view.emb (ix3 (0 : Fin 1) a b) : S2x4352x5632.Idx) = ix3 ⟨t.val % 22 / 11, by have := (idx0 t).2.2.2; omega⟩ ⟨t.val / 22 * 2176 + a.val, by have := (idx0 t).2.2.2; omega⟩ ⟨t.val % 22 % 11 * 512 + b.val, by have := (idx0 t).2.2.2; omega⟩ := by
  have := (idx0 t).2.2.2
  blk_ext [idx0 t]

theorem pay0 (x : Vec Ideal S2176x2048 .bf16) (y : Vec Ideal S2048x512 .bf16) (a : Fin 2176) (b : Fin 512) :
    (k0_pay1 x y (ix3 (0 : Fin 1) a b) : EReal) = ∑ k : Fin 2048, x (ix2 a k) * y (ix2 k b) := by
  pointwise [k0_pay1]

theorem wide0 (t : Fin cfg0.N) (b : Fin 512) : wide ⟨t.val % 22 / 11, by have := (idx0 t).2.2.2; omega⟩ ⟨t.val % 22 % 11 * 512 + b.val, by have := (idx0 t).2.2.2; omega⟩ = ⟨t.val % 22 * 512 + b.val, by have := (idx0 t).2.2.2; omega⟩ := by
  apply Fin.ext; have := (idx0 t).2.2.2; simp only [wide]; omega

theorem final0 : (dat0 V c).arrAt 2 cfg0.N = upF (V c main_v3) (V c main_v4) := by
  refine (dat0 V c).arrAt_eq_of_covers 2 _ (by decide +kernel) fun t hf y => ?_
  blk_simp
  rw [after0_2]
  frame_out
  idx_vars y
  obtain rfl : y0 = 0 := Subsingleton.elim _ _
  refine Eq.trans ?_ (congrArg (upF (V c main_v3) (V c main_v4)) (emb0 t y1 y2).symm)
  refine (pay0 _ _ _ _).trans (Finset.sum_congr rfl fun k _ => congrArg₂ (· * ·) (b0_0 V c t y1 k) ((b0_1 V c t k y2).trans ?_))
  exact congrArg (fun z => (show S2048x11264.Idx → EReal from V c main_v4) (ix2 k z)) (wide0 t y2).symm

/-! ## The down-projection -/

theorem idx2 : ∀ t : Fin cfg2.N, win2_0.index t = ![t.val / 8, 0] ∧ win2_1.index t = ![0, t.val % 8]
    ∧ win2_2.index t = ![t.val / 8, t.val % 8] ∧ t.val < 32 :=
  (by decide +kernel : ∀ t : Fin grid2.N, _)
theorem b2_0 (t : Fin cfg2.N) (a : Fin 1088) (k : Fin 5632) : (show Vec Ideal S1088x5632 .bf16 from iblk2 V c 0 t) (ix2 a k)
    = (show S4352x5632.Idx → EReal from V c main_v8) (ix2 ⟨t.val / 8 * 1088 + a.val, by have := (idx2 t).2.2.2; omega⟩ k) := by
  have := (idx2 t).2.2.2
  blk_ext [iblk2, idx2 t]

theorem b2_1 (t : Fin cfg2.N) (k : Fin 5632) (b : Fin 256) : (show Vec Ideal S5632x256 .bf16 from iblk2 V c 1 t) (ix2 k b)
    = (show S5632x2048.Idx → EReal from V c main_v5) (ix2 k ⟨t.val % 8 * 256 + b.val, by have := (idx2 t).2.2.2; omega⟩) := by
  have := (idx2 t).2.2.2
  blk_ext [iblk2, idx2 t]

theorem emb2 (t : Fin cfg2.N) (a : Fin 1088) (b : Fin 256) :
    ((win2_2.blk t).view.emb (ix2 a b) : S4352x2048.Idx) = ix2 ⟨t.val / 8 * 1088 + a.val, by have := (idx2 t).2.2.2; omega⟩ ⟨t.val % 8 * 256 + b.val, by have := (idx2 t).2.2.2; omega⟩ := by
  have := (idx2 t).2.2.2
  blk_ext [idx2 t]

theorem pay2 (x : Vec Ideal S1088x5632 .bf16) (y : Vec Ideal S5632x256 .bf16) (a : Fin 1088) (b : Fin 256) :
    (k2_pay1 x y (ix2 a b) : EReal) = ∑ k : Fin 5632, x (ix2 a k) * y (ix2 k b) := by
  pointwise [k2_pay1]

theorem final2 : (dat2 V c).arrAt 2 cfg2.N = downF (V c main_v8) (V c main_v5) := by
  refine (dat2 V c).arrAt_eq_of_covers 2 _ (by decide +kernel) fun t hf y => ?_
  blk_simp
  rw [after2_2]
  frame_out
  idx_vars y
  refine Eq.trans ?_ (congrArg (downF (V c main_v8) (V c main_v5)) (emb2 t y0 y1).symm)
  exact (pay2 _ _ _ _).trans (Finset.sum_congr rfl fun k _ => congrArg₂ (· * ·) (b2_0 V c t y0 k) (b2_1 V c t k y1))

/-! ## The gradient of the down-projection's weight -/

theorem idx3 : ∀ t : Fin cfg3.N, win3_0.index t = ![0, t.val / 2] ∧ win3_1.index t = ![0, t.val % 2]
    ∧ win3_2.index t = ![t.val / 2, t.val % 2] ∧ t.val < 22 :=
  (by decide +kernel : ∀ t : Fin grid3.N, _)
theorem b3_0 (t : Fin cfg3.N) (a : Fin 512) (k : Fin 4352) : (show Vec Ideal S4352x512 .bf16 from iblk3 V c 0 t) (ix2 k a)
    = (show S4352x5632.Idx → EReal from V c main_v8) (ix2 k ⟨t.val / 2 * 512 + a.val, by have := (idx3 t).2.2.2; omega⟩) := by
  have := (idx3 t).2.2.2
  blk_ext [iblk3, idx3 t]

theorem b3_1 (t : Fin cfg3.N) (k : Fin 4352) (b : Fin 1024) : (show Vec Ideal S4352x1024 .bf16 from iblk3 V c 1 t) (ix2 k b)
    = (show S4352x2048.Idx → EReal from V c main_v6) (ix2 k ⟨t.val % 2 * 1024 + b.val, by have := (idx3 t).2.2.2; omega⟩) := by
  have := (idx3 t).2.2.2
  blk_ext [iblk3, idx3 t]

theorem emb3 (t : Fin cfg3.N) (a : Fin 512) (b : Fin 1024) :
    ((win3_2.blk t).view.emb (ix2 a b) : S5632x2048.Idx) = ix2 ⟨t.val / 2 * 512 + a.val, by have := (idx3 t).2.2.2; omega⟩ ⟨t.val % 2 * 1024 + b.val, by have := (idx3 t).2.2.2; omega⟩ := by
  have := (idx3 t).2.2.2
  blk_ext [idx3 t]

theorem pay3 (x : Vec Ideal S4352x512 .bf16) (y : Vec Ideal S4352x1024 .bf16) (a : Fin 512) (b : Fin 1024) :
    (k3_pay1 x y (ix2 a b) : EReal) = ∑ k : Fin 4352, x (ix2 k a) * y (ix2 k b) := by
  pointwise [k3_pay1]

theorem final3 : (dat3 V c).arrAt 2 cfg3.N = dwdF (V c main_v8) (V c main_v6) := by
  refine (dat3 V c).arrAt_eq_of_covers 2 _ (by decide +kernel) fun t hf y => ?_
  blk_simp
  rw [after3_2]
  frame_out
  idx_vars y
  refine Eq.trans ?_ (congrArg (dwdF (V c main_v8) (V c main_v6)) (emb3 t y0 y1).symm)
  exact (pay3 _ _ _ _).trans (Finset.sum_congr rfl fun k _ => congrArg₂ (· * ·) (b3_0 V c t y0 k) (b3_1 V c t k y1))

/-! ## The gradient of the down-projection's argument -/

theorem idx4 : ∀ t : Fin cfg4.N, win4_0.index t = ![t.val / 11, 0] ∧ win4_1.index t = ![t.val % 11, 0]
    ∧ win4_2.index t = ![t.val / 11, t.val % 11] ∧ t.val < 22 :=
  (by decide +kernel : ∀ t : Fin grid4.N, _)
theorem b4_0 (t : Fin cfg4.N) (a : Fin 2176) (k : Fin 2048) : (show Vec Ideal S2176x2048 .bf16 from iblk4 V c 0 t) (ix2 a k)
    = (show S4352x2048.Idx → EReal from V c main_v6) (ix2 ⟨t.val / 11 * 2176 + a.val, by have := (idx4 t).2.2.2; omega⟩ k) := by
  have := (idx4 t).2.2.2
  blk_ext [iblk4, idx4 t]

theorem b4_1 (t : Fin cfg4.N) (k : Fin 2048) (b : Fin 512) : (show Vec Ideal S512x2048 .bf16 from iblk4 V c 1 t) (ix2 b k)
    = (show S5632x2048.Idx → EReal from V c main_v5) (ix2 ⟨t.val % 11 * 512 + b.val, by have := (idx4 t).2.2.2; omega⟩ k) := by
  have := (idx4 t).2.2.2
  blk_ext [iblk4, idx4 t]

theorem emb4 (t : Fin cfg4.N) (a : Fin 2176) (b : Fin 512) :
    ((win4_2.blk t).view.emb (ix2 a b) : S4352x5632.Idx) = ix2 ⟨t.val / 11 * 2176 + a.val, by have := (idx4 t).2.2.2; omega⟩ ⟨t.val % 11 * 512 + b.val, by have := (idx4 t).2.2.2; omega⟩ := by
  have := (idx4 t).2.2.2
  blk_ext [idx4 t]

theorem pay4 (x : Vec Ideal S2176x2048 .bf16) (y : Vec Ideal S512x2048 .bf16) (a : Fin 2176) (b : Fin 512) :
    (k4_pay1 x y (ix2 a b) : EReal) = ∑ k : Fin 2048, x (ix2 a k) * y (ix2 b k) := by
  pointwise [k4_pay1]

theorem final4 : (dat4 V c).arrAt 2 cfg4.N = duF (V c main_v6) (V c main_v5) := by
  refine (dat4 V c).arrAt_eq_of_covers 2 _ (by decide +kernel) fun t hf y => ?_
  blk_simp
  rw [after4_2]
  frame_out
  idx_vars y
  refine Eq.trans ?_ (congrArg (duF (V c main_v6) (V c main_v5)) (emb4 t y0 y1).symm)
  exact (pay4 _ _ _ _).trans (Finset.sum_congr rfl fun k _ => congrArg₂ (· * ·) (b4_0 V c t y0 k) (b4_1 V c t k y1))

/-! ## The gradient of the up-projection's weight -/

theorem idx6 : ∀ t : Fin cfg6.N, win6_0.index t = ![0, t.val / 22] ∧ win6_1.index t = ![t.val % 22 / 11, 0, t.val % 22 % 11]
    ∧ win6_2.index t = ![t.val / 22, t.val % 22] ∧ t.val < 44 :=
  (by decide +kernel : ∀ t : Fin grid6.N, _)
theorem b6_0 (t : Fin cfg6.N) (a : Fin 1024) (k : Fin 4352) : (show Vec Ideal S4352x1024 .bf16 from iblk6 V c 0 t) (ix2 k a)
    = (show S4352x2048.Idx → EReal from V c main_v3) (ix2 k ⟨t.val / 22 * 1024 + a.val, by have := (idx6 t).2.2.2; omega⟩) := by
  have := (idx6 t).2.2.2
  blk_ext [iblk6, idx6 t]

theorem b6_1 (t : Fin cfg6.N) (k : Fin 4352) (b : Fin 512) : (show Vec Ideal S1x4352x512 .bf16 from iblk6 V c 1 t) (ix3 (0 : Fin 1) k b)
    = (show S2x4352x5632.Idx → EReal from V c main_v12_0) (ix3 ⟨t.val % 22 / 11, by have := (idx6 t).2.2.2; omega⟩ k ⟨t.val % 22 % 11 * 512 + b.val, by have := (idx6 t).2.2.2; omega⟩) := by
  have := (idx6 t).2.2.2
  blk_ext [iblk6, idx6 t]

theorem emb6 (t : Fin cfg6.N) (a : Fin 1024) (b : Fin 512) :
    ((win6_2.blk t).view.emb (ix2 a b) : S2048x11264.Idx) = ix2 ⟨t.val / 22 * 1024 + a.val, by have := (idx6 t).2.2.2; omega⟩ ⟨t.val % 22 * 512 + b.val, by have := (idx6 t).2.2.2; omega⟩ := by
  have := (idx6 t).2.2.2
  blk_ext [idx6 t]

theorem pay6 (x : Vec Ideal S4352x1024 .bf16) (y : Vec Ideal S1x4352x512 .bf16) (a : Fin 1024) (b : Fin 512) :
    (k6_pay1 x y (ix2 a b) : EReal) = ∑ k : Fin 4352, x (ix2 k a) * y (ix3 (0 : Fin 1) k b) := by
  pointwise [k6_pay1]

theorem half6 (t : Fin cfg6.N) (b : Fin 512) : halfOf ⟨t.val % 22 * 512 + b.val, by have := (idx6 t).2.2.2; omega⟩ = ⟨t.val % 22 / 11, by have := (idx6 t).2.2.2; omega⟩ := by
  apply Fin.ext; have := (idx6 t).2.2.2; simp only [halfOf]; omega
theorem lane6 (t : Fin cfg6.N) (b : Fin 512) : laneOf ⟨t.val % 22 * 512 + b.val, by have := (idx6 t).2.2.2; omega⟩ = ⟨t.val % 22 % 11 * 512 + b.val, by have := (idx6 t).2.2.2; omega⟩ := by
  apply Fin.ext; have := (idx6 t).2.2.2; simp only [laneOf]; omega

theorem final6 : (dat6 V c).arrAt 2 cfg6.N = dwuF (V c main_v3) (V c main_v12_0) := by
  refine (dat6 V c).arrAt_eq_of_covers 2 _ (by decide +kernel) fun t hf y => ?_
  blk_simp
  rw [after6_2]
  frame_out
  idx_vars y
  refine Eq.trans ?_ (congrArg (dwuF (V c main_v3) (V c main_v12_0)) (emb6 t y0 y1).symm)
  refine (pay6 _ _ _ _).trans (Finset.sum_congr rfl fun k _ => congrArg₂ (· * ·) (b6_0 V c t y0 k) ((b6_1 V c t k y1).trans ?_))
  exact congrArg₂ (fun z w => (show S2x4352x5632.Idx → EReal from V c main_v12_0) (ix3 z k w)) (half6 t y1).symm (lane6 t y1).symm

end Cert.Feed

end
-- ==== Proof.FeedSpec.lean ====
/-
  The gated convolution, column by column: a row and its two neighbours in its own segment, their three weights, the gate's
  derivative; and the block of rows a kernel reads, eight rows wider at either end, with the rows outside the segment zero.
-/
module

public import proofs.«01_k».proof.Proof.FeedProd

@[expose] public section

set_option maxRecDepth 16384

noncomputable section

namespace Cert.Feed

open Cert.FfnIdeal Cert.FfnIdeal.Gen
open Idealize.ShloMosaic Idealize.ShloMosaic.TcCoe Idealize.SL.Sem

/-- The row before a row, zero before the first row of either segment, -/
def upOf (x : ℕ → EReal) (r : ℕ) : EReal := if r = 0 ∨ r = 4096 then 0 else x (r - 1)
/-- and the row after it. -/
def dnOf (x : ℕ → EReal) (r : ℕ) : EReal := if r = 4095 ∨ r = 4351 then 0 else x (r + 1)
/-- The convolution of a column with three weights, and its bias; -/
def convX (x : ℕ → EReal) (w0 w1 w2 b : EReal) (r : ℕ) : EReal := upOf x r * w0 + x r * w1 + dnOf x r * w2 + b
/-- the gradient of its argument from that of its result. -/
def adjX (x : ℕ → EReal) (w0 w1 w2 : EReal) (r : ℕ) : EReal := x r * w1 + dnOf x r * w0 + upOf x r * w2
/-- The neighbour of a row that a weight multiplies. -/
def tap (x : ℕ → EReal) (k : Fin 3) (r : ℕ) : EReal := if k.val = 0 then upOf x r else if k.val = 1 then x r else dnOf x r

/-- The gated product, -/
def gated (g v : EReal) : EReal := g * Ideal.logistic g * v
/-- the gradient of the gate from that of the product -/
def dgate (d g v : EReal) : EReal := d * v * (Ideal.logistic g * (1 + g * (1 - Ideal.logistic g)))
/-- and of the value. -/
def dval (d g : EReal) : EReal := d * (g * Ideal.logistic g)

/-- A row of the widened block is a row of the block's segment. -/
def live (i r : ℕ) : Prop := (r < 8 → i ≠ 0 ∧ i ≠ 16) ∧ (264 ≤ r → i ≠ 15 ∧ i ≠ 16)
instance (i r : ℕ) : Decidable (live i r) := by unfold live; infer_instance
/-- The widened block of a column: eight rows before, the block, eight rows after. -/
def ext (x : ℕ → EReal) (i r : ℕ) : EReal := if live i r then x (256 * i + r - 8) else 0

theorem ext_at (x : ℕ → EReal) {i r : ℕ} (h : live i r) : ext x i r = x (256 * i + r - 8) := if_pos h
theorem ext_dead (x : ℕ → EReal) {i r : ℕ} (h : ¬live i r) : ext x i r = 0 := if_neg h
theorem ext_up (x : ℕ → EReal) {i r : ℕ} (hi : i < 17) (h0 : 7 ≤ r) (h1 : r ≤ 264) (h : live i r) : ext x i (r - 1) = upOf x (256 * i + r - 8) := by
  by_cases a : live i (r - 1)
  · rw [ext_at x a, upOf, if_neg (by unfold live at h a; omega)]
    exact congrArg x (by unfold live at h a; omega)
  · rw [ext_dead x a, upOf, if_pos (by unfold live at h a; omega)]
theorem ext_dn (x : ℕ → EReal) {i r : ℕ} (hi : i < 17) (h0 : 7 ≤ r) (h1 : r ≤ 264) (h : live i r) : ext x i (r + 1) = dnOf x (256 * i + r - 8) := by
  by_cases a : live i (r + 1)
  · rw [ext_at x a, dnOf, if_neg (by unfold live at h a; omega)]
    exact congrArg x (by unfold live at h a; omega)
  · rw [ext_dead x a, dnOf, if_pos (by unfold live at h a; omega)]
theorem live_mid {i r : ℕ} (h0 : 8 ≤ r) (h1 : r < 264) : live i r := ⟨fun h => by omega, fun h => by omega⟩

/-- The two marks a kernel makes of its row block: rows before it belong to its segment, rows after it do. -/
def mP (i : ℕ) : BitVec 1 := Scalar.andi (Scalar.cmpi CmpIPredicate.ne (BitVec.ofNat 32 i) 0#32) (Scalar.cmpi CmpIPredicate.ne (BitVec.ofNat 32 i) 16#32)
def mN (i : ℕ) : BitVec 1 := Scalar.andi (Scalar.cmpi CmpIPredicate.ne (BitVec.ofNat 32 i) 15#32) (Scalar.cmpi CmpIPredicate.ne (BitVec.ofNat 32 i) 16#32)
theorem mP_eq : ∀ i : Fin 17, mP i.val = if i.val ≠ 0 ∧ i.val ≠ 16 then 1#1 else 0#1 := by decide +kernel
theorem mN_eq : ∀ i : Fin 17, mN i.val = if i.val ≠ 15 ∧ i.val ≠ 16 then 1#1 else 0#1 := by decide +kernel

theorem sel_ite (p : Prop) [Decidable p] (a b : EReal) : Scalar.select (if p then 1#1 else 0#1) a b = if p then a else b := by
  by_cases h : p
  · rw [if_pos h, if_pos h]; rfl
  · rw [if_neg h, if_neg h]; rfl

/-- Three pieces of a column set side by side, the outer two marked, are the widened block. -/
theorem glue_ext (x : ℕ → EReal) (i : ℕ) (hi : i < 17) (p n : Fin 8 → EReal) (m : Fin 256 → EReal)
    (hp : i ≠ 0 → ∀ k : Fin 8, p k = x (256 * i - 8 + k.val)) (hm : ∀ k : Fin 256, m k = x (256 * i + k.val))
    (hn : i < 16 → ∀ k : Fin 8, n k = x (256 * (i + 1) + k.val)) (r : Fin 272) :
    (if h : r.val < 8 then Scalar.select (mP i) (p ⟨r.val, h⟩) 0
      else if h' : r.val - 8 < 256 then m ⟨r.val - 8, h'⟩
      else Scalar.select (mN i) (n ⟨r.val - 8 - 256, by omega⟩) 0) = ext x i r.val := by
  have := r.isLt
  rw [mP_eq ⟨i, hi⟩, mN_eq ⟨i, hi⟩]
  simp only [sel_ite]
  by_cases a : r.val < 8
  · rw [dif_pos a]
    by_cases b : i ≠ 0 ∧ i ≠ 16
    · rw [if_pos b, ext_at x (by unfold live; omega), hp b.1]
      exact congrArg x (by show 256 * i - 8 + r.val = _; omega)
    · rw [if_neg b, ext_dead x (by unfold live; omega)]
  · rw [dif_neg a]
    by_cases d : r.val - 8 < 256
    · rw [dif_pos d, ext_at x (by unfold live; omega), hm]
      exact congrArg x (by show 256 * i + (r.val - 8) = _; omega)
    · rw [dif_neg d]
      by_cases b : i ≠ 15 ∧ i ≠ 16
      · rw [if_pos b, ext_at x (by unfold live; omega), hn (by omega)]
        exact congrArg x (by show 256 * (i + 1) + (r.val - 8 - 256) = _; omega)
      · rw [if_neg b, ext_dead x (by unfold live; omega)]

/-! ## The arrays -/

/-- A column of the up-projection, -/
def col (A : S2x4352x5632.Idx → EReal) (s : Fin 2) (j : Fin 5632) (r : ℕ) : EReal := if h : r < 4352 then A (ix3 s ⟨r, h⟩ j) else 0
/-- and of an array of one half. -/
def col1 (D : S4352x5632.Idx → EReal) (j : Fin 5632) (r : ℕ) : EReal := if h : r < 4352 then D (ix2 ⟨r, h⟩ j) else 0
theorem col_at (A : S2x4352x5632.Idx → EReal) (s : Fin 2) (j : Fin 5632) (r : Fin 4352) : col A s j r.val = A (ix3 s r j) := dif_pos r.isLt
theorem col1_at (D : S4352x5632.Idx → EReal) (j : Fin 5632) (r : Fin 4352) : col1 D j r.val = D (ix2 r j) := dif_pos r.isLt

section
variable (A : S2x4352x5632.Idx → EReal) (w : S2x3x5632.Idx → EReal) (b : S2x1x5632.Idx → EReal) (D : S4352x5632.Idx → EReal)

/-- A column of the convolution, -/
def cv (s : Fin 2) (j : Fin 5632) : ℕ → EReal := convX (col A s j) (w (ix3 s 0 j)) (w (ix3 s 1 j)) (w (ix3 s 2 j)) (b (ix3 s 0 j))
/-- and of its gradient. -/
def dcv (s : Fin 2) (j : Fin 5632) (r : ℕ) : EReal :=
  if s.val = 0 then dgate (col1 D j r) (cv A w b 0 j r) (cv A w b 1 j r) else dval (col1 D j r) (cv A w b 0 j r)

/-- The gated product. -/
def gateF : S4352x5632.Idx → EReal := fun i => gated (cv A w b 0 (i 1) (i 0).val) (cv A w b 1 (i 1) (i 0).val)
/-- The gradients of the up-projection, -/
def daF : S2x4352x5632.Idx → EReal := fun i =>
  adjX (dcv A w b D (i 0) (i 2)) (w (ix3 (i 0) 0 (i 2))) (w (ix3 (i 0) 1 (i 2))) (w (ix3 (i 0) 2 (i 2))) (i 1).val
/-- of the convolution's weights -/
def dcwF : S2x3x5632.Idx → EReal := fun i => ∑ r : Fin 4352, dcv A w b D (i 0) (i 2) r.val * tap (col A (i 0) (i 2)) (i 1) r.val
/-- and of its bias. -/
def dcbF : S2x1x5632.Idx → EReal := fun i => ∑ r : Fin 4352, dcv A w b D (i 0) (i 2) r.val
end

end Cert.Feed
-- ==== Proof.FeedFwd.lean ====
/-
  The gated convolution's kernel: what it leaves in its array.
-/
module

public import proofs.«01_k».proof.Proof.FeedSpec

@[expose] public section

set_option maxRecDepth 16384

noncomputable section

namespace Cert.Feed

open Cert.FfnIdeal Cert.FfnIdeal.Gen
open Idealize.ShloMosaic Idealize.ShloMosaic.TcCoe Idealize.SL.Sem
open Idealize.ShloMosaic.Pipeline (Dat)

/-- The place in an array's row of a lane of a point's block. -/
def lane (t : ℕ) (b : Fin 512) : Fin 5632 := ⟨t / 17 % 11 * 512 + b.val, by have := b.isLt; omega⟩

variable (V : (c : Dev nD) → (b : Ref sig .tc) → Buf (Elt Ideal) ((c : Thread nD τ).loc b)) (c : Dev nD)

theorem idx1a : ∀ t : Fin cfg1.N, win1_0.index t = ![0, t.val % 17, t.val / 17] ∧ win1_1.index t = ![0, t.val % 17 * 32 - 1, t.val / 17]
    ∧ win1_2.index t = ![0, min (t.val % 17 * 32 + 32) 543, t.val / 17] ∧ t.val < 187 :=
  (by decide +kernel : ∀ t : Fin grid1.N, _)
theorem idx1b : ∀ t : Fin cfg1.N, win1_3.index t = ![1, t.val % 17, t.val / 17] ∧ win1_4.index t = ![1, t.val % 17 * 32 - 1, t.val / 17]
    ∧ win1_5.index t = ![1, min (t.val % 17 * 32 + 32) 543, t.val / 17] ∧ t.val < 187 :=
  (by decide +kernel : ∀ t : Fin grid1.N, _)
theorem idx1c : ∀ t : Fin cfg1.N, win1_6.index t = ![0, 0, t.val / 17] ∧ win1_7.index t = ![1, 0, t.val / 17] ∧ win1_8.index t = ![0, 0, t.val / 17]
    ∧ win1_9.index t = ![1, 0, t.val / 17] ∧ win1_10.index t = ![t.val % 17, t.val / 17] ∧ ((grid1.coords t) 1).val = t.val % 17 ∧ t.val < 187 :=
  (by decide +kernel : ∀ t : Fin grid1.N, _)

theorem b1_0 (t : Fin cfg1.N) (k : Fin 256) (b : Fin 512) :
    (iblk1 V c 0 t (ix3 0 k b) : EReal) = col (V c main_v7) 0 (lane t.val b) (256 * (t.val % 17) + k.val) := by
  unfold col lane
  rw [dif_pos (by omega)]
  blk_ext [iblk1, idx1a t]
theorem b1_1 (t : Fin cfg1.N) (h : t.val % 17 ≠ 0) (k : Fin 8) (b : Fin 512) :
    (iblk1 V c 1 t (ix3 0 k b) : EReal) = col (V c main_v7) 0 (lane t.val b) (256 * (t.val % 17) - 8 + k.val) := by
  unfold col lane
  rw [dif_pos (by omega)]
  blk_ext [iblk1, idx1a t]
theorem b1_2 (t : Fin cfg1.N) (h : t.val % 17 < 16) (k : Fin 8) (b : Fin 512) :
    (iblk1 V c 2 t (ix3 0 k b) : EReal) = col (V c main_v7) 0 (lane t.val b) (256 * (t.val % 17 + 1) + k.val) := by
  unfold col lane
  rw [dif_pos (by omega)]
  blk_ext [iblk1, idx1a t]
theorem b1_6 (t : Fin cfg1.N) (k : Fin 3) (b : Fin 512) : (iblk1 V c 6 t (ix3 0 k b) : EReal) = V c main_v1 (ix3 0 k (lane t.val b)) := by
  unfold lane
  blk_ext [iblk1, idx1c t]
theorem b1_8 (t : Fin cfg1.N) (b : Fin 512) : (iblk1 V c 8 t (ix3 0 0 b) : EReal) = V c main_v2 (ix3 0 0 (lane t.val b)) := by
  unfold lane
  blk_ext [iblk1, idx1c t]

theorem b1_3 (t : Fin cfg1.N) (k : Fin 256) (b : Fin 512) :
    (iblk1 V c 3 t (ix3 0 k b) : EReal) = col (V c main_v7) 1 (lane t.val b) (256 * (t.val % 17) + k.val) := by
  unfold col lane
  rw [dif_pos (by omega)]
  blk_ext [iblk1, idx1b t]
theorem b1_4 (t : Fin cfg1.N) (h : t.val % 17 ≠ 0) (k : Fin 8) (b : Fin 512) :
    (iblk1 V c 4 t (ix3 0 k b) : EReal) = col (V c main_v7) 1 (lane t.val b) (256 * (t.val % 17) - 8 + k.val) := by
  unfold col lane
  rw [dif_pos (by omega)]
  blk_ext [iblk1, idx1b t]
theorem b1_5 (t : Fin cfg1.N) (h : t.val % 17 < 16) (k : Fin 8) (b : Fin 512) :
    (iblk1 V c 5 t (ix3 0 k b) : EReal) = col (V c main_v7) 1 (lane t.val b) (256 * (t.val % 17 + 1) + k.val) := by
  unfold col lane
  rw [dif_pos (by omega)]
  blk_ext [iblk1, idx1b t]
theorem b1_7 (t : Fin cfg1.N) (k : Fin 3) (b : Fin 512) : (iblk1 V c 7 t (ix3 0 k b) : EReal) = V c main_v1 (ix3 1 k (lane t.val b)) := by
  unfold lane
  blk_ext [iblk1, idx1c t]
theorem b1_9 (t : Fin cfg1.N) (b : Fin 512) : (iblk1 V c 9 t (ix3 0 0 b) : EReal) = V c main_v2 (ix3 1 0 (lane t.val b)) := by
  unfold lane
  blk_ext [iblk1, idx1c t]

/-- The widened block of the gate. -/
theorem gate_ext1 (x : ℕ → EReal) (q : ℕ) (hq : q < 17) (i : grid1.Coords) (hi : (i 1).val = q) (p m n) (b : Fin 512)
    (hp : q ≠ 0 → ∀ k : Fin 8, (p (ix3 0 k b) : EReal) = x (256 * q - 8 + k.val)) (hm : ∀ k : Fin 256, (m (ix3 0 k b) : EReal) = x (256 * q + k.val))
    (hn : q < 16 → ∀ k : Fin 8, (n (ix3 0 k b) : EReal) = x (256 * (q + 1) + k.val)) (r : Fin 272) :
    (k1_pay1 (F := Ideal) i p m n (ix2 r b) : EReal) = ext x q r.val := by
  subst hi
  pointwise [k1_pay1]
  exact glue_ext x (i 1).val hq (fun k => p (ix3 0 k b)) (fun k => n (ix3 0 k b)) (fun k => m (ix3 0 k b)) hp hm hn r

/-- Two of the gate's three terms, and the third. -/
theorem gate_two1 (i : grid1.Coords) (p m n w) (r : Fin 272) (h : 1 ≤ r.val) (b : Fin 512) :
    (k1_pay4 (F := Ideal) i p m n w (ix2 r b) : EReal)
      = k1_pay1 (F := Ideal) i p m n (ix2 ⟨r.val - 1, by have := r.isLt; omega⟩ b) * w (ix3 0 0 b) + k1_pay1 (F := Ideal) i p m n (ix2 r b) * w (ix3 0 1 b) := by
  unfold k1_pay4
  generalize k1_pay1 (F := Ideal) i p m n = e
  pointwise [k1_pay2]
  rw [dif_neg (by omega)]
theorem gate_one1 (i : grid1.Coords) (p m n w) (r : Fin 272) (h : r.val < 271) (b : Fin 512) :
    (k1_pay5 (F := Ideal) i p m n w (ix2 r b) : EReal) = k1_pay1 (F := Ideal) i p m n (ix2 ⟨r.val + 1, by omega⟩ b) * w (ix3 0 2 b) := by
  unfold k1_pay5
  generalize k1_pay1 (F := Ideal) i p m n = e
  pointwise [k1_pay2]
  rw [dif_pos (by omega)]
  exact congrArg (fun z => e (ix2 z b) * w (ix3 0 2 b)) (Fin.ext (Nat.add_comm 1 r.val))

/-- The gated product of a row of the block. -/
theorem gated1 (x : ℕ → EReal) (q : ℕ) (hq : q < 17) (b20 e f p m n w z) (b : Fin 512)
    (hp : q ≠ 0 → ∀ k : Fin 8, (p (ix3 0 k b) : EReal) = x (256 * q - 8 + k.val)) (hm : ∀ k : Fin 256, (m (ix3 0 k b) : EReal) = x (256 * q + k.val))
    (hn : q < 16 → ∀ k : Fin 8, (n (ix3 0 k b) : EReal) = x (256 * (q + 1) + k.val)) (r : Fin 256) :
    (k1_pay6 (F := Ideal) (mP q) (mN q) b20 e f p m n w z (ix2 r b) : EReal)
      = gated (e (ix2 ⟨8 + r.val, by omega⟩ b) + f (ix2 ⟨8 + r.val, by omega⟩ b) + b20 (ix2 0 b))
          (convX x (w (ix3 0 0 b)) (w (ix3 0 1 b)) (w (ix3 0 2 b)) (z (ix3 0 0 b)) (256 * q + r.val)) := by
  have := r.isLt
  have g := glue_ext x q hq (fun k => p (ix3 0 k b)) (fun k => n (ix3 0 k b)) (fun k => m (ix3 0 k b)) hp hm hn
  have e0 : 256 * q + (8 + r.val) - 8 = 256 * q + r.val := by omega
  have hl : live q (8 + r.val) := live_mid (by omega) (by omega)
  have gu := ext_up x hq (by omega) (by omega) hl
  have gd := ext_dn x hq (by omega) (by omega) hl
  rw [e0] at gu gd
  pointwise [k1_pay6]
  rw [dif_neg (by omega : ¬8 + r.val < 1), dif_pos (by omega : 8 + r.val < 271)]
  refine congrArg₂ (· * ·) rfl (congrArg₂ (· + ·) (congrArg₂ (· + ·) (congrArg₂ (· + ·) (congrArg (· * _) ?_) (congrArg (· * _) (hm r))) (congrArg (· * _) ?_)) rfl)
  · exact (g ⟨8 + r.val - 1, by omega⟩).trans gu
  · refine (g ⟨1 + (8 + r.val), by omega⟩).trans (Eq.trans ?_ gd)
    exact congrArg (ext x q) (by show 1 + (8 + r.val) = _; omega)

/-- The gate of a row of the block. -/
theorem gate1 (x : ℕ → EReal) (q : ℕ) (hq : q < 17) (i : grid1.Coords) (hi : (i 1).val = q) (p m n w z) (b : Fin 512)
    (hp : q ≠ 0 → ∀ k : Fin 8, (p (ix3 0 k b) : EReal) = x (256 * q - 8 + k.val)) (hm : ∀ k : Fin 256, (m (ix3 0 k b) : EReal) = x (256 * q + k.val))
    (hn : q < 16 → ∀ k : Fin 8, (n (ix3 0 k b) : EReal) = x (256 * (q + 1) + k.val)) (r : Fin 256) :
    (k1_pay4 (F := Ideal) i p m n w (ix2 ⟨8 + r.val, by omega⟩ b) + k1_pay5 (F := Ideal) i p m n w (ix2 ⟨8 + r.val, by omega⟩ b) + k1_pay3 (F := Ideal) z (ix2 0 b) : EReal)
      = convX x (w (ix3 0 0 b)) (w (ix3 0 1 b)) (w (ix3 0 2 b)) (z (ix3 0 0 b)) (256 * q + r.val) := by
  have := r.isLt
  have e0 : 256 * q + (8 + r.val) - 8 = 256 * q + r.val := by omega
  have hl : live q (8 + r.val) := live_mid (by omega) (by omega)
  have gu := ext_up x hq (by omega) (by omega) hl
  have gd := ext_dn x hq (by omega) (by omega) hl
  have ga := ext_at x hl
  rw [e0] at gu gd ga
  rw [gate_two1 _ _ _ _ _ _ (by show 1 ≤ 8 + r.val; omega), gate_one1 _ _ _ _ _ _ (by show 8 + r.val < 271; omega)]
  simp only [gate_ext1 x q hq i hi p m n b hp hm hn]
  refine congrArg₂ (· + ·) (congrArg₂ (· + ·) (congrArg₂ (· + ·) (congrArg (· * _) gu) (congrArg (· * _) ga)) (congrArg (· * _) gd)) ?_
  pointwise [k1_pay3]

theorem emb1_10 (t : Fin cfg1.N) (r : Fin 256) (b : Fin 512) :
    ((win1_10.blk t).view.emb (ix2 r b) : S4352x5632.Idx) = ix2 ⟨256 * (t.val % 17) + r.val, by omega⟩ (lane t.val b) := by
  unfold lane
  blk_ext [idx1c t]

theorem final1 : (dat1 V c).arrAt 10 cfg1.N = gateF (V c main_v7) (V c main_v1) (V c main_v2) := by
  refine (dat1 V c).arrAt_eq_of_covers 10 _ (by decide +kernel) fun t hf y => ?_
  blk_simp
  rw [after1_10]
  frame_out
  idx_vars y
  refine Eq.trans ?_ (congrArg (gateF (V c main_v7) (V c main_v1) (V c main_v2)) (emb1_10 t y0 y1).symm)
  obtain ⟨-, -, -, -, -, hc, -⟩ := idx1c t
  have hq : t.val % 17 < 17 := Nat.mod_lt _ (by decide)
  have em : ∀ q, q = ((grid1.coords t) 1).val → BitVec.ofNat 32 q = BitVec.ofNat 32 ((grid1.coords t) 1).val := fun q h => congrArg _ h
  have e1 := gated1 (col (V c main_v7) 1 (lane t.val y1)) (t.val % 17) hq (k1_pay3 (iblk1 V c 8 t))
    (k1_pay4 (grid1.coords t) (iblk1 V c 1 t) (iblk1 V c 0 t) (iblk1 V c 2 t) (iblk1 V c 6 t))
    (k1_pay5 (grid1.coords t) (iblk1 V c 1 t) (iblk1 V c 0 t) (iblk1 V c 2 t) (iblk1 V c 6 t))
    (iblk1 V c 4 t) (iblk1 V c 3 t) (iblk1 V c 5 t) (iblk1 V c 7 t) (iblk1 V c 9 t) y1
    (fun h k => b1_4 V c t h k y1) (fun k => b1_3 V c t k y1) (fun h k => b1_5 V c t h k y1) y0
  unfold mP mN at e1
  rw [← hc] at e1
  refine e1.trans ?_
  rw [gate1 (col (V c main_v7) 0 (lane t.val y1)) (t.val % 17) hq (grid1.coords t) hc _ _ _ _ _ y1
    (fun h k => b1_1 V c t h k y1) (fun k => b1_0 V c t k y1) (fun h k => b1_2 V c t h k y1) y0]
  rw [hc, b1_6 V c t, b1_6 V c t, b1_6 V c t, b1_7 V c t, b1_7 V c t, b1_7 V c t, b1_8 V c t, b1_9 V c t]
  rfl

end Cert.Feed
-- ==== Proof.FeedPay.lean ====
/-
  The backward kernel of the gated convolution: what it leaves in its three arrays.
-/
module

public import Idealize.ShloMosaic.Lib.Pipeline.ReadBack
public import proofs.«01_k».proof.Proof.FeedFwd

@[expose] public section

set_option maxRecDepth 16384

noncomputable section

namespace Cert.Feed

open Cert.FfnIdeal Cert.FfnIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The blocks a point reads -/

theorem idx5a : ∀ t : Fin cfg5.N, win5_0.index t = ![0, t.val % 17, t.val / 17] ∧ win5_1.index t = ![0, t.val % 17 * 32 - 1, t.val / 17]
    ∧ win5_2.index t = ![0, min (t.val % 17 * 32 + 32) 543, t.val / 17] ∧ t.val < 187 :=
  (by decide +kernel : ∀ t : Fin grid5.N, _)
theorem idx5b : ∀ t : Fin cfg5.N, win5_3.index t = ![1, t.val % 17, t.val / 17] ∧ win5_4.index t = ![1, t.val % 17 * 32 - 1, t.val / 17]
    ∧ win5_5.index t = ![1, min (t.val % 17 * 32 + 32) 543, t.val / 17] ∧ t.val < 187 :=
  (by decide +kernel : ∀ t : Fin grid5.N, _)
theorem idx5c : ∀ t : Fin cfg5.N, win5_6.index t = ![0, 0, t.val / 17] ∧ win5_7.index t = ![1, 0, t.val / 17] ∧ win5_8.index t = ![0, 0, t.val / 17]
    ∧ win5_9.index t = ![1, 0, t.val / 17] ∧ ((grid5.coords t) 1).val = t.val % 17 ∧ t.val < 187 :=
  (by decide +kernel : ∀ t : Fin grid5.N, _)
theorem idx5d : ∀ t : Fin cfg5.N, win5_10.index t = ![t.val % 17, t.val / 17] ∧ win5_11.index t = ![t.val % 17 * 32 - 1, t.val / 17]
    ∧ win5_12.index t = ![min (t.val % 17 * 32 + 32) 543, t.val / 17] ∧ t.val < 187 :=
  (by decide +kernel : ∀ t : Fin grid5.N, _)
theorem idx5e : ∀ t : Fin cfg5.N, win5_13.index t = ![0, t.val % 17, t.val / 17] ∧ win5_14.index t = ![0, 0, t.val / 17]
    ∧ win5_15.index t = ![0, 0, t.val / 17] ∧ t.val < 187 :=
  (by decide +kernel : ∀ t : Fin grid5.N, _)

theorem b5_0 (t : Fin cfg5.N) (k : Fin 256) (b : Fin 512) :
    (iblk5 V c 0 t (ix3 0 k b) : EReal) = col (V c main_v7) 0 (lane t.val b) (256 * (t.val % 17) + k.val) := by
  unfold col lane
  rw [dif_pos (by omega)]
  blk_ext [iblk5, idx5a t]
theorem b5_1 (t : Fin cfg5.N) (h : t.val % 17 ≠ 0) (k : Fin 8) (b : Fin 512) :
    (iblk5 V c 1 t (ix3 0 k b) : EReal) = col (V c main_v7) 0 (lane t.val b) (256 * (t.val % 17) - 8 + k.val) := by
  unfold col lane
  rw [dif_pos (by omega)]
  blk_ext [iblk5, idx5a t]
theorem b5_2 (t : Fin cfg5.N) (h : t.val % 17 < 16) (k : Fin 8) (b : Fin 512) :
    (iblk5 V c 2 t (ix3 0 k b) : EReal) = col (V c main_v7) 0 (lane t.val b) (256 * (t.val % 17 + 1) + k.val) := by
  unfold col lane
  rw [dif_pos (by omega)]
  blk_ext [iblk5, idx5a t]
theorem b5_3 (t : Fin cfg5.N) (k : Fin 256) (b : Fin 512) :
    (iblk5 V c 3 t (ix3 0 k b) : EReal) = col (V c main_v7) 1 (lane t.val b) (256 * (t.val % 17) + k.val) := by
  unfold col lane
  rw [dif_pos (by omega)]
  blk_ext [iblk5, idx5b t]
theorem b5_4 (t : Fin cfg5.N) (h : t.val % 17 ≠ 0) (k : Fin 8) (b : Fin 512) :
    (iblk5 V c 4 t (ix3 0 k b) : EReal) = col (V c main_v7) 1 (lane t.val b) (256 * (t.val % 17) - 8 + k.val) := by
  unfold col lane
  rw [dif_pos (by omega)]
  blk_ext [iblk5, idx5b t]
theorem b5_5 (t : Fin cfg5.N) (h : t.val % 17 < 16) (k : Fin 8) (b : Fin 512) :
    (iblk5 V c 5 t (ix3 0 k b) : EReal) = col (V c main_v7) 1 (lane t.val b) (256 * (t.val % 17 + 1) + k.val) := by
  unfold col lane
  rw [dif_pos (by omega)]
  blk_ext [iblk5, idx5b t]
theorem b5_10 (t : Fin cfg5.N) (k : Fin 256) (b : Fin 512) :
    (iblk5 V c 10 t (ix2 k b) : EReal) = col1 (V c main_v11) (lane t.val b) (256 * (t.val % 17) + k.val) := by
  unfold col1 lane
  rw [dif_pos (by omega)]
  blk_ext [iblk5, idx5d t]
theorem b5_11 (t : Fin cfg5.N) (h : t.val % 17 ≠ 0) (k : Fin 8) (b : Fin 512) :
    (iblk5 V c 11 t (ix2 k b) : EReal) = col1 (V c main_v11) (lane t.val b) (256 * (t.val % 17) - 8 + k.val) := by
  unfold col1 lane
  rw [dif_pos (by omega)]
  blk_ext [iblk5, idx5d t]
theorem b5_12 (t : Fin cfg5.N) (h : t.val % 17 < 16) (k : Fin 8) (b : Fin 512) :
    (iblk5 V c 12 t (ix2 k b) : EReal) = col1 (V c main_v11) (lane t.val b) (256 * (t.val % 17 + 1) + k.val) := by
  unfold col1 lane
  rw [dif_pos (by omega)]
  blk_ext [iblk5, idx5d t]
theorem b5_6 (t : Fin cfg5.N) (k : Fin 3) (b : Fin 512) : (iblk5 V c 6 t (ix3 0 k b) : EReal) = V c main_v1 (ix3 0 k (lane t.val b)) := by
  unfold lane
  blk_ext [iblk5, idx5c t]
theorem b5_7 (t : Fin cfg5.N) (k : Fin 3) (b : Fin 512) : (iblk5 V c 7 t (ix3 0 k b) : EReal) = V c main_v1 (ix3 1 k (lane t.val b)) := by
  unfold lane
  blk_ext [iblk5, idx5c t]
theorem b5_8 (t : Fin cfg5.N) (b : Fin 512) : (iblk5 V c 8 t (ix3 0 0 b) : EReal) = V c main_v2 (ix3 0 0 (lane t.val b)) := by
  unfold lane
  blk_ext [iblk5, idx5c t]
theorem b5_9 (t : Fin cfg5.N) (b : Fin 512) : (iblk5 V c 9 t (ix3 0 0 b) : EReal) = V c main_v2 (ix3 1 0 (lane t.val b)) := by
  unfold lane
  blk_ext [iblk5, idx5c t]

/-! ## The pieces of the computation, on a widened block -/

section
variable (x : ℕ → EReal) (q : ℕ) (b : Fin 512)

theorem up5 (e : FVec Ideal S272x512 .f32) (r : Fin 272) (h : 1 ≤ r.val) :
    (k5_pay11 e (ix2 r b) : EReal) = e (ix2 ⟨r.val - 1, by have := r.isLt; omega⟩ b) := by
  pointwise [k5_pay11]
  rw [dif_neg (by omega)]
theorem dn5 (e : FVec Ideal S272x512 .f32) (r : Fin 272) (h : r.val < 271) :
    (k5_pay12 e (ix2 r b) : EReal) = e (ix2 ⟨r.val + 1, by omega⟩ b) := by
  pointwise [k5_pay12]
  rw [dif_pos (by omega)]
  exact congrArg (fun z => e (ix2 z b)) (Fin.ext (Nat.add_comm 1 r.val))
/-- The value's two neighbours are the same two rolls as the gate's. -/
theorem up5v (v8 : BitVec 1) (p m n) : k5_pay14 (F := Ideal) v8 p m n = k5_pay11 (k5_pay10 (F := Ideal) v8 p m n) := rfl
theorem dn5v (v8 : BitVec 1) (p m n) : k5_pay15 (F := Ideal) v8 p m n = k5_pay12 (k5_pay10 (F := Ideal) v8 p m n) := rfl
theorem conv5v (v8 : BitVec 1) (w p m n z) : k5_pay16 (F := Ideal) v8 w p m n z = k5_pay13 (F := Ideal) w (k5_pay10 (F := Ideal) v8 p m n) z := rfl

theorem gate_ext5 (i : grid5.Coords) (hi : (i 1).val = q) (p m n)
    (hp : q ≠ 0 → ∀ k : Fin 8, (p (ix3 0 k b) : EReal) = x (256 * q - 8 + k.val)) (hm : ∀ k : Fin 256, (m (ix3 0 k b) : EReal) = x (256 * q + k.val))
    (hn : q < 16 → ∀ k : Fin 8, (n (ix3 0 k b) : EReal) = x (256 * (q + 1) + k.val)) (hq : q < 17) (r : Fin 272) :
    (k5_pay8 (F := Ideal) i p m n (ix2 r b) : EReal) = ext x q r.val := by
  subst hi
  pointwise [k5_pay8]
  exact glue_ext x (i 1).val hq (fun k => p (ix3 0 k b)) (fun k => n (ix3 0 k b)) (fun k => m (ix3 0 k b)) hp hm hn r
theorem val_ext5 (i : grid5.Coords) (hi : (i 1).val = q) (p m n)
    (hp : q ≠ 0 → ∀ k : Fin 8, (p (ix3 0 k b) : EReal) = x (256 * q - 8 + k.val)) (hm : ∀ k : Fin 256, (m (ix3 0 k b) : EReal) = x (256 * q + k.val))
    (hn : q < 16 → ∀ k : Fin 8, (n (ix3 0 k b) : EReal) = x (256 * (q + 1) + k.val)) (hq : q < 17) (r : Fin 272) :
    (k5_pay10 (F := Ideal) (mN (i 1).val) (k5_pay9 i p) m n (ix2 r b) : EReal) = ext x q r.val := by
  subst hi
  pointwise [k5_pay10, k5_pay9]
  exact glue_ext x (i 1).val hq (fun k => p (ix3 0 k b)) (fun k => n (ix3 0 k b)) (fun k => m (ix3 0 k b)) hp hm hn r
theorem due_ext5 (i : grid5.Coords) (hi : (i 1).val = q) (p m n)
    (hp : q ≠ 0 → ∀ k : Fin 8, (p (ix2 k b) : EReal) = x (256 * q - 8 + k.val)) (hm : ∀ k : Fin 256, (m (ix2 k b) : EReal) = x (256 * q + k.val))
    (hn : q < 16 → ∀ k : Fin 8, (n (ix2 k b) : EReal) = x (256 * (q + 1) + k.val)) (hq : q < 17) (r : Fin 272) :
    (k5_pay17 (F := Ideal) (mP (i 1).val) (mN (i 1).val) p m n (ix2 r b) : EReal) = ext x q r.val := by
  subst hi
  pointwise [k5_pay17]
  exact glue_ext x (i 1).val hq (fun k => p (ix2 k b)) (fun k => n (ix2 k b)) (fun k => m (ix2 k b)) hp hm hn r

/-- The convolution of a live row. -/
theorem conv5 (e : FVec Ideal S272x512 .f32) (he : ∀ r : Fin 272, (e (ix2 r b) : EReal) = ext x q r.val) (hq : q < 17) (w : FVec Ideal S3x512 .f32)
    (z : Vec Ideal S1x1x512 .f32) (r : Fin 272) (h0 : 7 ≤ r.val) (h1 : r.val ≤ 264) (hl : live q r.val) :
    (k5_pay13 w e z (ix2 r b) : EReal) = convX x (w (ix2 0 b)) (w (ix2 1 b)) (w (ix2 2 b)) (z (ix3 0 0 b)) (256 * q + r.val - 8) := by
  unfold k5_pay13
  have hu := (up5 b e r (by omega)).trans ((he _).trans (ext_up x hq h0 h1 hl))
  have hd := (dn5 b e r (by omega)).trans ((he _).trans (ext_dn x hq h0 h1 hl))
  have hm := (he r).trans (ext_at x hl)
  generalize k5_pay11 e = eu at hu ⊢
  generalize k5_pay12 e = ed at hd ⊢
  pointwise
  rw [hu, hd, hm]
  rfl

/-- The gradients of the gate and of the value, on a widened block. -/
theorem dg5 (q5 q5' : BitVec 1) (g v : FVec Ideal S272x512 .f32) (p m n) (r : Fin 272) :
    (k5_pay19 (F := Ideal) q5 q5' g v p m n (ix2 r b) : EReal) = dgate (k5_pay17 (F := Ideal) q5 q5' p m n (ix2 r b)) (g (ix2 r b)) (v (ix2 r b)) := by
  unfold k5_pay19 dgate
  generalize k5_pay17 (F := Ideal) q5 q5' p m n = e
  pointwise [k5_pay18]
theorem dv5 (q5 q5' : BitVec 1) (g : FVec Ideal S272x512 .f32) (p m n) (r : Fin 272) :
    (k5_pay20 (F := Ideal) q5 q5' g p m n (ix2 r b) : EReal) = dval (k5_pay17 (F := Ideal) q5 q5' p m n (ix2 r b)) (g (ix2 r b)) := by
  unfold k5_pay20 dval
  generalize k5_pay17 (F := Ideal) q5 q5' p m n = e
  pointwise [k5_pay18]

/-- The gradient of the convolution's argument, from the widened block of that of its result. -/
theorem adj5 (e : FVec Ideal S272x512 .f32) (he : ∀ r : Fin 272, 7 ≤ r.val → r.val ≤ 264 → (e (ix2 r b) : EReal) = ext x q r.val) (hq : q < 17)
    (w : FVec Ideal S3x512 .f32) (r : Fin 256) :
    (k5_pay29 w e (ix3 0 r b) : EReal) = adjX x (w (ix2 0 b)) (w (ix2 1 b)) (w (ix2 2 b)) (256 * q + r.val) := by
  have := r.isLt
  have e0 : 256 * q + (8 + r.val) - 8 = 256 * q + r.val := by omega
  have hl : live q (8 + r.val) := live_mid (by omega) (by omega)
  have gu := ext_up x hq (by omega) (by omega) hl
  have gd := ext_dn x hq (by omega) (by omega) hl
  have ga := ext_at x hl
  rw [e0] at gu gd ga
  pointwise [k5_pay29]
  rw [dif_neg (by omega : ¬8 + r.val < 1), dif_pos (by omega : 8 + r.val < 271)]
  refine congrArg₂ (· + ·) (congrArg₂ (· + ·) (congrArg (· * _) ?_) (congrArg (· * _) ?_)) (congrArg (· * _) ?_)
  · exact (he ⟨8 + r.val, by omega⟩ (by show 7 ≤ 8 + r.val; omega) (by show 8 + r.val ≤ 264; omega)).trans ga
  · refine (he ⟨1 + (8 + r.val), by omega⟩ (by show 7 ≤ 1 + (8 + r.val); omega) (by show 1 + (8 + r.val) ≤ 264; omega)).trans (Eq.trans ?_ gd)
    exact congrArg (ext x q) (by show 1 + (8 + r.val) = _; omega)
  · exact (he ⟨8 + r.val - 1, by omega⟩ (by show 7 ≤ 8 + r.val - 1; omega) (by show 8 + r.val - 1 ≤ 264; omega)).trans gu
theorem adj5g (q5 q5' : BitVec 1) (w g v p m n) : k5_pay21 (F := Ideal) q5 q5' w g v p m n = k5_pay29 w (k5_pay19 (F := Ideal) q5 q5' g v p m n) := rfl
end

end Cert.Feed
-- ==== Proof.FeedBwd.lean ====
/-
  The backward kernel of the gated convolution: what it leaves in its three arrays.
-/
module

public import proofs.«01_k».proof.Proof.FeedPay

@[expose] public section

set_option maxRecDepth 16384

noncomputable section

namespace Cert.Feed

open Cert.FfnIdeal Cert.FfnIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## A point's widened blocks -/

/-- The gate's argument and the value's, -/
def aG (t : Fin cfg5.N) : FVec Ideal S272x512 .f32 := k5_pay8 (grid5.coords t) (iblk5 V c 1 t) (iblk5 V c 0 t) (iblk5 V c 2 t)
def aV (t : Fin cfg5.N) : FVec Ideal S272x512 .f32 :=
  k5_pay10 (mN ((grid5.coords t) 1).val) (k5_pay9 (grid5.coords t) (iblk5 V c 4 t)) (iblk5 V c 3 t) (iblk5 V c 5 t)
/-- the gate and the value, -/
def gB (t : Fin cfg5.N) : FVec Ideal S272x512 .f32 := k5_pay13 (k5_pay6 (iblk5 V c 6 t)) (aG V c t) (iblk5 V c 8 t)
def vB (t : Fin cfg5.N) : FVec Ideal S272x512 .f32 := k5_pay13 (k5_pay7 (iblk5 V c 7 t)) (aV V c t) (iblk5 V c 9 t)
/-- and their gradients. -/
def dG (t : Fin cfg5.N) : FVec Ideal S272x512 .f32 :=
  k5_pay19 (mP ((grid5.coords t) 1).val) (mN ((grid5.coords t) 1).val) (gB V c t) (vB V c t) (iblk5 V c 11 t) (iblk5 V c 10 t) (iblk5 V c 12 t)
def dV (t : Fin cfg5.N) : FVec Ideal S272x512 .f32 :=
  k5_pay20 (mP ((grid5.coords t) 1).val) (mN ((grid5.coords t) 1).val) (gB V c t) (iblk5 V c 11 t) (iblk5 V c 10 t) (iblk5 V c 12 t)

/-- A column of the convolution's gradient, of the arrays the kernel finds. -/
abbrev dcol (s : Fin 2) (j : Fin 5632) : ℕ → EReal := dcv (V c main_v7) (V c main_v1) (V c main_v2) (V c main_v11) s j

theorem q_lt (t : Fin cfg5.N) : t.val % 17 < 17 := Nat.mod_lt _ (by decide)
theorem q_at (t : Fin cfg5.N) : ((grid5.coords t) 1).val = t.val % 17 := (idx5c t).2.2.2.2.1

theorem aG_at (t : Fin cfg5.N) (b : Fin 512) (r : Fin 272) : (aG V c t (ix2 r b) : EReal) = ext (col (V c main_v7) 0 (lane t.val b)) (t.val % 17) r.val :=
  gate_ext5 _ _ b _ (q_at t) _ _ _ (fun h k => b5_1 V c t h k b) (fun k => b5_0 V c t k b) (fun h k => b5_2 V c t h k b) (q_lt t) r
theorem aV_at (t : Fin cfg5.N) (b : Fin 512) (r : Fin 272) : (aV V c t (ix2 r b) : EReal) = ext (col (V c main_v7) 1 (lane t.val b)) (t.val % 17) r.val :=
  val_ext5 _ _ b _ (q_at t) _ _ _ (fun h k => b5_4 V c t h k b) (fun k => b5_3 V c t k b) (fun h k => b5_5 V c t h k b) (q_lt t) r
theorem due_at (t : Fin cfg5.N) (b : Fin 512) (r : Fin 272) :
    (k5_pay17 (mP ((grid5.coords t) 1).val) (mN ((grid5.coords t) 1).val) (iblk5 V c 11 t) (iblk5 V c 10 t) (iblk5 V c 12 t) (ix2 r b) : EReal)
      = ext (col1 (V c main_v11) (lane t.val b)) (t.val % 17) r.val :=
  due_ext5 _ _ b _ (q_at t) _ _ _ (fun h k => b5_11 V c t h k b) (fun k => b5_10 V c t k b) (fun h k => b5_12 V c t h k b) (q_lt t) r

theorem w6_at (t : Fin cfg5.N) (k : Fin 3) (b : Fin 512) : (k5_pay6 (iblk5 V c 6 t) (ix2 k b) : EReal) = V c main_v1 (ix3 0 k (lane t.val b)) := by
  refine Eq.trans ?_ (b5_6 V c t k b)
  generalize iblk5 V c 6 t = e
  pointwise [k5_pay6]
theorem w7_at (t : Fin cfg5.N) (k : Fin 3) (b : Fin 512) : (k5_pay7 (iblk5 V c 7 t) (ix2 k b) : EReal) = V c main_v1 (ix3 1 k (lane t.val b)) := by
  refine Eq.trans ?_ (b5_7 V c t k b)
  generalize iblk5 V c 7 t = e
  pointwise [k5_pay7]

theorem gB_at (t : Fin cfg5.N) (b : Fin 512) (r : Fin 272) (h0 : 7 ≤ r.val) (h1 : r.val ≤ 264) (hl : live (t.val % 17) r.val) :
    (gB V c t (ix2 r b) : EReal) = cv (V c main_v7) (V c main_v1) (V c main_v2) 0 (lane t.val b) (256 * (t.val % 17) + r.val - 8) := by
  refine (conv5 _ _ b _ (aG_at V c t b) (q_lt t) _ _ r h0 h1 hl).trans ?_
  rw [w6_at, w6_at, w6_at, b5_8]
  rfl
theorem vB_at (t : Fin cfg5.N) (b : Fin 512) (r : Fin 272) (h0 : 7 ≤ r.val) (h1 : r.val ≤ 264) (hl : live (t.val % 17) r.val) :
    (vB V c t (ix2 r b) : EReal) = cv (V c main_v7) (V c main_v1) (V c main_v2) 1 (lane t.val b) (256 * (t.val % 17) + r.val - 8) := by
  refine (conv5 _ _ b _ (aV_at V c t b) (q_lt t) _ _ r h0 h1 hl).trans ?_
  rw [w7_at, w7_at, w7_at, b5_9]
  rfl

theorem dG_at (t : Fin cfg5.N) (b : Fin 512) (r : Fin 272) (h0 : 7 ≤ r.val) (h1 : r.val ≤ 264) :
    (dG V c t (ix2 r b) : EReal) = ext (dcol V c 0 (lane t.val b)) (t.val % 17) r.val := by
  refine (dg5 b _ _ _ _ _ _ _ r).trans ?_
  rw [due_at]
  by_cases hl : live (t.val % 17) r.val
  · rw [gB_at V c t b r h0 h1 hl, vB_at V c t b r h0 h1 hl, ext_at _ hl, ext_at _ hl]
    exact (if_pos rfl).symm
  · rw [ext_dead _ hl, ext_dead _ hl]
    unfold dgate
    rw [zero_mul, zero_mul]
theorem dV_at (t : Fin cfg5.N) (b : Fin 512) (r : Fin 272) (h0 : 7 ≤ r.val) (h1 : r.val ≤ 264) :
    (dV V c t (ix2 r b) : EReal) = ext (dcol V c 1 (lane t.val b)) (t.val % 17) r.val := by
  refine (dv5 b _ _ _ _ _ _ r).trans ?_
  rw [due_at]
  by_cases hl : live (t.val % 17) r.val
  · rw [gB_at V c t b r h0 h1 hl, ext_at _ hl, ext_at _ hl]
    exact (if_neg (by decide)).symm
  · rw [ext_dead _ hl, ext_dead _ hl]
    unfold dval
    rw [zero_mul]

/-- On the block's own rows. -/
theorem dG_mid (t : Fin cfg5.N) (b : Fin 512) (r : Fin 256) : (dG V c t (ix2 ⟨8 + r.val, by omega⟩ b) : EReal) = dcol V c 0 (lane t.val b) (256 * (t.val % 17) + r.val) := by
  have := r.isLt
  refine (dG_at V c t b _ (by show 7 ≤ 8 + r.val; omega) (by show 8 + r.val ≤ 264; omega)).trans ((ext_at _ (live_mid (by show 8 ≤ 8 + r.val; omega) (by show 8 + r.val < 264; omega))).trans ?_)
  exact congrArg (dcol V c 0 (lane t.val b)) (by show 256 * (t.val % 17) + (8 + r.val) - 8 = _; omega)
theorem dV_mid (t : Fin cfg5.N) (b : Fin 512) (r : Fin 256) : (dV V c t (ix2 ⟨8 + r.val, by omega⟩ b) : EReal) = dcol V c 1 (lane t.val b) (256 * (t.val % 17) + r.val) := by
  have := r.isLt
  refine (dV_at V c t b _ (by show 7 ≤ 8 + r.val; omega) (by show 8 + r.val ≤ 264; omega)).trans ((ext_at _ (live_mid (by show 8 ≤ 8 + r.val; omega) (by show 8 + r.val < 264; omega))).trans ?_)
  exact congrArg (dcol V c 1 (lane t.val b)) (by show 256 * (t.val % 17) + (8 + r.val) - 8 = _; omega)

/-- A neighbour of one of the block's own rows, of any widened block. -/
theorem tap_up (x : ℕ → EReal) (q : ℕ) (hq : q < 17) (b : Fin 512) (e : FVec Ideal S272x512 .f32) (he : ∀ r : Fin 272, (e (ix2 r b) : EReal) = ext x q r.val) (r : Fin 256) :
    (k5_pay11 e (ix2 ⟨8 + r.val, by omega⟩ b) : EReal) = tap x 0 (256 * q + r.val) := by
  have := r.isLt
  refine (up5 b e _ (by show 1 ≤ 8 + r.val; omega)).trans ((he _).trans ((ext_up x hq (r := 8 + r.val) (by omega) (by omega) (live_mid (by omega) (by omega))).trans ?_))
  exact congrArg (upOf x) (by omega)
theorem tap_dn (x : ℕ → EReal) (q : ℕ) (hq : q < 17) (b : Fin 512) (e : FVec Ideal S272x512 .f32) (he : ∀ r : Fin 272, (e (ix2 r b) : EReal) = ext x q r.val) (r : Fin 256) :
    (k5_pay12 e (ix2 ⟨8 + r.val, by omega⟩ b) : EReal) = tap x 2 (256 * q + r.val) := by
  have := r.isLt
  refine (dn5 b e _ (by show 8 + r.val < 271; omega)).trans ((he _).trans ((ext_dn x hq (r := 8 + r.val) (by omega) (by omega) (live_mid (by omega) (by omega))).trans ?_))
  exact congrArg (dnOf x) (by omega)
theorem tap_mid (x : ℕ → EReal) (q : ℕ) (hq : q < 17) (b : Fin 512) (e : FVec Ideal S272x512 .f32) (he : ∀ r : Fin 272, (e (ix2 r b) : EReal) = ext x q r.val) (r : Fin 256) :
    (e (ix2 ⟨8 + r.val, by omega⟩ b) : EReal) = tap x 1 (256 * q + r.val) := by
  have := r.isLt
  refine (he _).trans ((ext_at x (live_mid (by show 8 ≤ 8 + r.val; omega) (by show 8 + r.val < 264; omega))).trans ?_)
  exact congrArg x (by show 256 * q + (8 + r.val) - 8 = _; omega)

/-! ## The gradient of the up-projection -/

theorem emb5_13 (t : Fin cfg5.N) (s : Fin 2) (r : Fin 256) (b : Fin 512) :
    ((win5_13.blk t).view.emb (ix3 s r b) : S2x4352x5632.Idx) = ix3 s ⟨256 * (t.val % 17) + r.val, by omega⟩ (lane t.val b) := by
  unfold lane
  blk_ext [idx5e t]
theorem emb5_14 (t : Fin cfg5.N) (s : Fin 2) (k : Fin 3) (b : Fin 512) :
    ((win5_14.blk t).view.emb (ix3 s k b) : S2x3x5632.Idx) = ix3 s k (lane t.val b) := by
  unfold lane
  blk_ext [idx5e t]
theorem emb5_15 (t : Fin cfg5.N) (s : Fin 2) (b : Fin 512) :
    ((win5_15.blk t).view.emb (ix3 s 0 b) : S2x1x5632.Idx) = ix3 s 0 (lane t.val b) := by
  unfold lane
  blk_ext [idx5e t]

/-- Two halves stored one after the other. -/
theorem halves (p1 p0 : S1x256x512.Idx → Elt Ideal .bf16) (G : S2x256x512.Idx → Elt Ideal .bf16) (i1 i0)
    (h1 : ∀ r b, p1 (ix3 0 r b) = G (ix3 1 r b)) (h0 : ∀ r b, p0 (ix3 0 r b) = G (ix3 0 r b)) (y : S2x256x512.Idx) :
    View.canon (Val := Elt Ideal) [⟨Rect.unit (s := S2x256x512) ![1, 0, 0] S1x256x512.size i1, p1⟩, ⟨Rect.unit (s := S2x256x512) ![0, 0, 0] S1x256x512.size i0, p0⟩] y = G y := by
  have e (s : Fin 2) (i) (x : S1x256x512.Idx) : (Rect.unit (s := S2x256x512) ![s.val, 0, 0] S1x256x512.size i).emb x = ix3 s (x 1) (x 2) := by
    have hx : (x 0).val < 1 := (x 0).isLt
    funext a
    match a with
    | ⟨0, _⟩ => apply Fin.ext; show s.val + 1 * (x 0).val = s.val; omega
    | ⟨1, _⟩ => apply Fin.ext; show 0 + 1 * (x 1).val = (x 1).val; omega
    | ⟨2, _⟩ => apply Fin.ext; show 0 + 1 * (x 2).val = (x 2).val; omega
  have hx (x : S1x256x512.Idx) : x = ix3 0 (x 1) (x 2) := by
    have hx : (x 0).val < 1 := (x 0).isLt
    funext a
    match a with
    | ⟨0, _⟩ => apply Fin.ext; show (x 0).val = 0; omega
    | ⟨1, _⟩ => rfl
    | ⟨2, _⟩ => rfl
  refine View.canon_append_of_piecesOf G [] [_, _] ⟨fun x => ?_, fun x => ?_, trivial⟩ y ?_
  · exact (congrArg p1 (hx x)).trans ((h1 _ _).trans (congrArg G (e 1 i1 x).symm))
  · exact (congrArg p0 (hx x)).trans ((h0 _ _).trans (congrArg G (e 0 i0 x).symm))
  · idx_vars y
    fin_cases y0
    · exact ⟨_, .tail _ (.head _), by
        have := (Rect.unit (s := S2x256x512) ![0, 0, 0] S1x256x512.size i0).idx_mem (ix3 0 y1 y2)
        rwa [show (Rect.unit (s := S2x256x512) ![0, 0, 0] S1x256x512.size i0).idx (ix3 0 y1 y2) = ix3 0 y1 y2 from e 0 i0 (ix3 0 y1 y2)] at this⟩
    · exact ⟨_, .head _, by
        have := (Rect.unit (s := S2x256x512) ![1, 0, 0] S1x256x512.size i1).idx_mem (ix3 0 y1 y2)
        rwa [show (Rect.unit (s := S2x256x512) ![1, 0, 0] S1x256x512.size i1).idx (ix3 0 y1 y2) = ix3 1 y1 y2 from e 1 i1 (ix3 0 y1 y2)] at this⟩

abbrev daG : S2x4352x5632.Idx → EReal := daF (V c main_v7) (V c main_v1) (V c main_v2) (V c main_v11)

theorem da0 (t : Fin cfg5.N) (r : Fin 256) (b : Fin 512) :
    (k5_pay29 (k5_pay6 (iblk5 V c 6 t)) (dG V c t) (ix3 0 r b) : EReal) = daG V c (ix3 0 ⟨256 * (t.val % 17) + r.val, by omega⟩ (lane t.val b)) := by
  refine (adj5 _ _ b _ (dG_at V c t b) (q_lt t) _ r).trans ?_
  rw [w6_at, w6_at, w6_at]
  rfl
theorem da1 (t : Fin cfg5.N) (r : Fin 256) (b : Fin 512) :
    (k5_pay29 (k5_pay7 (iblk5 V c 7 t)) (dV V c t) (ix3 0 r b) : EReal) = daG V c (ix3 1 ⟨256 * (t.val % 17) + r.val, by omega⟩ (lane t.val b)) := by
  refine (adj5 _ _ b _ (dV_at V c t b) (q_lt t) _ r).trans ?_
  rw [w7_at, w7_at, w7_at]
  rfl

/-- The block of the gradient a point leaves. -/
def daT (t : Fin cfg5.N) : S2x256x512.Idx → EReal := fun y => daG V c (ix3 (y 0) ⟨256 * (t.val % 17) + (y 1).val, by have : (y 1).val < 256 := (y 1).isLt; omega⟩ (lane t.val (y 2)))

theorem out5_13 (t : Fin cfg5.N) (y : S2x256x512.Idx) : ((outsAt5 V c t.val t.isLt).1 y : EReal) = daT V c t y := by
  by_cases h0 : t.val % 17 = 0
  · refine (congrFun (congrArg (fun z => z.1) (outsAt5_A V c t h0)) _).trans ?_
    frame_open
    dsimp only
    simp (disch := decide) only [View.read_writes_junk_eq_canon, View.readAt_eq_ld, View.ld_unit_lit', Memref.IsWhole.read_unread]
    exact halves _ _ (daT V c t) _ _ (da1 V c t) (da0 V c t) y
  · refine (congrFun (congrArg (fun z => z.1) (outsAt5_B V c t h0)) _).trans ?_
    frame_open
    dsimp only
    simp (disch := decide) only [View.read_writes_junk_eq_canon, View.readAt_eq_ld, View.ld_unit_lit', Memref.IsWhole.read_unread]
    exact halves _ _ (daT V c t) _ _ (da1 V c t) (da0 V c t) y

theorem final5_13 : (dat5 V c).arrAt 13 cfg5.N = daG V c := by
  refine (dat5 V c).arrAt_eq_of_covers 13 _ (by decide +kernel) fun t hf y => ?_
  blk_simp
  rw [after5_13]
  refine (out5_13 V c t _).trans ?_
  idx_vars y
  exact congrArg (daG V c) (emb5_13 t y0 y1 y2).symm

end Cert.Feed
-- ==== Proof.FeedAcc.lean ====
/-
  The backward kernel's two sums over the rows: what it leaves for the weights and for the bias.
-/
module

public import proofs.«01_k».proof.Proof.FeedBwd

@[expose] public section

set_option maxRecDepth 16384

noncomputable section

namespace Cert.Feed

open Cert.FfnIdeal Cert.FfnIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- A row of the six, or of the two, as a rectangle: where it places an index. -/
theorem row_emb (s : Fin 2) (k : Fin 3) (i) (x : S1x1x512.Idx) : (Rect.unit (s := S2x3x512) ![s.val, k.val, 0] S1x1x512.size i).emb x = ix3 s k (x 2) := by
  have h0 : (x 0).val < 1 := (x 0).isLt
  have h1 : (x 1).val < 1 := (x 1).isLt
  funext a
  match a with
  | ⟨0, _⟩ => apply Fin.ext; show s.val + 1 * (x 0).val = s.val; omega
  | ⟨1, _⟩ => apply Fin.ext; show k.val + 1 * (x 1).val = k.val; omega
  | ⟨2, _⟩ => apply Fin.ext; show 0 + 1 * (x 2).val = (x 2).val; omega
theorem row_emb' (s : Fin 2) (i) (x : S1x1x512.Idx) : (Rect.unit (s := S2x1x512) ![s.val, 0, 0] S1x1x512.size i).emb x = ix3 s 0 (x 2) := by
  have h0 : (x 0).val < 1 := (x 0).isLt
  have h1 : (x 1).val < 1 := (x 1).isLt
  funext a
  match a with
  | ⟨0, _⟩ => apply Fin.ext; show s.val + 1 * (x 0).val = s.val; omega
  | ⟨1, _⟩ => apply Fin.ext; show 0 + 1 * (x 1).val = 0; omega
  | ⟨2, _⟩ => apply Fin.ext; show 0 + 1 * (x 2).val = (x 2).val; omega
theorem row_self (x : S1x1x512.Idx) : x = ix3 0 0 (x 2) := by
  have h0 : (x 0).val < 1 := (x 0).isLt
  have h1 : (x 1).val < 1 := (x 1).isLt
  funext a
  match a with
  | ⟨0, _⟩ => apply Fin.ext; show (x 0).val = 0; omega
  | ⟨1, _⟩ => apply Fin.ext; show (x 1).val = 0; omega
  | ⟨2, _⟩ => rfl
theorem row_mem (s : Fin 2) (k : Fin 3) (i) (b : Fin 512) : (ix3 s k b : S2x3x512.Idx) ∈ (Rect.unit (s := S2x3x512) ![s.val, k.val, 0] S1x1x512.size i).set := by
  have := (Rect.unit (s := S2x3x512) ![s.val, k.val, 0] S1x1x512.size i).idx_mem (ix3 0 0 b)
  rwa [show (Rect.unit (s := S2x3x512) ![s.val, k.val, 0] S1x1x512.size i).idx (ix3 0 0 b) = ix3 s k b from row_emb s k i (ix3 0 0 b)] at this
theorem row_mem' (s : Fin 2) (i) (b : Fin 512) : (ix3 s 0 b : S2x1x512.Idx) ∈ (Rect.unit (s := S2x1x512) ![s.val, 0, 0] S1x1x512.size i).set := by
  have := (Rect.unit (s := S2x1x512) ![s.val, 0, 0] S1x1x512.size i).idx_mem (ix3 0 0 b)
  rwa [show (Rect.unit (s := S2x1x512) ![s.val, 0, 0] S1x1x512.size i).idx (ix3 0 0 b) = ix3 s 0 b from row_emb' s i (ix3 0 0 b)] at this

/-- A row stored over a block. -/
abbrev rowP (s k : ℕ) (i : ∀ a, ![s, k, 0] a + S1x1x512.size a ≤ S2x3x512.size a) (p : S1x1x512.Idx → Elt Ideal .f32) : View.Piece (Elt Ideal) S2x3x512 .f32 := ⟨Rect.unit (s := S2x3x512) ![s, k, 0] S1x1x512.size i, p⟩
abbrev rowP' (s : ℕ) (i : ∀ a, ![s, 0, 0] a + S1x1x512.size a ≤ S2x1x512.size a) (p : S1x1x512.Idx → Elt Ideal .f32) : View.Piece (Elt Ideal) S2x1x512 .f32 := ⟨Rect.unit (s := S2x1x512) ![s, 0, 0] S1x1x512.size i, p⟩

/-- Six rows stored, over whatever was there. -/
theorem rows6 (L : List (View.Piece (Elt Ideal) S2x3x512 .f32)) (p12 p11 p10 p02 p01 p00 : S1x1x512.Idx → Elt Ideal .f32) (G : S2x3x512.Idx → Elt Ideal .f32)
    (i12 i11 i10 i02 i01 i00)
    (h12 : ∀ b, p12 (ix3 0 0 b) = G (ix3 1 2 b)) (h11 : ∀ b, p11 (ix3 0 0 b) = G (ix3 1 1 b)) (h10 : ∀ b, p10 (ix3 0 0 b) = G (ix3 1 0 b))
    (h02 : ∀ b, p02 (ix3 0 0 b) = G (ix3 0 2 b)) (h01 : ∀ b, p01 (ix3 0 0 b) = G (ix3 0 1 b)) (h00 : ∀ b, p00 (ix3 0 0 b) = G (ix3 0 0 b)) (y : S2x3x512.Idx) :
    View.canon (rowP 1 2 i12 p12 :: rowP 1 1 i11 p11 :: rowP 1 0 i10 p10 :: rowP 0 2 i02 p02 :: rowP 0 1 i01 p01 :: rowP 0 0 i00 p00 :: L) y = G y := by
  refine View.canon_append_of_piecesOf G L [_, _, _, _, _, _] ⟨fun x => ?_, fun x => ?_, fun x => ?_, fun x => ?_, fun x => ?_, fun x => ?_, trivial⟩ y ?_
  · exact (congrArg p12 (row_self x)).trans ((h12 _).trans (congrArg G (row_emb 1 2 i12 x).symm))
  · exact (congrArg p11 (row_self x)).trans ((h11 _).trans (congrArg G (row_emb 1 1 i11 x).symm))
  · exact (congrArg p10 (row_self x)).trans ((h10 _).trans (congrArg G (row_emb 1 0 i10 x).symm))
  · exact (congrArg p02 (row_self x)).trans ((h02 _).trans (congrArg G (row_emb 0 2 i02 x).symm))
  · exact (congrArg p01 (row_self x)).trans ((h01 _).trans (congrArg G (row_emb 0 1 i01 x).symm))
  · exact (congrArg p00 (row_self x)).trans ((h00 _).trans (congrArg G (row_emb 0 0 i00 x).symm))
  · idx_vars y
    fin_cases y0 <;> fin_cases y1
    · exact ⟨_, .tail _ (.tail _ (.tail _ (.tail _ (.tail _ (.head _))))), row_mem 0 0 i00 y2⟩
    · exact ⟨_, .tail _ (.tail _ (.tail _ (.tail _ (.head _)))), row_mem 0 1 i01 y2⟩
    · exact ⟨_, .tail _ (.tail _ (.tail _ (.head _))), row_mem 0 2 i02 y2⟩
    · exact ⟨_, .tail _ (.tail _ (.head _)), row_mem 1 0 i10 y2⟩
    · exact ⟨_, .tail _ (.head _), row_mem 1 1 i11 y2⟩
    · exact ⟨_, .head _, row_mem 1 2 i12 y2⟩
/-- Two rows stored, over whatever was there. -/
theorem rows2 (L : List (View.Piece (Elt Ideal) S2x1x512 .f32)) (p1 p0 : S1x1x512.Idx → Elt Ideal .f32) (G : S2x1x512.Idx → Elt Ideal .f32) (i1 i0)
    (h1 : ∀ b, p1 (ix3 0 0 b) = G (ix3 1 0 b)) (h0 : ∀ b, p0 (ix3 0 0 b) = G (ix3 0 0 b)) (y : S2x1x512.Idx) :
    View.canon (rowP' 1 i1 p1 :: rowP' 0 i0 p0 :: L) y = G y := by
  refine View.canon_append_of_piecesOf G L [_, _] ⟨fun x => ?_, fun x => ?_, trivial⟩ y ?_
  · exact (congrArg p1 (row_self x)).trans ((h1 _).trans (congrArg G (row_emb' 1 i1 x).symm))
  · exact (congrArg p0 (row_self x)).trans ((h0 _).trans (congrArg G (row_emb' 0 i0 x).symm))
  · idx_vars y
    fin_cases y0 <;> fin_cases y1
    · exact ⟨_, .tail _ (.head _), row_mem' 0 i0 y2⟩
    · exact ⟨_, .head _, row_mem' 1 i1 y2⟩

/-- One point's share of the gradient of the weights, -/
def cwT (t : Fin cfg5.N) : S2x3x512.Idx → EReal := fun y =>
  ∑ r : Fin 256, dcol V c (y 0) (lane t.val (y 2)) (256 * (t.val % 17) + r.val) * tap (col (V c main_v7) (y 0) (lane t.val (y 2))) (y 1) (256 * (t.val % 17) + r.val)
/-- and of the bias. -/
def cbT (t : Fin cfg5.N) : S2x1x512.Idx → EReal := fun y => ∑ r : Fin 256, dcol V c (y 0) (lane t.val (y 2)) (256 * (t.val % 17) + r.val)

/-- The gate's gradient on the block's own rows. -/
def dGm (t : Fin cfg5.N) : FVec Ideal S256x512 .f32 :=
  k5_pay22 (mP ((grid5.coords t) 1).val) (mN ((grid5.coords t) 1).val) (gB V c t) (vB V c t) (iblk5 V c 11 t) (iblk5 V c 10 t) (iblk5 V c 12 t)
theorem dGm_at (t : Fin cfg5.N) (r : Fin 256) (b : Fin 512) : (dGm V c t (ix2 r b) : EReal) = dcol V c 0 (lane t.val b) (256 * (t.val % 17) + r.val) := by
  refine Eq.trans ?_ (dG_mid V c t b r)
  unfold dGm k5_pay22 dG
  generalize k5_pay19 (F := Ideal) _ _ _ _ _ _ _ = e
  pointwise

section
variable (a : Vec Ideal S1x1x512 .f32) (b : Fin 512)
theorem s23 (e : FVec Ideal S272x512 .f32) (d : FVec Ideal S256x512 .f32) : (k5_pay23 (k5_pay11 e) d a (ix3 0 0 b) : EReal) = a (ix3 0 0 b) + ∑ r : Fin 256, d (ix2 r b) * k5_pay11 e (ix2 ⟨8 + r.val, by omega⟩ b) := by
  generalize k5_pay11 e = f
  pointwise [k5_pay23]
theorem s24 (e : FVec Ideal S272x512 .f32) (d : FVec Ideal S256x512 .f32) : (k5_pay24 e d a (ix3 0 0 b) : EReal) = a (ix3 0 0 b) + ∑ r : Fin 256, d (ix2 r b) * e (ix2 ⟨8 + r.val, by omega⟩ b) := by
  pointwise [k5_pay24]
theorem s25 (e : FVec Ideal S272x512 .f32) (d : FVec Ideal S256x512 .f32) : (k5_pay25 (k5_pay12 e) d a (ix3 0 0 b) : EReal) = a (ix3 0 0 b) + ∑ r : Fin 256, d (ix2 r b) * k5_pay12 e (ix2 ⟨8 + r.val, by omega⟩ b) := by
  generalize k5_pay12 e = f
  pointwise [k5_pay25]
theorem s31 (e d : FVec Ideal S272x512 .f32) : (k5_pay31 (k5_pay11 e) d a (ix3 0 0 b) : EReal) = a (ix3 0 0 b) + ∑ r : Fin 256, d (ix2 ⟨8 + r.val, by omega⟩ b) * k5_pay11 e (ix2 ⟨8 + r.val, by omega⟩ b) := by
  generalize k5_pay11 e = f
  pointwise [k5_pay31, k5_pay30]
theorem s1 (e d : FVec Ideal S272x512 .f32) : (k5_pay1 (k5_pay30 d) (k5_pay32 a) (k5_pay33 e) (ix3 0 0 b) : EReal) = a (ix3 0 0 b) + ∑ r : Fin 256, d (ix2 ⟨8 + r.val, by omega⟩ b) * e (ix2 ⟨8 + r.val, by omega⟩ b) := by
  pointwise [k5_pay1, k5_pay30, k5_pay32, k5_pay33]
theorem s2 (e d : FVec Ideal S272x512 .f32) : (k5_pay2 (k5_pay12 e) (k5_pay30 d) a (ix3 0 0 b) : EReal) = a (ix3 0 0 b) + ∑ r : Fin 256, d (ix2 ⟨8 + r.val, by omega⟩ b) * k5_pay12 e (ix2 ⟨8 + r.val, by omega⟩ b) := by
  generalize k5_pay12 e = f
  pointwise [k5_pay2, k5_pay30]
theorem s3 (d : FVec Ideal S272x512 .f32) : (k5_pay3 (k5_pay30 d) a (ix3 0 0 b) : EReal) = a (ix3 0 0 b) + ∑ r : Fin 256, d (ix2 ⟨8 + r.val, by omega⟩ b) := by
  pointwise [k5_pay3, k5_pay30]
theorem s28 (d : FVec Ideal S256x512 .f32) : (k5_pay28 (k5_pay26 a) (k5_pay27 d) (ix3 0 0 b) : EReal) = a (ix3 0 0 b) + ∑ r : Fin 256, d (ix2 r b) := by
  pointwise [k5_pay28, k5_pay26, k5_pay27]
end

section
variable (t : Fin cfg5.N) (X : Vec Ideal S2x3x512 .f32) (Y : Vec Ideal S2x1x512 .f32) (b : Fin 512)
/-- A row loaded from a block. -/
theorem ld_row (s : Fin 2) (k : Fin 3) (i) : (View.ld X (Rect.unit (s := S2x3x512) ![s.val, k.val, 0] S1x1x512.size i) (ix3 0 0 b) : EReal) = X (ix3 s k b) :=
  congrArg X (row_emb s k i (ix3 0 0 b))
theorem ld_row' (s : Fin 2) (i) : (View.ld Y (Rect.unit (s := S2x1x512) ![s.val, 0, 0] S1x1x512.size i) (ix3 0 0 b) : EReal) = Y (ix3 s 0 b) :=
  congrArg Y (row_emb' s i (ix3 0 0 b))

theorem r00 (i) : (k5_pay23 (k5_pay11 (aG V c t)) (dGm V c t) (View.ld X (Rect.unit (s := S2x3x512) ![0, 0, 0] S1x1x512.size i)) (ix3 0 0 b) : EReal) = X (ix3 0 0 b) + cwT V c t (ix3 0 0 b) :=
  (s23 _ b _ _).trans (congrArg₂ (· + ·) (ld_row X b 0 0 i) (Finset.sum_congr rfl fun r _ => congrArg₂ (· * ·) (dGm_at V c t r b) (tap_up _ _ (q_lt t) b _ (aG_at V c t b) r)))
theorem r01 (i) : (k5_pay24 (aG V c t) (dGm V c t) (View.ld X (Rect.unit (s := S2x3x512) ![0, 1, 0] S1x1x512.size i)) (ix3 0 0 b) : EReal) = X (ix3 0 1 b) + cwT V c t (ix3 0 1 b) :=
  (s24 _ b _ _).trans (congrArg₂ (· + ·) (ld_row X b 0 1 i) (Finset.sum_congr rfl fun r _ => congrArg₂ (· * ·) (dGm_at V c t r b) (tap_mid _ _ (q_lt t) b _ (aG_at V c t b) r)))
theorem r02 (i) : (k5_pay25 (k5_pay12 (aG V c t)) (dGm V c t) (View.ld X (Rect.unit (s := S2x3x512) ![0, 2, 0] S1x1x512.size i)) (ix3 0 0 b) : EReal) = X (ix3 0 2 b) + cwT V c t (ix3 0 2 b) :=
  (s25 _ b _ _).trans (congrArg₂ (· + ·) (ld_row X b 0 2 i) (Finset.sum_congr rfl fun r _ => congrArg₂ (· * ·) (dGm_at V c t r b) (tap_dn _ _ (q_lt t) b _ (aG_at V c t b) r)))
theorem r10 (i) : (k5_pay31 (k5_pay11 (aV V c t)) (dV V c t) (View.ld X (Rect.unit (s := S2x3x512) ![1, 0, 0] S1x1x512.size i)) (ix3 0 0 b) : EReal) = X (ix3 1 0 b) + cwT V c t (ix3 1 0 b) :=
  (s31 _ b _ _).trans (congrArg₂ (· + ·) (ld_row X b 1 0 i) (Finset.sum_congr rfl fun r _ => congrArg₂ (· * ·) (dV_mid V c t b r) (tap_up _ _ (q_lt t) b _ (aV_at V c t b) r)))
theorem r11 (i) : (k5_pay1 (k5_pay30 (dV V c t)) (k5_pay32 (View.ld X (Rect.unit (s := S2x3x512) ![1, 1, 0] S1x1x512.size i))) (k5_pay33 (aV V c t)) (ix3 0 0 b) : EReal) = X (ix3 1 1 b) + cwT V c t (ix3 1 1 b) :=
  (s1 _ b _ _).trans (congrArg₂ (· + ·) (ld_row X b 1 1 i) (Finset.sum_congr rfl fun r _ => congrArg₂ (· * ·) (dV_mid V c t b r) (tap_mid _ _ (q_lt t) b _ (aV_at V c t b) r)))
theorem r12 (i) : (k5_pay2 (k5_pay12 (aV V c t)) (k5_pay30 (dV V c t)) (View.ld X (Rect.unit (s := S2x3x512) ![1, 2, 0] S1x1x512.size i)) (ix3 0 0 b) : EReal) = X (ix3 1 2 b) + cwT V c t (ix3 1 2 b) :=
  (s2 _ b _ _).trans (congrArg₂ (· + ·) (ld_row X b 1 2 i) (Finset.sum_congr rfl fun r _ => congrArg₂ (· * ·) (dV_mid V c t b r) (tap_dn _ _ (q_lt t) b _ (aV_at V c t b) r)))
theorem q0 (i) : (k5_pay28 (k5_pay26 (View.ld Y (Rect.unit (s := S2x1x512) ![0, 0, 0] S1x1x512.size i))) (k5_pay27 (dGm V c t)) (ix3 0 0 b) : EReal) = Y (ix3 0 0 b) + cbT V c t (ix3 0 0 b) :=
  (s28 _ b _).trans (congrArg₂ (· + ·) (ld_row' Y b 0 i) (Finset.sum_congr rfl fun r _ => dGm_at V c t r b))
theorem q1 (i) : (k5_pay3 (k5_pay30 (dV V c t)) (View.ld Y (Rect.unit (s := S2x1x512) ![1, 0, 0] S1x1x512.size i)) (ix3 0 0 b) : EReal) = Y (ix3 1 0 b) + cbT V c t (ix3 1 0 b) :=
  (s3 _ b _).trans (congrArg₂ (· + ·) (ld_row' Y b 1 i) (Finset.sum_congr rfl fun r _ => dV_mid V c t b r))
end

theorem cw_zero (j : S2x3x512.Idx) : ((k5_pay4 : FVec Ideal S2x3x512 .f32) j : EReal) = 0 := by
  idx_vars j
  pointwise [k5_pay4]
theorem cb_zero (j : S2x1x512.Idx) : ((k5_pay5 : FVec Ideal S2x1x512 .f32) j : EReal) = 0 := by
  idx_vars j
  pointwise [k5_pay5]

theorem cw_reset (t : Fin cfg5.N) (h : t.val % 17 = 0) (y : S2x3x512.Idx) : ((outsAt5 V c t.val t.isLt).2.1 y : EReal) = 0 + cwT V c t y := by
  refine (congrFun (congrArg (fun z => z.2.1) (outsAt5_A V c t h)) _).trans ?_
  frame_open
  dsimp only
  simp (disch := decide) only [View.read_writes_junk_eq_canon, View.readAt_eq_ld, View.ld_unit_lit', Memref.IsWhole.read_unread, ↓View.readCov_skip, ↓View.readCov_fill]
  refine (rows6 _ _ _ _ _ _ _ (fun y => (k5_pay4 : FVec Ideal S2x3x512 .f32) y + cwT V c t y) _ _ _ _ _ _ (fun b => r12 V c t _ b _) (fun b => r11 V c t _ b _) (fun b => r10 V c t _ b _) (fun b => r02 V c t _ b _) (fun b => r01 V c t _ b _) (fun b => r00 V c t _ b _) y).trans ?_
  exact congrArg (· + cwT V c t y) (cw_zero y)
theorem cw_step (t : Fin cfg5.N) (h : ¬t.val % 17 = 0) (y : S2x3x512.Idx) :
    ((outsAt5 V c t.val t.isLt).2.1 y : EReal) = (outsAt5 V c (t.val - 1) (Nat.lt_of_le_of_lt (Nat.sub_le _ _) t.isLt)).2.1 y + cwT V c t y := by
  refine (congrFun (congrArg (fun z => z.2.1) (outsAt5_B V c t h)) _).trans ?_
  frame_open
  dsimp only
  simp (disch := decide) only [View.read_writes_junk_eq_canon, View.readAt_eq_ld, View.ld_unit_lit', Memref.IsWhole.read_unread, ↓View.readCov_skip, ↓View.readCov_fill]
  exact rows6 _ _ _ _ _ _ _ (fun y => (outsAt5 V c (t.val - 1) (Nat.lt_of_le_of_lt (Nat.sub_le _ _) t.isLt)).2.1 y + cwT V c t y) _ _ _ _ _ _ (fun b => r12 V c t _ b _) (fun b => r11 V c t _ b _) (fun b => r10 V c t _ b _) (fun b => r02 V c t _ b _) (fun b => r01 V c t _ b _) (fun b => r00 V c t _ b _) y
theorem cb_reset (t : Fin cfg5.N) (h : t.val % 17 = 0) (y : S2x1x512.Idx) : ((outsAt5 V c t.val t.isLt).2.2 y : EReal) = 0 + cbT V c t y := by
  refine (congrFun (congrArg (fun z => z.2.2) (outsAt5_A V c t h)) _).trans ?_
  frame_open
  dsimp only
  simp (disch := decide) only [View.read_writes_junk_eq_canon, View.readAt_eq_ld, View.ld_unit_lit', Memref.IsWhole.read_unread, ↓View.readCov_skip, ↓View.readCov_fill]
  refine (rows2 _ _ _ (fun y => (k5_pay5 : FVec Ideal S2x1x512 .f32) y + cbT V c t y) _ _ (fun b => q1 V c t _ b _) (fun b => q0 V c t _ b _) y).trans ?_
  exact congrArg (· + cbT V c t y) (cb_zero y)
theorem cb_step (t : Fin cfg5.N) (h : ¬t.val % 17 = 0) (y : S2x1x512.Idx) :
    ((outsAt5 V c t.val t.isLt).2.2 y : EReal) = (outsAt5 V c (t.val - 1) (Nat.lt_of_le_of_lt (Nat.sub_le _ _) t.isLt)).2.2 y + cbT V c t y := by
  refine (congrFun (congrArg (fun z => z.2.2) (outsAt5_B V c t h)) _).trans ?_
  frame_open
  dsimp only
  simp (disch := decide) only [View.read_writes_junk_eq_canon, View.readAt_eq_ld, View.ld_unit_lit', Memref.IsWhole.read_unread, ↓View.readCov_skip, ↓View.readCov_fill]
  exact rows2 _ _ _ (fun y => (outsAt5 V c (t.val - 1) (Nat.lt_of_le_of_lt (Nat.sub_le _ _) t.isLt)).2.2 y + cbT V c t y) _ _ (fun b => q1 V c t _ b _) (fun b => q0 V c t _ b _) y

/-- The points of one run hold one block of columns, and the row blocks in order. -/
theorem lane_run (t : ℕ) (s : Fin 17) (b : Fin 512) : lane (17 * (t / 17) + s.val) b = lane t b := by
  apply Fin.ext
  have := s.isLt
  show (17 * (t / 17) + s.val) / 17 % 11 * 512 + b.val = t / 17 % 11 * 512 + b.val
  omega
theorem rows_run (t : ℕ) (s : Fin 17) (k : ℕ) : 256 * ((17 * (t / 17) + s.val) % 17) + k = s.val * 256 + k := by
  have := s.isLt
  omega

theorem final5_14 : (dat5 V c).arrAt 14 cfg5.N = dcwF (V c main_v7) (V c main_v1) (V c main_v2) (V c main_v11) := by
  refine (dat5 V c).arrAt_eq_of_covers 14 _ (by decide +kernel) fun t hf y => ?_
  blk_simp
  rw [after5_14]
  rw [Pipeline.eq_sum_fin_of_reset_step_apply_of_flush (fun n h => (outsAt5 V c n h).2.1) 17 (fun _ => 0) (cwT V c)
    (cw_reset V c) (cw_step V c) t ((flush5_14 t).mp hf) _, zero_add]
  idx_vars y
  refine Eq.trans ?_ (congrArg (dcwF (V c main_v7) (V c main_v1) (V c main_v2) (V c main_v11)) (emb5_14 t y0 y1 y2).symm)
  unfold dcwF cwT
  refine Fin.sum_mul_add_congr fun s k hk => ?_
  show dcol V c y0 (lane (17 * (t.val / 17) + s.val) y2) (256 * ((17 * (t.val / 17) + s.val) % 17) + k.val) * tap (col (V c main_v7) y0 (lane (17 * (t.val / 17) + s.val) y2)) y1 (256 * ((17 * (t.val / 17) + s.val) % 17) + k.val) = _
  rw [lane_run, rows_run]
  rfl
theorem final5_15 : (dat5 V c).arrAt 15 cfg5.N = dcbF (V c main_v7) (V c main_v1) (V c main_v2) (V c main_v11) := by
  refine (dat5 V c).arrAt_eq_of_covers 15 _ (by decide +kernel) fun t hf y => ?_
  blk_simp
  rw [after5_15]
  rw [Pipeline.eq_sum_fin_of_reset_step_apply_of_flush (fun n h => (outsAt5 V c n h).2.2) 17 (fun _ => 0) (cbT V c)
    (cb_reset V c) (cb_step V c) t ((flush5_15 t).mp hf) _, zero_add]
  idx_vars y
  obtain rfl : y1 = 0 := Subsingleton.elim _ _
  refine Eq.trans ?_ (congrArg (dcbF (V c main_v7) (V c main_v1) (V c main_v2) (V c main_v11)) (emb5_15 t y0 y2).symm)
  unfold dcbF cbT
  refine Fin.sum_mul_add_congr fun s k hk => ?_
  show dcol V c y0 (lane (17 * (t.val / 17) + s.val) y2) (256 * ((17 * (t.val / 17) + s.val) % 17) + k.val) = _
  rw [lane_run, rows_run]
  rfl

end Cert.Feed
-- ==== Proof.FeedRun.lean ====
/-
  The feed-forward part's run: the results as functions of the arguments.
-/
module

public import proofs.«01_k».proof.Proof.FeedAcc

@[expose] public section

set_option maxRecDepth 16384

noncomputable section

namespace Cert.Feed

open Cert.FfnIdeal Cert.FfnIdeal.Gen
open Idealize.ShloMosaic Idealize.ShloMosaic.TcCoe Idealize.ShloMosaic.Tactic Idealize.ShloMosaic.Rounds
open Idealize.SL Idealize.SL.RA Idealize.SL.BI Idealize.SL.ProofMode Idealize.SL.Sem
open scoped Idealize.SL.BI
open Idealize.SL.BI.BIBase Idealize.SL.BI.Laws
open Idealize.ShloMosaic.Pipeline (Dat Cfg Window BodyObligation cellOf)

section run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of `main` ends, and leaves the five results at what the regions' write-backs leave and the arguments as
    launched. -/
theorem run : θ_run defs (onTc (τ := τ) (main (F := F))) ⟨m, fun _ => 0, ρ⟩ (fun r => ∀ c : Dev nD,
      r.2.mem ((c.tc : Thread nD τ).loc main_v9) = (dat2 (V3 m ρ) c).arrAt 2 cfg2.N
      ∧ r.2.mem ((c.tc : Thread nD τ).loc main_v13) = (dat6 (V7 m ρ) c).arrAt 2 cfg6.N
      ∧ r.2.mem ((c.tc : Thread nD τ).loc main_v12_1) = (dat5 (V6 m ρ) c).arrAt 14 cfg5.N
      ∧ r.2.mem ((c.tc : Thread nD τ).loc main_v12_2) = (dat5 (V6 m ρ) c).arrAt 15 cfg5.N
      ∧ r.2.mem ((c.tc : Thread nD τ).loc main_v10) = (dat3 (V4 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨(h c _ (mem_uc main_v9 (by decide))).trans ((W8_of m ρ c main_v9 (by decide)).trans ((W7_of m ρ c main_v9 (by decide)).trans ((W6_of m ρ c main_v9 (by decide)).trans ((W5_of m ρ c main_v9 (by decide)).trans (W4_arr m ρ c 2))))),
       (h c _ (mem_uc main_v13 (by decide))).trans (W8_arr m ρ c 2),
       (h c _ (mem_uc main_v12_1 (by decide))).trans ((W8_of m ρ c main_v12_1 (by decide)).trans (W7_arr m ρ c 14)),
       (h c _ (mem_uc main_v12_2 (by decide))).trans ((W8_of m ρ c main_v12_2 (by decide)).trans (W7_arr m ρ c 15)),
       (h c _ (mem_uc main_v10 (by decide))).trans ((W8_of m ρ c main_v10 (by decide)).trans ((W7_of m ρ c main_v10 (by decide)).trans ((W6_of m ρ c main_v10 (by decide)).trans (W5_arr m ρ c 2)))),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end run

/-- The weights of the convolution, their columns in two halves, -/
def wF (x : S3x11264.Idx → EReal) : S2x3x5632.Idx → EReal := fun i => x (ix2 (i 1) (wide (i 0) (i 2)))
/-- and its bias. -/
def bF (x : S11264.Idx → EReal) : S2x1x5632.Idx → EReal := fun i => x (ix1 (wide (i 0) (i 2)))

theorem wF_of (x : S3x11264.Idx → EReal) (h : S3x11264.ShapeCasts S3x2x5632) (h' : S3x2x5632.Transposes [1, 0, 2] S2x3x5632) :
    transpose S2x3x5632 [1, 0, 2] (shapeCast S3x2x5632 x h) h' = wF x := by
  funext i
  idx_vars i
  pointwise
  rfl
theorem bF_of (x : S11264.Idx → EReal) (h : S11264.ShapeCasts S2x1x5632) : shapeCast S2x1x5632 x h = bF x := by
  funext i
  idx_vars i
  pointwise
  rfl

section values

variable (m : (ℓ : Loc nD τ sig) → Buf (Elt Ideal) ℓ) (ρ : Dev nD → PrngReg) (c : Dev nD)

/-- An argument as launched. -/
abbrev ar (b : Ref sig .tc) : Buf (Elt Ideal) ((c : Thread nD τ).loc b) := m ((c : Thread nD τ).loc b)

theorem V1_3 : V1 m ρ c main_v3 = ar m c main_arg0 := rfl
theorem V1_4 : V1 m ρ c main_v4 = ar m c main_arg1 := rfl
theorem V1_5 : V1 m ρ c main_v5 = ar m c main_arg4 := rfl
theorem V1_6 : V1 m ρ c main_v6 = ar m c main_arg5 := rfl
theorem V1_1 : V1 m ρ c main_v1 = wF (ar m c main_arg2) := wF_of _ _ _
theorem V1_2 : V1 m ρ c main_v2 = bF (ar m c main_arg3) := bF_of _ _

theorem V2_7 : V2 m ρ c main_v7 = upF (ar m c main_arg0) (ar m c main_arg1) :=
  (W2_arr m ρ c 2).trans ((final0 (V1 m ρ) c).trans (congrArg₂ upF (V1_3 m ρ c) (V1_4 m ρ c)))
theorem V2_1 : V2 m ρ c main_v1 = wF (ar m c main_arg2) :=
  (W2_of m ρ c main_v1 (by decide)).trans (V1_1 m ρ c)
theorem V2_2 : V2 m ρ c main_v2 = bF (ar m c main_arg3) :=
  (W2_of m ρ c main_v2 (by decide)).trans (V1_2 m ρ c)
theorem V3_8 : V3 m ρ c main_v8 = gateF (upF (ar m c main_arg0) (ar m c main_arg1)) (wF (ar m c main_arg2)) (bF (ar m c main_arg3)) :=
  (W3_arr m ρ c 10).trans ((final1 (V2 m ρ) c).trans (congr (congrArg₂ gateF (V2_7 m ρ c) (V2_1 m ρ c)) (V2_2 m ρ c)))
theorem V3_5 : V3 m ρ c main_v5 = ar m c main_arg4 :=
  (W3_of m ρ c main_v5 (by decide)).trans ((W2_of m ρ c main_v5 (by decide)).trans (V1_5 m ρ c))
theorem V4_8 : V4 m ρ c main_v8 = gateF (upF (ar m c main_arg0) (ar m c main_arg1)) (wF (ar m c main_arg2)) (bF (ar m c main_arg3)) := (W4_of m ρ c main_v8 (by decide)).trans (V3_8 m ρ c)
theorem V4_6 : V4 m ρ c main_v6 = ar m c main_arg5 :=
  (W4_of m ρ c main_v6 (by decide)).trans ((W3_of m ρ c main_v6 (by decide)).trans ((W2_of m ρ c main_v6 (by decide)).trans (V1_6 m ρ c)))
theorem V5_6 : V5 m ρ c main_v6 = ar m c main_arg5 :=
  (W5_of m ρ c main_v6 (by decide)).trans ((W4_of m ρ c main_v6 (by decide)).trans ((W3_of m ρ c main_v6 (by decide)).trans ((W2_of m ρ c main_v6 (by decide)).trans (V1_6 m ρ c))))
theorem V5_5 : V5 m ρ c main_v5 = ar m c main_arg4 :=
  (W5_of m ρ c main_v5 (by decide)).trans ((W4_of m ρ c main_v5 (by decide)).trans ((W3_of m ρ c main_v5 (by decide)).trans ((W2_of m ρ c main_v5 (by decide)).trans (V1_5 m ρ c))))
theorem V6_11 : V6 m ρ c main_v11 = duF (ar m c main_arg5) (ar m c main_arg4) :=
  (W6_arr m ρ c 2).trans ((final4 (V5 m ρ) c).trans (congrArg₂ duF (V5_6 m ρ c) (V5_5 m ρ c)))
theorem V6_7 : V6 m ρ c main_v7 = upF (ar m c main_arg0) (ar m c main_arg1) :=
  (W6_of m ρ c main_v7 (by decide)).trans ((W5_of m ρ c main_v7 (by decide)).trans ((W4_of m ρ c main_v7 (by decide)).trans ((W3_of m ρ c main_v7 (by decide)).trans (V2_7 m ρ c))))
theorem V6_1 : V6 m ρ c main_v1 = wF (ar m c main_arg2) :=
  (W6_of m ρ c main_v1 (by decide)).trans ((W5_of m ρ c main_v1 (by decide)).trans ((W4_of m ρ c main_v1 (by decide)).trans ((W3_of m ρ c main_v1 (by decide)).trans ((W2_of m ρ c main_v1 (by decide)).trans (V1_1 m ρ c)))))
theorem V6_2 : V6 m ρ c main_v2 = bF (ar m c main_arg3) :=
  (W6_of m ρ c main_v2 (by decide)).trans ((W5_of m ρ c main_v2 (by decide)).trans ((W4_of m ρ c main_v2 (by decide)).trans ((W3_of m ρ c main_v2 (by decide)).trans ((W2_of m ρ c main_v2 (by decide)).trans (V1_2 m ρ c)))))
theorem V7_3 : V7 m ρ c main_v3 = ar m c main_arg0 :=
  (W7_of m ρ c main_v3 (by decide)).trans ((W6_of m ρ c main_v3 (by decide)).trans ((W5_of m ρ c main_v3 (by decide)).trans ((W4_of m ρ c main_v3 (by decide)).trans ((W3_of m ρ c main_v3 (by decide)).trans ((W2_of m ρ c main_v3 (by decide)).trans (V1_3 m ρ c))))))
theorem V7_12 : V7 m ρ c main_v12_0 = daF (upF (ar m c main_arg0) (ar m c main_arg1)) (wF (ar m c main_arg2)) (bF (ar m c main_arg3)) (duF (ar m c main_arg5) (ar m c main_arg4)) :=
  (W7_arr m ρ c 13).trans ((final5_13 (V6 m ρ) c).trans (congr (congr (congrArg₂ daF (V6_7 m ρ c) (V6_1 m ρ c)) (V6_2 m ρ c)) (V6_11 m ρ c)))

theorem res0 : (dat2 (V3 m ρ) c).arrAt 2 cfg2.N = downF (gateF (upF (ar m c main_arg0) (ar m c main_arg1)) (wF (ar m c main_arg2)) (bF (ar m c main_arg3))) (ar m c main_arg4) :=
  (final2 (V3 m ρ) c).trans (congrArg₂ downF (V3_8 m ρ c) (V3_5 m ρ c))
theorem res1 : (dat6 (V7 m ρ) c).arrAt 2 cfg6.N = dwuF (ar m c main_arg0) (daF (upF (ar m c main_arg0) (ar m c main_arg1)) (wF (ar m c main_arg2)) (bF (ar m c main_arg3)) (duF (ar m c main_arg5) (ar m c main_arg4))) :=
  (final6 (V7 m ρ) c).trans (congrArg₂ dwuF (V7_3 m ρ c) (V7_12 m ρ c))
theorem res2 : (dat5 (V6 m ρ) c).arrAt 14 cfg5.N = dcwF (upF (ar m c main_arg0) (ar m c main_arg1)) (wF (ar m c main_arg2)) (bF (ar m c main_arg3)) (duF (ar m c main_arg5) (ar m c main_arg4)) :=
  (final5_14 (V6 m ρ) c).trans (congr (congr (congrArg₂ dcwF (V6_7 m ρ c) (V6_1 m ρ c)) (V6_2 m ρ c)) (V6_11 m ρ c))
theorem res3 : (dat5 (V6 m ρ) c).arrAt 15 cfg5.N = dcbF (upF (ar m c main_arg0) (ar m c main_arg1)) (wF (ar m c main_arg2)) (bF (ar m c main_arg3)) (duF (ar m c main_arg5) (ar m c main_arg4)) :=
  (final5_15 (V6 m ρ) c).trans (congr (congr (congrArg₂ dcbF (V6_7 m ρ c) (V6_1 m ρ c)) (V6_2 m ρ c)) (V6_11 m ρ c))
theorem res4 : (dat3 (V4 m ρ) c).arrAt 2 cfg3.N = dwdF (gateF (upF (ar m c main_arg0) (ar m c main_arg1)) (wF (ar m c main_arg2)) (bF (ar m c main_arg3))) (ar m c main_arg5) :=
  (final3 (V4 m ρ) c).trans (congrArg₂ dwdF (V4_8 m ρ c) (V4_6 m ρ c))

end values

end Cert.Feed
-- ==== Proof.FeedReal.lean ====
/-
  Real numbers among the extended reals: sums and products of them, and the gate's derivative in its two forms.
-/
module

public import proofs.«01_k».proof.Proof.FeedRun

@[expose] public section

set_option maxRecDepth 16384

noncomputable section

namespace Cert.Feed

open Cert.FfnIdeal Cert.FfnIdeal.Gen
open Idealize.ShloMosaic Idealize.ShloMosaic.TcCoe

/-- A number is real. -/
def IsR (x : EReal) : Prop := ∃ a : ℝ, x = (a : EReal)
theorem IsR.zero : IsR 0 := ⟨0, rfl⟩
theorem IsR.add {x y : EReal} (hx : IsR x) (hy : IsR y) : IsR (x + y) := by
  obtain ⟨a, rfl⟩ := hx
  obtain ⟨b, rfl⟩ := hy
  exact ⟨a + b, (EReal.coe_add a b).symm⟩
theorem IsR.mul {x y : EReal} (hx : IsR x) (hy : IsR y) : IsR (x * y) := by
  obtain ⟨a, rfl⟩ := hx
  obtain ⟨b, rfl⟩ := hy
  exact ⟨a * b, (EReal.coe_mul a b).symm⟩
theorem IsR.sum {n : ℕ} (f : Fin n → EReal) (h : ∀ i, IsR (f i)) : IsR (∑ i, f i) :=
  Finset.sum_induction f IsR (fun _ _ => IsR.add) IsR.zero fun i _ => h i

/-- The derivative of the gate as the reference forms it, at real numbers. -/
theorem dgate_real {d g v : EReal} (hd : IsR d) (hg : IsR g) (hv : IsR v) :
    d * v * Ideal.logistic g + g * (d * v) * (Ideal.logistic g * (1 - Ideal.logistic g)) = dgate d g v := by
  obtain ⟨d, rfl⟩ := hd
  obtain ⟨g, rfl⟩ := hg
  obtain ⟨v, rfl⟩ := hv
  unfold dgate
  rw [Ideal.logistic_coe, ← EReal.coe_one]
  generalize (1 + Real.exp (-g))⁻¹ = s
  simp only [← EReal.coe_sub, ← EReal.coe_mul, ← EReal.coe_add]
  exact congrArg _ (by ring)

section
variable (A : S2x4352x5632.Idx → EReal) (w : S2x3x5632.Idx → EReal) (b : S2x1x5632.Idx → EReal) (D : S4352x5632.Idx → EReal)
  (hA : ∀ i, IsR (A i)) (hw : ∀ i, IsR (w i)) (hb : ∀ i, IsR (b i)) (hD : ∀ i, IsR (D i))
include hA
theorem col_real (s : Fin 2) (j : Fin 5632) (r : ℕ) : IsR (col A s j r) := by
  unfold col
  split_ifs
  · exact hA _
  · exact IsR.zero
include hw hb
theorem cv_real (s : Fin 2) (j : Fin 5632) (r : ℕ) : IsR (cv A w b s j r) := by
  have hu : IsR (upOf (col A s j) r) := by
    unfold upOf
    split_ifs
    · exact IsR.zero
    · exact col_real A hA s j _
  have hn : IsR (dnOf (col A s j) r) := by
    unfold dnOf
    split_ifs
    · exact IsR.zero
    · exact col_real A hA s j _
  exact (((hu.mul (hw _)).add ((col_real A hA s j r).mul (hw _))).add (hn.mul (hw _))).add (hb _)
end

theorem col1_real (D : S4352x5632.Idx → EReal) (hD : ∀ i, IsR (D i)) (j : Fin 5632) (r : ℕ) : IsR (col1 D j r) := by
  unfold col1
  split_ifs
  · exact hD _
  · exact IsR.zero

/-! ## Columns of the wide arrays -/

theorem wide_self (e : Fin 11264) : wide (halfOf e) (laneOf e) = e := by
  apply Fin.ext; simp only [wide, halfOf, laneOf]; omega
/-- A column of the wide up-projection. -/
abbrev wcol (A : S2x4352x5632.Idx → EReal) (e : Fin 11264) : ℕ → EReal := col A (halfOf e) (laneOf e)
theorem wF_at (x : S3x11264.Idx → EReal) (k : Fin 3) (e : Fin 11264) : wF x (ix3 (halfOf e) k (laneOf e)) = x (ix2 k e) :=
  congrArg (fun z => x (ix2 k z)) (wide_self e)
theorem bF_at (x : S11264.Idx → EReal) (e : Fin 11264) : bF x (ix3 (halfOf e) 0 (laneOf e)) = x (ix1 e) :=
  congrArg (fun z => x (ix1 z)) (wide_self e)
theorem upF_at (h : S4352x2048.Idx → EReal) (w : S2048x11264.Idx → EReal) (r : Fin 4352) (e : Fin 11264) :
    (∑ k : Fin 2048, h (ix2 r k) * w (ix2 k e)) = wcol (upF h w) e r.val := by
  unfold wcol
  rw [col_at]
  show _ = ∑ k : Fin 2048, h (ix2 r k) * w (ix2 k (wide (halfOf e) (laneOf e)))
  rw [wide_self]
theorem dcv_gate (A : S2x4352x5632.Idx → EReal) (w : S2x3x5632.Idx → EReal) (b : S2x1x5632.Idx → EReal) (D : S4352x5632.Idx → EReal) (j : Fin 5632) (r : ℕ) :
    dcv A w b D 0 j r = dgate (col1 D j r) (cv A w b 0 j r) (cv A w b 1 j r) := rfl
theorem dcv_val (A : S2x4352x5632.Idx → EReal) (w : S2x3x5632.Idx → EReal) (b : S2x1x5632.Idx → EReal) (D : S4352x5632.Idx → EReal) (j : Fin 5632) (r : ℕ) :
    dcv A w b D 1 j r = dval (col1 D j r) (cv A w b 0 j r) := rfl

/-! ## The two segments' rows -/

def latR (i : Fin 4096) : Fin 4352 := ⟨i.val, by omega⟩
def ctxR (i : Fin 256) : Fin 4352 := ⟨4096 + i.val, by omega⟩
theorem row_split (r : Fin 4352) : (∃ i, r = latR i) ∨ ∃ i, r = ctxR i := by
  by_cases h : r.val < 4096
  · exact .inl ⟨⟨r.val, h⟩, rfl⟩
  · exact .inr ⟨⟨r.val - 4096, by omega⟩, Fin.ext (by show r.val = 4096 + (r.val - 4096); omega)⟩
/-- A sum over all rows is the context's part and the latent's. -/
theorem sum_parts (f : Fin 4352 → EReal) : (∑ i : Fin 256, f (ctxR i)) + ∑ i : Fin 4096, f (latR i) = ∑ r, f r := by
  rw [show (∑ r, f r) = _ from Fin.sum_univ_add (a := 4096) (b := 256) f, add_comm]
  rfl

end Cert.Feed
-- ==== Proof.FeedRef.lean ====
/-
  The reference program's forward values, and its gradients up to the gated product, row by row: the same in either
  segment.
-/
module

public import proofs.«01_k».proof.Proof.FeedReal
public import proofs.«01_k».proof.Proof.Gen.FfnRefIdeal.Read

@[expose] public section

set_option maxRecDepth 16384

noncomputable section

namespace Cert.Feed

open Idealize.ShloMosaic Idealize.ShloMosaic.TcCoe Cert.FfnRefIdeal Cert.FfnRefIdeal.Read

variable (x0 : S4352x2048.Idx → EReal) (x1 : S2048x11264.Idx → EReal) (x2 : S3x11264.Idx → EReal) (x3 : S11264.Idx → EReal)
  (x4 : S5632x2048.Idx → EReal) (x5 : S4352x2048.Idx → EReal)

/-! ## The latent rows -/

theorem l_up (i : Fin 4096) (e : Fin 11264) : (val_main_v1 (F := Ideal) x0 x1 (ix2 i e) : EReal) = wcol (upF x0 x1) e (i.val) := by
  refine Eq.trans ?_ (upF_at x0 x1 (latR i) e)
  pointwise [val_main_v1, val_main_v0]
  rfl
theorem l_pre (i : Fin 4096) (e : Fin 11264) : (val_main_v6 (F := Ideal) x0 x1 (ix2 i e) : EReal) = upOf (wcol (upF x0 x1) e) (i.val) := by
  have := i.isLt
  have h := fun i => l_up x0 x1 i e
  unfold val_main_v6 val_main_v3
  generalize val_main_v1 (F := Ideal) x0 x1 = y at h ⊢
  pointwise [val_main_v2, val_main_cst]
  simp only [h, upOf]
  split_ifs <;> first | rfl | (exfalso; omega) | exact congrArg _ (by show _ = _; omega)
theorem l_mid (i : Fin 4096) (e : Fin 11264) : (val_main_v12 (F := Ideal) x0 x1 (ix2 i e) : EReal) = wcol (upF x0 x1) e (i.val) := by
  have := i.isLt
  have h := fun i => l_up x0 x1 i e
  unfold val_main_v12 val_main_v3
  generalize val_main_v1 (F := Ideal) x0 x1 = y at h ⊢
  pointwise [val_main_v2, val_main_cst]
  simp only [h]
theorem l_post (i : Fin 4096) (e : Fin 11264) : (val_main_v19 (F := Ideal) x0 x1 (ix2 i e) : EReal) = dnOf (wcol (upF x0 x1) e) (i.val) := by
  have := i.isLt
  have h := fun i => l_up x0 x1 i e
  unfold val_main_v19 val_main_v3
  generalize val_main_v1 (F := Ideal) x0 x1 = y at h ⊢
  pointwise [val_main_v2, val_main_cst]
  simp only [h, dnOf]
  split_ifs <;> first | rfl | (exfalso; omega) | exact congrArg _ (by show _ = _; omega)
theorem l_cv (i : Fin 4096) (e : Fin 11264) : (val_main_v28 (F := Ideal) x0 x1 x2 x3 (ix2 i e) : EReal) = cv (upF x0 x1) (wF x2) (bF x3) (halfOf e) (laneOf e) (i.val) := by
  unfold cv convX
  rw [wF_at, wF_at, wF_at, bF_at]
  refine Eq.trans ?_ (congrArg₂ (fun u w => u + w * x2 (ix2 2 e) + x3 (ix1 e)) (congrArg₂ (fun u w => u * x2 (ix2 0 e) + w * x2 (ix2 1 e)) (l_pre x0 x1 i e) (l_mid x0 x1 i e)) (l_post x0 x1 i e))
  unfold val_main_v28 val_main_v25 val_main_v24 val_main_v18 val_main_v17 val_main_v11
  generalize val_main_v6 (F := Ideal) _ _ = y
  generalize val_main_v12 (F := Ideal) _ _ = y
  generalize val_main_v19 (F := Ideal) _ _ = y
  pointwise [val_main_v7, val_main_v8, val_main_v9, val_main_v10, val_main_v13, val_main_v14, val_main_v15, val_main_v16, val_main_v20, val_main_v21, val_main_v22, val_main_v23, val_main_v26, val_main_v27]
theorem l_g (i : Fin 4096) (j : Fin 5632) : (val_main_v29 (F := Ideal) x0 x1 x2 x3 (ix2 i j) : EReal) = cv (upF x0 x1) (wF x2) (bF x3) 0 j (i.val) := by
  have h := l_cv x0 x1 x2 x3 i (wide 0 j)
  rw [halfOf_wide, laneOf_wide] at h
  refine Eq.trans ?_ h
  unfold val_main_v29
  generalize val_main_v28 (F := Ideal) x0 x1 x2 x3 = y
  pointwise
  exact congrArg (fun z => y (ix2 i z)) (Fin.ext (by show j.val = 0 * 5632 + j.val; omega))
theorem l_v (i : Fin 4096) (j : Fin 5632) : (val_main_v30 (F := Ideal) x0 x1 x2 x3 (ix2 i j) : EReal) = cv (upF x0 x1) (wF x2) (bF x3) 1 j (i.val) := by
  have h := l_cv x0 x1 x2 x3 i (wide 1 j)
  rw [halfOf_wide, laneOf_wide] at h
  refine Eq.trans ?_ h
  unfold val_main_v30
  generalize val_main_v28 (F := Ideal) x0 x1 x2 x3 = y
  pointwise
  exact congrArg (fun z => y (ix2 i z)) (Fin.ext (by show 5632 + j.val = 1 * 5632 + j.val; omega))
theorem l_s (i : Fin 4096) (j : Fin 5632) : (val_main_v31_2 (F := Ideal) x0 x1 x2 x3 (ix2 i j) : EReal) = Ideal.logistic (val_main_v29 (F := Ideal) x0 x1 x2 x3 (ix2 i j)) := by
  unfold val_main_v31_2 val_main_call0_v3 val_main_call0_v1 val_main_call0_v0
  generalize val_main_v29 (F := Ideal) x0 x1 x2 x3 = y
  pointwise [val_main_call0_v2, val_main_call0_v4, val_main_call0_cst, val_main_call0_cst_0]
  rfl
theorem l_s' (i : Fin 4096) (j : Fin 5632) : (val_main_v31_1 (F := Ideal) x0 x1 x2 x3 (ix2 i j) : EReal)
    = Ideal.logistic (val_main_v29 (F := Ideal) x0 x1 x2 x3 (ix2 i j)) * (1 - Ideal.logistic (val_main_v29 (F := Ideal) x0 x1 x2 x3 (ix2 i j))) := by
  rw [← l_s]
  unfold val_main_v31_1 val_main_call0_v7
  generalize val_main_v31_2 (F := Ideal) x0 x1 x2 x3 = y
  pointwise [val_main_call0_v6, val_main_call0_cst_1]
theorem l_u (i : Fin 4096) (j : Fin 5632) : (val_main_v32 (F := Ideal) x0 x1 x2 x3 (ix2 i j) : EReal) = gateF (upF x0 x1) (wF x2) (bF x3) (ix2 (latR i) j) := by
  refine (show (val_main_v32 (F := Ideal) x0 x1 x2 x3 (ix2 i j) : EReal) = val_main_v29 (F := Ideal) x0 x1 x2 x3 (ix2 i j) * val_main_v31_2 (F := Ideal) x0 x1 x2 x3 (ix2 i j) * val_main_v30 (F := Ideal) x0 x1 x2 x3 (ix2 i j) from rfl).trans ?_
  rw [l_s, l_g, l_v]
  rfl
theorem l_y (i : Fin 4096) (j : Fin 2048) : (val_main_v33 (F := Ideal) x0 x1 x2 x3 x4 (ix2 i j) : EReal) = downF (gateF (upF x0 x1) (wF x2) (bF x3)) x4 (ix2 (latR i) j) := by
  refine Eq.trans ?_ (Finset.sum_congr rfl fun k _ => congrArg (· * x4 (ix2 k j)) (l_u x0 x1 x2 x3 i k))
  unfold val_main_v33
  generalize val_main_v32 (F := Ideal) x0 x1 x2 x3 = y
  pointwise
theorem l_dd (k : Fin 5632) (j : Fin 2048) : (val_main_v118 (F := Ideal) x0 x1 x2 x3 x5 (ix2 k j) : EReal) = ∑ i : Fin 4096, gateF (upF x0 x1) (wF x2) (bF x3) (ix2 (latR i) k) * x5 (ix2 (latR i) j) := by
  refine Eq.trans ?_ (Finset.sum_congr rfl fun i _ => congrArg (· * x5 (ix2 (latR i) j)) (l_u x0 x1 x2 x3 i k))
  unfold val_main_v118 val_main_v117
  generalize val_main_v32 (F := Ideal) x0 x1 x2 x3 = y
  pointwise [val_main_v69]
  exact Finset.sum_congr rfl fun i _ => mul_comm _ _
theorem l_du (i : Fin 4096) (j : Fin 5632) : (val_main_v120 (F := Ideal) x4 x5 (ix2 i j) : EReal) = col1 (duF x5 x4) j (i.val) := by
  refine Eq.trans ?_ (col1_at (duF x5 x4) j (latR i)).symm
  pointwise [val_main_v120, val_main_v69]
  rfl
theorem l_dv (i : Fin 4096) (j : Fin 5632) : (val_main_v121 (F := Ideal) x0 x1 x2 x3 x4 x5 (ix2 i j) : EReal) = dcv (upF x0 x1) (wF x2) (bF x3) (duF x5 x4) 1 j (i.val) := by
  refine (show (val_main_v121 (F := Ideal) x0 x1 x2 x3 x4 x5 (ix2 i j) : EReal) = val_main_v29 (F := Ideal) x0 x1 x2 x3 (ix2 i j) * val_main_v31_2 (F := Ideal) x0 x1 x2 x3 (ix2 i j) * val_main_v120 (F := Ideal) x4 x5 (ix2 i j) from rfl).trans ?_
  rw [l_s, l_g, l_du, dcv_val]
  exact mul_comm _ _

/-! ## The context's rows -/

theorem c_up (i : Fin 256) (e : Fin 11264) : (val_main_v35 (F := Ideal) x0 x1 (ix2 i e) : EReal) = wcol (upF x0 x1) e (4096 + i.val) := by
  refine Eq.trans ?_ (upF_at x0 x1 (ctxR i) e)
  pointwise [val_main_v35, val_main_v34]
  rfl
theorem c_pre (i : Fin 256) (e : Fin 11264) : (val_main_v40 (F := Ideal) x0 x1 (ix2 i e) : EReal) = upOf (wcol (upF x0 x1) e) (4096 + i.val) := by
  have := i.isLt
  have h := fun i => c_up x0 x1 i e
  unfold val_main_v40 val_main_v37
  generalize val_main_v35 (F := Ideal) x0 x1 = y at h ⊢
  pointwise [val_main_v36, val_main_cst_2]
  simp only [h, upOf]
  split_ifs <;> first | rfl | (exfalso; omega) | exact congrArg _ (by show _ = _; omega)
theorem c_mid (i : Fin 256) (e : Fin 11264) : (val_main_v46 (F := Ideal) x0 x1 (ix2 i e) : EReal) = wcol (upF x0 x1) e (4096 + i.val) := by
  have := i.isLt
  have h := fun i => c_up x0 x1 i e
  unfold val_main_v46 val_main_v37
  generalize val_main_v35 (F := Ideal) x0 x1 = y at h ⊢
  pointwise [val_main_v36, val_main_cst_2]
  simp only [h]
theorem c_post (i : Fin 256) (e : Fin 11264) : (val_main_v53 (F := Ideal) x0 x1 (ix2 i e) : EReal) = dnOf (wcol (upF x0 x1) e) (4096 + i.val) := by
  have := i.isLt
  have h := fun i => c_up x0 x1 i e
  unfold val_main_v53 val_main_v37
  generalize val_main_v35 (F := Ideal) x0 x1 = y at h ⊢
  pointwise [val_main_v36, val_main_cst_2]
  simp only [h, dnOf]
  split_ifs <;> first | rfl | (exfalso; omega) | exact congrArg _ (by show _ = _; omega)
theorem c_cv (i : Fin 256) (e : Fin 11264) : (val_main_v62 (F := Ideal) x0 x1 x2 x3 (ix2 i e) : EReal) = cv (upF x0 x1) (wF x2) (bF x3) (halfOf e) (laneOf e) (4096 + i.val) := by
  unfold cv convX
  rw [wF_at, wF_at, wF_at, bF_at]
  refine Eq.trans ?_ (congrArg₂ (fun u w => u + w * x2 (ix2 2 e) + x3 (ix1 e)) (congrArg₂ (fun u w => u * x2 (ix2 0 e) + w * x2 (ix2 1 e)) (c_pre x0 x1 i e) (c_mid x0 x1 i e)) (c_post x0 x1 i e))
  unfold val_main_v62 val_main_v59 val_main_v58 val_main_v52 val_main_v51 val_main_v45
  generalize val_main_v40 (F := Ideal) _ _ = y
  generalize val_main_v46 (F := Ideal) _ _ = y
  generalize val_main_v53 (F := Ideal) _ _ = y
  pointwise [val_main_v41, val_main_v42, val_main_v43, val_main_v44, val_main_v47, val_main_v48, val_main_v49, val_main_v50, val_main_v54, val_main_v55, val_main_v56, val_main_v57, val_main_v60, val_main_v61]
theorem c_g (i : Fin 256) (j : Fin 5632) : (val_main_v63 (F := Ideal) x0 x1 x2 x3 (ix2 i j) : EReal) = cv (upF x0 x1) (wF x2) (bF x3) 0 j (4096 + i.val) := by
  have h := c_cv x0 x1 x2 x3 i (wide 0 j)
  rw [halfOf_wide, laneOf_wide] at h
  refine Eq.trans ?_ h
  unfold val_main_v63
  generalize val_main_v62 (F := Ideal) x0 x1 x2 x3 = y
  pointwise
  exact congrArg (fun z => y (ix2 i z)) (Fin.ext (by show j.val = 0 * 5632 + j.val; omega))
theorem c_v (i : Fin 256) (j : Fin 5632) : (val_main_v64 (F := Ideal) x0 x1 x2 x3 (ix2 i j) : EReal) = cv (upF x0 x1) (wF x2) (bF x3) 1 j (4096 + i.val) := by
  have h := c_cv x0 x1 x2 x3 i (wide 1 j)
  rw [halfOf_wide, laneOf_wide] at h
  refine Eq.trans ?_ h
  unfold val_main_v64
  generalize val_main_v62 (F := Ideal) x0 x1 x2 x3 = y
  pointwise
  exact congrArg (fun z => y (ix2 i z)) (Fin.ext (by show 5632 + j.val = 1 * 5632 + j.val; omega))
theorem c_s (i : Fin 256) (j : Fin 5632) : (val_main_v65_2 (F := Ideal) x0 x1 x2 x3 (ix2 i j) : EReal) = Ideal.logistic (val_main_v63 (F := Ideal) x0 x1 x2 x3 (ix2 i j)) := by
  unfold val_main_v65_2 val_main_call1_v3 val_main_call1_v1 val_main_call1_v0
  generalize val_main_v63 (F := Ideal) x0 x1 x2 x3 = y
  pointwise [val_main_call1_v2, val_main_call1_v4, val_main_call1_cst, val_main_call1_cst_0]
  rfl
theorem c_s' (i : Fin 256) (j : Fin 5632) : (val_main_v65_1 (F := Ideal) x0 x1 x2 x3 (ix2 i j) : EReal)
    = Ideal.logistic (val_main_v63 (F := Ideal) x0 x1 x2 x3 (ix2 i j)) * (1 - Ideal.logistic (val_main_v63 (F := Ideal) x0 x1 x2 x3 (ix2 i j))) := by
  rw [← c_s]
  unfold val_main_v65_1 val_main_call1_v7
  generalize val_main_v65_2 (F := Ideal) x0 x1 x2 x3 = y
  pointwise [val_main_call1_v6, val_main_call1_cst_1]
theorem c_u (i : Fin 256) (j : Fin 5632) : (val_main_v66 (F := Ideal) x0 x1 x2 x3 (ix2 i j) : EReal) = gateF (upF x0 x1) (wF x2) (bF x3) (ix2 (ctxR i) j) := by
  refine (show (val_main_v66 (F := Ideal) x0 x1 x2 x3 (ix2 i j) : EReal) = val_main_v63 (F := Ideal) x0 x1 x2 x3 (ix2 i j) * val_main_v65_2 (F := Ideal) x0 x1 x2 x3 (ix2 i j) * val_main_v64 (F := Ideal) x0 x1 x2 x3 (ix2 i j) from rfl).trans ?_
  rw [c_s, c_g, c_v]
  rfl
theorem c_y (i : Fin 256) (j : Fin 2048) : (val_main_v67 (F := Ideal) x0 x1 x2 x3 x4 (ix2 i j) : EReal) = downF (gateF (upF x0 x1) (wF x2) (bF x3)) x4 (ix2 (ctxR i) j) := by
  refine Eq.trans ?_ (Finset.sum_congr rfl fun k _ => congrArg (· * x4 (ix2 k j)) (c_u x0 x1 x2 x3 i k))
  unfold val_main_v67
  generalize val_main_v66 (F := Ideal) x0 x1 x2 x3 = y
  pointwise
theorem c_dd (k : Fin 5632) (j : Fin 2048) : (val_main_v72 (F := Ideal) x0 x1 x2 x3 x5 (ix2 k j) : EReal) = ∑ i : Fin 256, gateF (upF x0 x1) (wF x2) (bF x3) (ix2 (ctxR i) k) * x5 (ix2 (ctxR i) j) := by
  refine Eq.trans ?_ (Finset.sum_congr rfl fun i _ => congrArg (· * x5 (ix2 (ctxR i) j)) (c_u x0 x1 x2 x3 i k))
  unfold val_main_v72 val_main_v71
  generalize val_main_v66 (F := Ideal) x0 x1 x2 x3 = y
  pointwise [val_main_v70]
  exact Finset.sum_congr rfl fun i _ => mul_comm _ _
theorem c_du (i : Fin 256) (j : Fin 5632) : (val_main_v73 (F := Ideal) x4 x5 (ix2 i j) : EReal) = col1 (duF x5 x4) j (4096 + i.val) := by
  refine Eq.trans ?_ (col1_at (duF x5 x4) j (ctxR i)).symm
  pointwise [val_main_v73, val_main_v70]
  rfl
theorem c_dv (i : Fin 256) (j : Fin 5632) : (val_main_v74 (F := Ideal) x0 x1 x2 x3 x4 x5 (ix2 i j) : EReal) = dcv (upF x0 x1) (wF x2) (bF x3) (duF x5 x4) 1 j (4096 + i.val) := by
  refine (show (val_main_v74 (F := Ideal) x0 x1 x2 x3 x4 x5 (ix2 i j) : EReal) = val_main_v63 (F := Ideal) x0 x1 x2 x3 (ix2 i j) * val_main_v65_2 (F := Ideal) x0 x1 x2 x3 (ix2 i j) * val_main_v73 (F := Ideal) x4 x5 (ix2 i j) from rfl).trans ?_
  rw [c_s, c_g, c_du, dcv_val]
  exact mul_comm _ _

end Cert.Feed
-- ==== Proof.FeedRes.lean ====
/-
  The reference program's gradients of the convolution at finite arguments, and its five results.
-/
module

public import proofs.«01_k».proof.Proof.FeedRef

@[expose] public section

set_option maxRecDepth 16384

noncomputable section

namespace Cert.Feed

open Idealize.ShloMosaic Idealize.ShloMosaic.TcCoe Cert.FfnRefIdeal Cert.FfnRefIdeal.Read

variable (x0 : S4352x2048.Idx → EReal) (x1 : S2048x11264.Idx → EReal) (x2 : S3x11264.Idx → EReal) (x3 : S11264.Idx → EReal)
  (x4 : S5632x2048.Idx → EReal) (x5 : S4352x2048.Idx → EReal)

/-- The arrays the gate's gradient is formed of are real. -/
structure Fine : Prop where
  a : ∀ i, IsR (upF x0 x1 i)
  w : ∀ i, IsR (wF x2 i)
  b : ∀ i, IsR (bF x3 i)
  d : ∀ i, IsR (duF x5 x4 i)

/-- Arrays of real numbers make them so. -/
theorem Fine.of (h0 : ∀ i, IsR (x0 i)) (h1 : ∀ i, IsR (x1 i)) (h2 : ∀ i, IsR (x2 i)) (h3 : ∀ i, IsR (x3 i)) (h4 : ∀ i, IsR (x4 i)) (h5 : ∀ i, IsR (x5 i)) :
    Fine x0 x1 x2 x3 x4 x5 where
  a i := IsR.sum _ fun k => (h0 _).mul (h1 _)
  w i := h2 _
  b i := h3 _
  d i := IsR.sum _ fun k => (h5 _).mul (h4 _)

/-- Three padded shares of a row make the gradient of the convolution's argument. -/
theorem pad3 (x : ℕ → EReal) (w0 w1 w2 : EReal) (r : ℕ) {a b c : EReal} (ha : a = upOf x r * w2) (hb : b = x r * w1) (hc : c = dnOf x r * w0) :
    a + b + c = adjX x w0 w1 w2 r := by
  rw [ha, hb, hc, adjX, add_comm (upOf x r * w2), add_right_comm]

section
variable (H : Fine x0 x1 x2 x3 x4 x5)
include H

/-! ## The latent rows -/

theorem l_dg (i : Fin 4096) (j : Fin 5632) : (val_main_v123 (F := Ideal) x0 x1 x2 x3 x4 x5 (ix2 i j) : EReal) = dcv (upF x0 x1) (wF x2) (bF x3) (duF x5 x4) 0 j (i.val) := by
  refine (show (val_main_v123 (F := Ideal) x0 x1 x2 x3 x4 x5 (ix2 i j) : EReal)
    = val_main_v120 (F := Ideal) x4 x5 (ix2 i j) * val_main_v30 (F := Ideal) x0 x1 x2 x3 (ix2 i j) * val_main_v31_2 (F := Ideal) x0 x1 x2 x3 (ix2 i j)
      + val_main_v29 (F := Ideal) x0 x1 x2 x3 (ix2 i j) * (val_main_v120 (F := Ideal) x4 x5 (ix2 i j) * val_main_v30 (F := Ideal) x0 x1 x2 x3 (ix2 i j)) * val_main_v31_1 (F := Ideal) x0 x1 x2 x3 (ix2 i j) from rfl).trans ?_
  rw [l_s', l_s, l_g, l_v, l_du, dcv_gate]
  exact dgate_real (col1_real _ H.d j _) (cv_real _ _ _ H.a H.w H.b 0 j _) (cv_real _ _ _ H.a H.w H.b 1 j _)
theorem l_dc (i : Fin 4096) (e : Fin 11264) : (val_main_v124 (F := Ideal) x0 x1 x2 x3 x4 x5 (ix2 i e) : EReal) = dcv (upF x0 x1) (wF x2) (bF x3) (duF x5 x4) (halfOf e) (laneOf e) (i.val) := by
  have hg := l_dg x0 x1 x2 x3 x4 x5 H i
  have hv := l_dv x0 x1 x2 x3 x4 x5 i
  unfold val_main_v124
  generalize val_main_v123 (F := Ideal) x0 x1 x2 x3 x4 x5 = y at hg ⊢
  generalize val_main_v121 (F := Ideal) x0 x1 x2 x3 x4 x5 = z at hv ⊢
  pointwise
  by_cases h : e.val < 5632
  · rw [dif_pos h, hg, show halfOf e = 0 from Fin.ext (by show e.val / 5632 = 0; omega)]
    exact congrArg (fun z => dcv (upF x0 x1) (wF x2) (bF x3) (duF x5 x4) 0 z _) (Fin.ext (by show e.val = e.val % 5632; omega))
  · rw [dif_neg h, hv, show halfOf e = 1 from Fin.ext (by show e.val / 5632 = 1; omega)]
    exact congrArg (fun z => dcv (upF x0 x1) (wF x2) (bF x3) (duF x5 x4) 1 z _) (Fin.ext (by show e.val - 5632 = e.val % 5632; omega))
theorem l_db (e : Fin 11264) : (val_main_v127 (F := Ideal) x0 x1 x2 x3 x4 x5 (ix1 e) : EReal) = ∑ i : Fin 4096, dcv (upF x0 x1) (wF x2) (bF x3) (duF x5 x4) (halfOf e) (laneOf e) (latR i).val := by
  refine Eq.trans ?_ (Finset.sum_congr rfl fun i _ => l_dc x0 x1 x2 x3 x4 x5 H i e)
  unfold val_main_v127 val_main_v126 val_main_v125
  generalize val_main_v124 (F := Ideal) x0 x1 x2 x3 x4 x5 = y
  pointwise [val_main_cst_20, val_main_cst_19]
  simp only [Fin.sum_univ_one]
theorem l_w2 (e : Fin 11264) : (val_main_v134 (F := Ideal) x0 x1 x2 x3 x4 x5 (ix1 e) : EReal) = ∑ i : Fin 4096, dcv (upF x0 x1) (wF x2) (bF x3) (duF x5 x4) (halfOf e) (laneOf e) (latR i).val * (dnOf (wcol (upF x0 x1) e) (latR i).val) := by
  refine Eq.trans ?_ (Finset.sum_congr rfl fun i _ => congrArg₂ (· * ·) (l_dc x0 x1 x2 x3 x4 x5 H i e) (l_post x0 x1 i e))
  unfold val_main_v134 val_main_v131 val_main_v130 val_main_v129
  generalize val_main_v124 (F := Ideal) x0 x1 x2 x3 x4 x5 = y
  generalize val_main_v19 (F := Ideal) x0 x1 = z
  pointwise [val_main_cst_21, val_main_cst_22]
  simp only [Fin.sum_univ_one]
  exact Finset.sum_congr rfl fun i _ => mul_comm _ _
theorem l_w1 (e : Fin 11264) : (val_main_v144 (F := Ideal) x0 x1 x2 x3 x4 x5 (ix1 e) : EReal) = ∑ i : Fin 4096, dcv (upF x0 x1) (wF x2) (bF x3) (duF x5 x4) (halfOf e) (laneOf e) (latR i).val * (wcol (upF x0 x1) e (latR i).val) := by
  refine Eq.trans ?_ (Finset.sum_congr rfl fun i _ => congrArg₂ (· * ·) (l_dc x0 x1 x2 x3 x4 x5 H i e) (l_mid x0 x1 i e))
  unfold val_main_v144 val_main_v141 val_main_v140 val_main_v139
  generalize val_main_v124 (F := Ideal) x0 x1 x2 x3 x4 x5 = y
  generalize val_main_v12 (F := Ideal) x0 x1 = z
  pointwise [val_main_cst_25, val_main_cst_26]
  simp only [Fin.sum_univ_one]
  exact Finset.sum_congr rfl fun i _ => mul_comm _ _
theorem l_w0 (e : Fin 11264) : (val_main_v155 (F := Ideal) x0 x1 x2 x3 x4 x5 (ix1 e) : EReal) = ∑ i : Fin 4096, dcv (upF x0 x1) (wF x2) (bF x3) (duF x5 x4) (halfOf e) (laneOf e) (latR i).val * (upOf (wcol (upF x0 x1) e) (latR i).val) := by
  refine Eq.trans ?_ (Finset.sum_congr rfl fun i _ => congrArg₂ (· * ·) (l_dc x0 x1 x2 x3 x4 x5 H i e) (l_pre x0 x1 i e))
  unfold val_main_v155 val_main_v152 val_main_v151 val_main_v150
  generalize val_main_v124 (F := Ideal) x0 x1 x2 x3 x4 x5 = y
  generalize val_main_v6 (F := Ideal) x0 x1 = z
  pointwise [val_main_cst_29, val_main_cst_30]
  simp only [Fin.sum_univ_one]
  exact Finset.sum_congr rfl fun i _ => mul_comm _ _
theorem l_da (i : Fin 4096) (e : Fin 11264) : (val_main_v162 (F := Ideal) x0 x1 x2 x3 x4 x5 (ix2 i e) : EReal) = daF (upF x0 x1) (wF x2) (bF x3) (duF x5 x4) (ix3 (halfOf e) (latR i) (laneOf e)) := by
  have := i.isLt
  have h := fun i => l_dc x0 x1 x2 x3 x4 x5 H i e
  unfold daF
  show _ = adjX (dcv (upF x0 x1) (wF x2) (bF x3) (duF x5 x4) (halfOf e) (laneOf e)) (wF x2 (ix3 (halfOf e) 0 (laneOf e))) (wF x2 (ix3 (halfOf e) 1 (laneOf e))) (wF x2 (ix3 (halfOf e) 2 (laneOf e))) (i.val)
  rw [wF_at, wF_at, wF_at]
  generalize dcv (upF x0 x1) (wF x2) (bF x3) (duF x5 x4) (halfOf e) (laneOf e) = x at h ⊢
  unfold val_main_v162 val_main_v160 val_main_v159 val_main_v154 val_main_v149 val_main_v148 val_main_v143 val_main_v138 val_main_v133
  generalize val_main_v124 (F := Ideal) x0 x1 x2 x3 x4 x5 = y at h ⊢
  pointwise [val_main_v153, val_main_v9, val_main_v8, val_main_v7, val_main_v142, val_main_v15, val_main_v14, val_main_v13, val_main_v132, val_main_v22, val_main_v21, val_main_v20, val_main_cst_24, val_main_cst_28, val_main_cst_32]
  simp only [h]
  refine pad3 x _ _ _ (i.val) ?_ ?_ ?_
  · unfold upOf
    split_ifs <;> first | exact zero_mul _ | exact (zero_mul _).symm | rfl | (exfalso; omega) | exact congrArg (fun z => x z * _) (by show _ = _; omega)
  · rfl
  · unfold dnOf
    split_ifs <;> first | exact zero_mul _ | exact (zero_mul _).symm | rfl | (exfalso; omega) | exact congrArg (fun z => x z * _) (by show _ = _; omega)
theorem l_dw (k : Fin 2048) (e : Fin 11264) : (val_main_v165 (F := Ideal) x0 x1 x2 x3 x4 x5 (ix2 k e) : EReal) = ∑ i : Fin 4096, x0 (ix2 (latR i) k) * daF (upF x0 x1) (wF x2) (bF x3) (duF x5 x4) (ix3 (halfOf e) (latR i) (laneOf e)) := by
  refine Eq.trans ?_ (Finset.sum_congr rfl fun i _ => congrArg (x0 (ix2 (latR i) k) * ·) (l_da x0 x1 x2 x3 x4 x5 H i e))
  unfold val_main_v165 val_main_v164
  generalize val_main_v162 (F := Ideal) x0 x1 x2 x3 x4 x5 = y
  pointwise [val_main_v0]
  exact Finset.sum_congr rfl fun i _ => mul_comm _ _

/-! ## The context's rows -/

theorem c_dg (i : Fin 256) (j : Fin 5632) : (val_main_v76 (F := Ideal) x0 x1 x2 x3 x4 x5 (ix2 i j) : EReal) = dcv (upF x0 x1) (wF x2) (bF x3) (duF x5 x4) 0 j (4096 + i.val) := by
  refine (show (val_main_v76 (F := Ideal) x0 x1 x2 x3 x4 x5 (ix2 i j) : EReal)
    = val_main_v73 (F := Ideal) x4 x5 (ix2 i j) * val_main_v64 (F := Ideal) x0 x1 x2 x3 (ix2 i j) * val_main_v65_2 (F := Ideal) x0 x1 x2 x3 (ix2 i j)
      + val_main_v63 (F := Ideal) x0 x1 x2 x3 (ix2 i j) * (val_main_v73 (F := Ideal) x4 x5 (ix2 i j) * val_main_v64 (F := Ideal) x0 x1 x2 x3 (ix2 i j)) * val_main_v65_1 (F := Ideal) x0 x1 x2 x3 (ix2 i j) from rfl).trans ?_
  rw [c_s', c_s, c_g, c_v, c_du, dcv_gate]
  exact dgate_real (col1_real _ H.d j _) (cv_real _ _ _ H.a H.w H.b 0 j _) (cv_real _ _ _ H.a H.w H.b 1 j _)
theorem c_dc (i : Fin 256) (e : Fin 11264) : (val_main_v77 (F := Ideal) x0 x1 x2 x3 x4 x5 (ix2 i e) : EReal) = dcv (upF x0 x1) (wF x2) (bF x3) (duF x5 x4) (halfOf e) (laneOf e) (4096 + i.val) := by
  have hg := c_dg x0 x1 x2 x3 x4 x5 H i
  have hv := c_dv x0 x1 x2 x3 x4 x5 i
  unfold val_main_v77
  generalize val_main_v76 (F := Ideal) x0 x1 x2 x3 x4 x5 = y at hg ⊢
  generalize val_main_v74 (F := Ideal) x0 x1 x2 x3 x4 x5 = z at hv ⊢
  pointwise
  by_cases h : e.val < 5632
  · rw [dif_pos h, hg, show halfOf e = 0 from Fin.ext (by show e.val / 5632 = 0; omega)]
    exact congrArg (fun z => dcv (upF x0 x1) (wF x2) (bF x3) (duF x5 x4) 0 z _) (Fin.ext (by show e.val = e.val % 5632; omega))
  · rw [dif_neg h, hv, show halfOf e = 1 from Fin.ext (by show e.val / 5632 = 1; omega)]
    exact congrArg (fun z => dcv (upF x0 x1) (wF x2) (bF x3) (duF x5 x4) 1 z _) (Fin.ext (by show e.val - 5632 = e.val % 5632; omega))
theorem c_db (e : Fin 11264) : (val_main_v80 (F := Ideal) x0 x1 x2 x3 x4 x5 (ix1 e) : EReal) = ∑ i : Fin 256, dcv (upF x0 x1) (wF x2) (bF x3) (duF x5 x4) (halfOf e) (laneOf e) (ctxR i).val := by
  refine Eq.trans ?_ (Finset.sum_congr rfl fun i _ => c_dc x0 x1 x2 x3 x4 x5 H i e)
  unfold val_main_v80 val_main_v79 val_main_v78
  generalize val_main_v77 (F := Ideal) x0 x1 x2 x3 x4 x5 = y
  pointwise [val_main_cst_6, val_main_cst_5]
  simp only [Fin.sum_univ_one]
theorem c_w2 (e : Fin 11264) : (val_main_v86 (F := Ideal) x0 x1 x2 x3 x4 x5 (ix1 e) : EReal) = ∑ i : Fin 256, dcv (upF x0 x1) (wF x2) (bF x3) (duF x5 x4) (halfOf e) (laneOf e) (ctxR i).val * (dnOf (wcol (upF x0 x1) e) (ctxR i).val) := by
  refine Eq.trans ?_ (Finset.sum_congr rfl fun i _ => congrArg₂ (· * ·) (c_dc x0 x1 x2 x3 x4 x5 H i e) (c_post x0 x1 i e))
  unfold val_main_v86 val_main_v83 val_main_v82 val_main_v81
  generalize val_main_v77 (F := Ideal) x0 x1 x2 x3 x4 x5 = y
  generalize val_main_v53 (F := Ideal) x0 x1 = z
  pointwise [val_main_cst_7, val_main_cst_8]
  simp only [Fin.sum_univ_one]
  exact Finset.sum_congr rfl fun i _ => mul_comm _ _
theorem c_w1 (e : Fin 11264) : (val_main_v95 (F := Ideal) x0 x1 x2 x3 x4 x5 (ix1 e) : EReal) = ∑ i : Fin 256, dcv (upF x0 x1) (wF x2) (bF x3) (duF x5 x4) (halfOf e) (laneOf e) (ctxR i).val * (wcol (upF x0 x1) e (ctxR i).val) := by
  refine Eq.trans ?_ (Finset.sum_congr rfl fun i _ => congrArg₂ (· * ·) (c_dc x0 x1 x2 x3 x4 x5 H i e) (c_mid x0 x1 i e))
  unfold val_main_v95 val_main_v92 val_main_v91 val_main_v90
  generalize val_main_v77 (F := Ideal) x0 x1 x2 x3 x4 x5 = y
  generalize val_main_v46 (F := Ideal) x0 x1 = z
  pointwise [val_main_cst_11, val_main_cst_12]
  simp only [Fin.sum_univ_one]
  exact Finset.sum_congr rfl fun i _ => mul_comm _ _
theorem c_w0 (e : Fin 11264) : (val_main_v106 (F := Ideal) x0 x1 x2 x3 x4 x5 (ix1 e) : EReal) = ∑ i : Fin 256, dcv (upF x0 x1) (wF x2) (bF x3) (duF x5 x4) (halfOf e) (laneOf e) (ctxR i).val * (upOf (wcol (upF x0 x1) e) (ctxR i).val) := by
  refine Eq.trans ?_ (Finset.sum_congr rfl fun i _ => congrArg₂ (· * ·) (c_dc x0 x1 x2 x3 x4 x5 H i e) (c_pre x0 x1 i e))
  unfold val_main_v106 val_main_v103 val_main_v102 val_main_v101
  generalize val_main_v77 (F := Ideal) x0 x1 x2 x3 x4 x5 = y
  generalize val_main_v40 (F := Ideal) x0 x1 = z
  pointwise [val_main_cst_15, val_main_cst_16]
  simp only [Fin.sum_univ_one]
  exact Finset.sum_congr rfl fun i _ => mul_comm _ _
theorem c_da (i : Fin 256) (e : Fin 11264) : (val_main_v113 (F := Ideal) x0 x1 x2 x3 x4 x5 (ix2 i e) : EReal) = daF (upF x0 x1) (wF x2) (bF x3) (duF x5 x4) (ix3 (halfOf e) (ctxR i) (laneOf e)) := by
  have := i.isLt
  have h := fun i => c_dc x0 x1 x2 x3 x4 x5 H i e
  unfold daF
  show _ = adjX (dcv (upF x0 x1) (wF x2) (bF x3) (duF x5 x4) (halfOf e) (laneOf e)) (wF x2 (ix3 (halfOf e) 0 (laneOf e))) (wF x2 (ix3 (halfOf e) 1 (laneOf e))) (wF x2 (ix3 (halfOf e) 2 (laneOf e))) (4096 + i.val)
  rw [wF_at, wF_at, wF_at]
  generalize dcv (upF x0 x1) (wF x2) (bF x3) (duF x5 x4) (halfOf e) (laneOf e) = x at h ⊢
  unfold val_main_v113 val_main_v111 val_main_v110 val_main_v105 val_main_v100 val_main_v99 val_main_v94 val_main_v89 val_main_v85
  generalize val_main_v77 (F := Ideal) x0 x1 x2 x3 x4 x5 = y at h ⊢
  pointwise [val_main_v104, val_main_v43, val_main_v42, val_main_v41, val_main_v93, val_main_v49, val_main_v48, val_main_v47, val_main_v84, val_main_v56, val_main_v55, val_main_v54, val_main_cst_10, val_main_cst_14, val_main_cst_18]
  simp only [h]
  refine pad3 x _ _ _ (4096 + i.val) ?_ ?_ ?_
  · unfold upOf
    split_ifs <;> first | exact zero_mul _ | exact (zero_mul _).symm | rfl | (exfalso; omega) | exact congrArg (fun z => x z * _) (by show _ = _; omega)
  · rfl
  · unfold dnOf
    split_ifs <;> first | exact zero_mul _ | exact (zero_mul _).symm | rfl | (exfalso; omega) | exact congrArg (fun z => x z * _) (by show _ = _; omega)
theorem c_dw (k : Fin 2048) (e : Fin 11264) : (val_main_v116 (F := Ideal) x0 x1 x2 x3 x4 x5 (ix2 k e) : EReal) = ∑ i : Fin 256, x0 (ix2 (ctxR i) k) * daF (upF x0 x1) (wF x2) (bF x3) (duF x5 x4) (ix3 (halfOf e) (ctxR i) (laneOf e)) := by
  refine Eq.trans ?_ (Finset.sum_congr rfl fun i _ => congrArg (x0 (ix2 (ctxR i) k) * ·) (c_da x0 x1 x2 x3 x4 x5 H i e))
  unfold val_main_v116 val_main_v115
  generalize val_main_v113 (F := Ideal) x0 x1 x2 x3 x4 x5 = y
  pointwise [val_main_v34]
  exact Finset.sum_congr rfl fun i _ => mul_comm _ _

/-! ## The results -/

theorem ref1 : val_main_v167 (F := Ideal) x0 x1 x2 x3 x4 x5 = dwuF x0 (daF (upF x0 x1) (wF x2) (bF x3) (duF x5 x4)) := by
  funext j
  idx_vars j
  refine (show val_main_v167 (F := Ideal) x0 x1 x2 x3 x4 x5 (ix2 j0 j1) = val_main_v116 (F := Ideal) x0 x1 x2 x3 x4 x5 (ix2 j0 j1) + val_main_v165 (F := Ideal) x0 x1 x2 x3 x4 x5 (ix2 j0 j1) from rfl).trans ?_
  rw [c_dw x0 x1 x2 x3 x4 x5 H, l_dw x0 x1 x2 x3 x4 x5 H]
  exact sum_parts fun r => x0 (ix2 r j0) * daF (upF x0 x1) (wF x2) (bF x3) (duF x5 x4) (ix3 (halfOf j1) r (laneOf j1))
/-- A row of the weights' gradient: the context's share and the latent's. -/
theorem v158_at (k : Fin 3) (e : Fin 11264) : (val_main_v158 (F := Ideal) x0 x1 x2 x3 x4 x5 (ix2 k e) : EReal) = ∑ r : Fin 4352, dcv (upF x0 x1) (wF x2) (bF x3) (duF x5 x4) (halfOf e) (laneOf e) r.val * tap (wcol (upF x0 x1) e) k r.val := by
  have c0 := c_w0 x0 x1 x2 x3 x4 x5 H e
  have c1 := c_w1 x0 x1 x2 x3 x4 x5 H e
  have c2 := c_w2 x0 x1 x2 x3 x4 x5 H e
  have l0 := l_w0 x0 x1 x2 x3 x4 x5 H e
  have l1 := l_w1 x0 x1 x2 x3 x4 x5 H e
  have l2 := l_w2 x0 x1 x2 x3 x4 x5 H e
  refine Eq.trans ?_ (sum_parts fun r => dcv (upF x0 x1) (wF x2) (bF x3) (duF x5 x4) (halfOf e) (laneOf e) r.val * tap (wcol (upF x0 x1) e) k r.val)
  unfold val_main_v158 val_main_v157 val_main_v156 val_main_v147 val_main_v146 val_main_v145 val_main_v137 val_main_v136 val_main_v135 val_main_v109 val_main_v108 val_main_v107 val_main_v98 val_main_v97 val_main_v96 val_main_v88 val_main_v87
  generalize val_main_v86 (F := Ideal) x0 x1 x2 x3 x4 x5 = y1 at c2 ⊢
  generalize val_main_v95 (F := Ideal) x0 x1 x2 x3 x4 x5 = y2 at c1 ⊢
  generalize val_main_v106 (F := Ideal) x0 x1 x2 x3 x4 x5 = y3 at c0 ⊢
  generalize val_main_v134 (F := Ideal) x0 x1 x2 x3 x4 x5 = y4 at l2 ⊢
  generalize val_main_v144 (F := Ideal) x0 x1 x2 x3 x4 x5 = y5 at l1 ⊢
  generalize val_main_v155 (F := Ideal) x0 x1 x2 x3 x4 x5 = y6 at l0 ⊢
  pointwise [val_main_cst_9, val_main_cst_13, val_main_cst_17, val_main_cst_23, val_main_cst_27, val_main_cst_31]
  rw [c0, c1, c2, l0, l1, l2]
  fin_cases k
  · simp [tap]
  · simp [tap]
  · simp [tap]
theorem ref2 : val_main_v169 (F := Ideal) x0 x1 x2 x3 x4 x5 = dcwF (upF x0 x1) (wF x2) (bF x3) (duF x5 x4) := by
  funext j
  idx_vars j
  have h := v158_at x0 x1 x2 x3 x4 x5 H j1 (wide j0 j2)
  unfold wcol at h
  rw [halfOf_wide, laneOf_wide] at h
  refine Eq.trans ?_ h
  unfold val_main_v169 val_main_v168
  generalize val_main_v158 (F := Ideal) x0 x1 x2 x3 x4 x5 = y
  pointwise
  rfl
theorem ref3 : val_main_v170 (F := Ideal) x0 x1 x2 x3 x4 x5 = dcbF (upF x0 x1) (wF x2) (bF x3) (duF x5 x4) := by
  funext j
  idx_vars j
  have h := congrArg₂ (· + ·) (c_db x0 x1 x2 x3 x4 x5 H (wide j0 j2)) (l_db x0 x1 x2 x3 x4 x5 H (wide j0 j2))
  rw [halfOf_wide, laneOf_wide] at h
  refine Eq.trans ?_ (h.trans (sum_parts fun r => dcv (upF x0 x1) (wF x2) (bF x3) (duF x5 x4) j0 j2 r.val))
  unfold val_main_v170 val_main_v128
  generalize val_main_v80 (F := Ideal) x0 x1 x2 x3 x4 x5 = y
  generalize val_main_v127 (F := Ideal) x0 x1 x2 x3 x4 x5 = z
  pointwise
  rfl
end

theorem ref0 : val_main_v68 (F := Ideal) x0 x1 x2 x3 x4 = downF (gateF (upF x0 x1) (wF x2) (bF x3)) x4 := by
  funext j
  idx_vars j
  have hl := l_y x0 x1 x2 x3 x4
  have hc := c_y x0 x1 x2 x3 x4
  unfold val_main_v68
  generalize val_main_v33 (F := Ideal) x0 x1 x2 x3 x4 = y at hl ⊢
  generalize val_main_v67 (F := Ideal) x0 x1 x2 x3 x4 = z at hc ⊢
  pointwise
  by_cases h : j0.val < 4096
  · exact (dif_pos h).trans (hl _ _)
  · refine (dif_neg h).trans ((hc _ _).trans ?_)
    refine (congrArg (fun r => downF (gateF (upF x0 x1) (wF x2) (bF x3)) x4 (ix2 r j1)) (Fin.ext ?_))
    show 4096 + (j0.val - 4096) = j0.val
    omega
theorem ref4 : val_main_v171 (F := Ideal) x0 x1 x2 x3 x5 = dwdF (gateF (upF x0 x1) (wF x2) (bF x3)) x5 := by
  funext j
  idx_vars j
  refine (show val_main_v171 (F := Ideal) x0 x1 x2 x3 x5 (ix2 j0 j1) = val_main_v72 (F := Ideal) x0 x1 x2 x3 x5 (ix2 j0 j1) + val_main_v118 (F := Ideal) x0 x1 x2 x3 x5 (ix2 j0 j1) from rfl).trans ?_
  rw [c_dd, l_dd]
  exact sum_parts fun r => gateF (upF x0 x1) (wF x2) (bF x3) (ix2 r j0) * x5 (ix2 r j1)

end Cert.Feed
-- ==== Proof.FfnClaims.lean ====
/-
  The claims about the feed-forward part. The precondition makes every argument an array of real numbers; the gate's
  derivative, which the two programs form in two ways, is then the same.
-/
module

public import proofs.«01_k».proof.Defs
public import proofs.«01_k».proof.Proof.FeedRes
public import proofs.«01_k».proof.Proof.MlaClaims
public import proofs.«01_k».proof.Proof.Gen.Ffn.Frame
public import proofs.«01_k».proof.Proof.Gen.FfnIdeal.Frame
public import proofs.«01_k».proof.Proof.Gen.FfnRefIdeal.Run
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.Feed

/-- The side conditions the precondition's operations state. -/
theorem preFacts : Cert.Pre_finite_ffn.Facts where
  bcast_S_S4352x2048 := by decide
  bcast_S_S2048x11264 := by decide
  bcast_S_S3x11264 := by decide
  bcast_S_S11264 := by decide
  bcast_S_S5632x2048 := by decide

/-- Under the precondition the arguments are arrays of real numbers. -/
theorem fine_of (m : (ℓ : Loc Cert.FfnIdeal.nD Cert.FfnIdeal.τ Cert.FfnIdeal.sig) → Buf (Elt Ideal) ℓ) (c : Dev Cert.FfnIdeal.nD)
    (h : Cert.Pre_FfnIdeal_finite_ffn (hPre_finite_ffn := preFacts) m) :
    Fine (m ((c : Thread Cert.FfnIdeal.nD Cert.FfnIdeal.τ).loc Cert.FfnIdeal.main_arg0)) (m ((c : Thread Cert.FfnIdeal.nD Cert.FfnIdeal.τ).loc Cert.FfnIdeal.main_arg1)) (m ((c : Thread Cert.FfnIdeal.nD Cert.FfnIdeal.τ).loc Cert.FfnIdeal.main_arg2)) (m ((c : Thread Cert.FfnIdeal.nD Cert.FfnIdeal.τ).loc Cert.FfnIdeal.main_arg3)) (m ((c : Thread Cert.FfnIdeal.nD Cert.FfnIdeal.τ).loc Cert.FfnIdeal.main_arg4)) (m ((c : Thread Cert.FfnIdeal.nD Cert.FfnIdeal.τ).loc Cert.FfnIdeal.main_arg5)) :=
  Fine.of _ _ _ _ _ _
    (fun i => ⟨_, Cert.Mla.real_at (s := ⟨2, ![4352, 2048]⟩) _ preFacts.bcast_S_S4352x2048 (h c).1 i⟩)
    (fun i => ⟨_, Cert.Mla.real_at (s := ⟨2, ![2048, 11264]⟩) _ preFacts.bcast_S_S2048x11264 (h c).2.1 i⟩)
    (fun i => ⟨_, Cert.Mla.real_at (s := ⟨2, ![3, 11264]⟩) _ preFacts.bcast_S_S3x11264 (h c).2.2.1 i⟩)
    (fun i => ⟨_, Cert.Mla.real_at (s := ⟨1, ![11264]⟩) _ preFacts.bcast_S_S11264 (h c).2.2.2.1 i⟩)
    (fun i => ⟨_, Cert.Mla.real_at (s := ⟨2, ![5632, 2048]⟩) _ preFacts.bcast_S_S5632x2048 (h c).2.2.2.2.1 i⟩)
    (fun i => ⟨_, Cert.Mla.real_at (s := ⟨2, ![4352, 2048]⟩) _ preFacts.bcast_S_S4352x2048 (h c).2.2.2.2.2 i⟩)

theorem frame_p : Cert.quiescent_Ffn (hFfn := Cert.Ffn.Gen.facts) := fun m ρ _ => Cert.Ffn.Gen.frame m ρ
theorem frame_pi : Cert.quiescent_FfnIdeal (hFfnIdeal := Cert.FfnIdeal.Gen.facts) := fun m ρ _ => Cert.FfnIdeal.Gen.frame m ρ
theorem frame_pi_pre : Cert.quiescent_FfnIdeal_pre_finite_ffn (hFfnIdeal := Cert.FfnIdeal.Gen.facts) (hPre_finite_ffn := preFacts) :=
  fun m ρ _ => Cert.FfnIdeal.Gen.frame m ρ
theorem frame_ri : Cert.quiescent_FfnRefIdeal (hFfnRefIdeal := Cert.FfnRefIdeal.Gen.facts) := fun m ρ _ =>
  (θ_run Cert.FfnRefIdeal.defs _ _).mono (fun r h => ⟨fun c => (h c).2.2.2.2.2,
      sem_eq_zero_of_no_sems (by decide) r.2⟩) (Cert.FfnRefIdeal.Value.run (F := Ideal) m ρ)
theorem frame_ri_pre : Cert.quiescent_FfnRefIdeal_pre_finite_ffn (hFfnRefIdeal := Cert.FfnRefIdeal.Gen.facts) (hPre_finite_ffn := preFacts) :=
  fun m ρ _ => frame_ri m ρ trivial
theorem preserves : Cert.preserves_Ffn_FfnIdeal := trivial

theorem algebraic : Cert.algebraic_FfnIdeal_FfnRefIdeal_pre_finite_ffn (hFfnIdeal := Cert.FfnIdeal.Gen.facts)
    (hFfnRefIdeal := Cert.FfnRefIdeal.Gen.facts) (hPre_finite_ffn := preFacts) := by
  intro m ρ m' ρ' hpre hagree
  refine ⟨_, _, _, _, _, run m ρ, (θ_run Cert.FfnRefIdeal.defs _ _).mono
    (fun _ h c => ⟨(h c).1.trans ?_, (h c).2.1.trans ?_, (h c).2.2.1.trans ?_, (h c).2.2.2.1.trans ?_, (h c).2.2.2.2.1.trans ?_, (h c).2.2.2.2.2⟩)
    (Cert.FfnRefIdeal.Value.run (F := Ideal) m' ρ')⟩
  · refine (Cert.FfnRefIdeal.Read.val_main_v68_eq _).trans ?_
    obtain ⟨a0, a1, a2, a3, a4, a5⟩ := hagree c
    refine (congr (congr (congr (congr (congrArg (Cert.FfnRefIdeal.Read.val_main_v68 (F := Ideal)) a0) a1) a2) a3) a4).trans ?_
    exact (ref0 _ _ _ _ _ ).trans (res0 m ρ c).symm
  · refine (Cert.FfnRefIdeal.Read.val_main_v167_eq _).trans ?_
    obtain ⟨a0, a1, a2, a3, a4, a5⟩ := hagree c
    refine (congr (congr (congr (congr (congr (congrArg (Cert.FfnRefIdeal.Read.val_main_v167 (F := Ideal)) a0) a1) a2) a3) a4) a5).trans ?_
    exact (ref1 _ _ _ _ _ _ (fine_of m c hpre)).trans (res1 m ρ c).symm
  · refine (Cert.FfnRefIdeal.Read.val_main_v169_eq _).trans ?_
    obtain ⟨a0, a1, a2, a3, a4, a5⟩ := hagree c
    refine (congr (congr (congr (congr (congr (congrArg (Cert.FfnRefIdeal.Read.val_main_v169 (F := Ideal)) a0) a1) a2) a3) a4) a5).trans ?_
    exact (ref2 _ _ _ _ _ _ (fine_of m c hpre)).trans (res2 m ρ c).symm
  · refine (Cert.FfnRefIdeal.Read.val_main_v170_eq _).trans ?_
    obtain ⟨a0, a1, a2, a3, a4, a5⟩ := hagree c
    refine (congr (congr (congr (congr (congr (congrArg (Cert.FfnRefIdeal.Read.val_main_v170 (F := Ideal)) a0) a1) a2) a3) a4) a5).trans ?_
    exact (ref3 _ _ _ _ _ _ (fine_of m c hpre)).trans (res3 m ρ c).symm
  · refine (Cert.FfnRefIdeal.Read.val_main_v171_eq _).trans ?_
    obtain ⟨a0, a1, a2, a3, a4, a5⟩ := hagree c
    refine (congr (congr (congr (congr (congrArg (Cert.FfnRefIdeal.Read.val_main_v171 (F := Ideal)) a0) a1) a2) a3) a5).trans ?_
    exact (ref4 _ _ _ _ _ ).trans (res4 m ρ c).symm

end Cert.Feed

end
-- ==== Proof.NormSpec.lean ====
/-
  A row of the norm with modulation, its gradients, and the arrays of them.
-/
module

public import Idealize.ShloMosaic.Lib.Claim
public import Idealize.ShloMosaic.Lib.Pointwise
public import proofs.«01_k».proof.Proof.Spec

@[expose] public section

set_option maxRecDepth 16384

noncomputable section

namespace Cert.Nrm

open Idealize.ShloMosaic

/-! ## A row -/

section row
variable (x g s t d : Fin 2048 → EReal) (b : Fin 2048)

/-- The mean square of a row, and the small constant, -/
def msq : EReal := Ideal.div (∑ k, x k * x k) (Ideal.ofBits .f32 0x45000000#32) + Ideal.ofBits .f32 0x358637BD#32
/-- the root the row is divided by, -/
def rsq : EReal := Ideal.rsqrt (msq x)
/-- the row's norm with its weight, -/
def nrm : EReal := x b * rsq x * g b
/-- and that scaled and shifted. -/
def hRow : EReal := nrm x g b * (1 + s b) + t b

/-- The gradient of the scaled norm, before its weight, -/
def dSc : EReal := d b * (1 + s b)
/-- the share of the root in the row's gradient, at each of two places, -/
def dRt : EReal := Ideal.div ((∑ k, x k * (dSc s d k * g k)) * (Ideal.ofBits .f32 0xBF000000#32 * Ideal.div (rsq x) (msq x))) (Ideal.ofBits .f32 0x45000000#32)
/-- and the row's gradient. -/
def dRow : EReal := dSc s d b * g b * rsq x + x b * dRt x g s d + dRt x g s d * x b

end row

/-! ## The arrays -/

/-- An array of rows, -/
abbrev AR := (⟨2, ![4352, 2048]⟩ : Shape).Idx → EReal
/-- the weights, -/
abbrev AG := (⟨2, ![1, 2048]⟩ : Shape).Idx → EReal
/-- and the modulation of the two parts. -/
abbrev AM := (⟨3, ![2, 6, 2048]⟩ : Shape).Idx → EReal

/-- The part of a row. -/
def seg (i : ℕ) : Fin 2 := if 4096 ≤ i then 1 else 0

section arrays
variable (X : AR) (G : AG) (M : AM) (D E : AR)

/-- Row `i`, -/
abbrev rowA {n : ℕ} (Y : (⟨2, ![n, 2048]⟩ : Shape).Idx → EReal) (i : Fin n) : Fin 2048 → EReal := fun k => Y (ix2 i k)
/-- and row `k` of the modulation of part `p`. -/
abbrev rowM (p : Fin 2) (k : Fin 6) : Fin 2048 → EReal := fun b => M (ix3 p k b)

/-- The result, -/
def hF : AR := fun j => hRow (rowA X (j 0)) (rowA G 0) (rowM M (seg (j 0).val) 4) (rowM M (seg (j 0).val) 3) (j 1)
/-- the gradient of the rows, added to what came in, -/
def dxF : AR := fun j => E j + dRow (rowA X (j 0)) (rowA G 0) (rowM M (seg (j 0).val) 4) (rowA D (j 0)) (j 1)
/-- a row's share of the gradient of the weights, -/
def gT (i : Fin 4352) (b : Fin 2048) : EReal := X (ix2 i b) * rsq (rowA X i) * dSc (rowM M (seg i.val) 4) (rowA D i) b
/-- the gradient of the weights, -/
def dgF : AG := fun j => ∑ i : Fin 4352, gT X M D i (j 1)
/-- a row's share of the gradient of its part's modulation, -/
def mT (k : Fin 6) (i : Fin 4352) (b : Fin 2048) : EReal :=
  if k = 3 then D (ix2 i b) else if k = 4 then nrm (rowA X i) (rowA G 0) b * D (ix2 i b) else 0
/-- and the gradient of the modulation. -/
def dmF : AM := fun j => ∑ i : Fin 4352, if (seg i.val).val = (j 0).val then mT X G D (j 1) i (j 2) else 0

end arrays

end Cert.Nrm

end
-- ==== Proof.NormPay.lean ====
/-
  What the norm's kernels compute of a block, at an index.
-/
module

public import Idealize.ShloMosaic.Lib.Pipeline.ValueKit
public import proofs.«01_k».proof.Proof.NormSpec
public import proofs.«01_k».proof.Proof.Gen.NormIdeal.Frame

@[expose] public section

set_option maxRecDepth 16384

noncomputable section

namespace Cert.Nrm

open Cert.NormIdeal Cert.NormIdeal.Gen
open Idealize.ShloMosaic Idealize.ShloMosaic.TcCoe

/-- The part of the rows of block `n`. -/
def prt (n : ℕ) : Fin 2 := if 16 ≤ n then 1 else 0

theorem bit : ∀ n : Fin 17, Scalar.cmpi .sge (BitVec.ofNat 32 n.val) 16#32 = if prt n.val = 1 then 1#1 else 0#1 := by decide

/-- A choice by the part. -/
theorem sel {α : Type} (n : ℕ) (h : n < 17) (a b : α) : Scalar.select (Scalar.cmpi .sge (BitVec.ofNat 32 n) 16#32) a b = if prt n = 1 then a else b := by
  rw [bit ⟨n, h⟩]
  split_ifs <;> rfl

section
variable (n : ℕ) (h : n < 17) (x : Vec Ideal S256x2048 .f32) (g : Vec Ideal S1x2048 .f32) (mo : Vec Ideal S2x6x2048 .f32) (d : Vec Ideal S256x2048 .f32)
  (a : Fin 256) (b : Fin 2048)

theorem pay6_at (y : Fin 1) : (k1_pay6 x (ix2 a y) : EReal) = msq (rowA x a) := by
  pointwise [k1_pay6]
  rfl
theorem pay7_at (y : Fin 1) : (k1_pay7 x (ix2 a y) : EReal) = rsq (rowA x a) := by
  have e := pay6_at x a
  unfold k1_pay7
  generalize k1_pay6 x = y at e ⊢
  pointwise
  rw [e]
  rfl
theorem pay9_at : (k1_pay9 x (ix2 a b) : EReal) = x (ix2 a b) * rsq (rowA x a) := by
  have e := pay6_at x a
  unfold k1_pay9 k1_pay7
  generalize k1_pay6 x = y at e ⊢
  pointwise
  rw [e]
  rfl
theorem pay8_at (y : Fin 1) : (k1_pay8 x (ix2 a y) : EReal) = Ideal.ofBits .f32 0xBF000000#32 * Ideal.div (rsq (rowA x a)) (msq (rowA x a)) := by
  have e := pay6_at x a
  unfold k1_pay8 k1_pay7
  generalize k1_pay6 x = y at e ⊢
  pointwise
  rw [e]
  rfl
theorem pay10_at : (k1_pay10 x g (ix2 a b) : EReal) = nrm (rowA x a) (rowA g 0) b := by
  have e := pay9_at x a b
  unfold k1_pay10
  generalize k1_pay9 x = y at e ⊢
  pointwise
  rw [e]
  rfl

end

section
variable (i : grid1.Coords) (mo : Vec Ideal S2x6x2048 .f32) (b : Fin 2048)
theorem pay11_at (y : Fin 1) : (k1_pay11 i mo (ix2 y b) : EReal) = 1 + rowM mo (prt (i 0).val) 4 b := by
  unfold k1_pay11
  simp only [sel _ (i 0).isLt]
  split_ifs with e
  · rw [e]
    pointwise
  · rw [show prt (i 0).val = 0 by unfold prt at e ⊢; split_ifs at e ⊢ <;> simp_all]
    pointwise
end

section
variable (i : grid0.Coords) (x : Vec Ideal S256x2048 .f32) (g : Vec Ideal S1x2048 .f32) (mo : Vec Ideal S2x6x2048 .f32) (a : Fin 256) (b : Fin 2048)
theorem hpay_at : (k0_pay1 i x g mo (ix2 a b) : EReal) = hRow (rowA x a) (rowA g 0) (rowM mo (prt (i 0).val) 4) (rowM mo (prt (i 0).val) 3) b := by
  unfold k0_pay1
  simp only [sel _ (i 0).isLt]
  split_ifs with e
  · rw [e]
    pointwise
    rfl
  · rw [show prt (i 0).val = 0 by unfold prt at e ⊢; split_ifs at e ⊢ <;> simp_all]
    pointwise
    rfl
end

section
variable (x e d : Vec Ideal S256x2048 .f32) (u w : FVec Ideal S256x2048 .f32) (g : Vec Ideal S1x2048 .f32) (r : FVec Ideal S1x2048 .f32) (q : FVec Ideal S256x1 .f32)
  (z : FVec Ideal S256 .f32) (a : Fin 256) (b : Fin 2048)

theorem pay12_at : (k1_pay12 d (ix2 a b) : EReal) = d (ix2 a b) := by
  pointwise [k1_pay12]
theorem pay20_at (y : Fin 1) : (k1_pay20 u r w (ix2 y b) : EReal) = ∑ a : Fin 256, u (ix2 a b) * (w (ix2 a b) * r (ix2 0 b)) := by
  pointwise [k1_pay20, k1_pay18]
theorem pay22_at : (k1_pay22 g q r w (ix2 a b) : EReal) = w (ix2 a b) * r (ix2 0 b) * g (ix2 0 b) * q (ix2 a 0) := by
  pointwise [k1_pay22, k1_pay21, k1_pay18]
theorem pay23_at : (k1_pay23 x g q r w (ix1 a) : EReal)
    = Ideal.div ((∑ k : Fin 2048, x (ix2 a k) * (w (ix2 a k) * r (ix2 0 k) * g (ix2 0 k))) * q (ix2 a 0)) (Ideal.ofBits .f32 0x45000000#32) := by
  pointwise [k1_pay23, k1_pay21, k1_pay18]
  simp only [Fin.sum_univ_one]
theorem pay1_at : (k1_pay1 x u z e (ix2 a b) : EReal) = e (ix2 a b) + (u (ix2 a b) + x (ix2 a b) * z (ix1 a) + z (ix1 a) * x (ix2 a b)) := by
  pointwise [k1_pay1]
theorem pay2_at (j : S1x2048.Idx) (v : FVec Ideal S1x2048 .f32) (acc : Vec Ideal S1x2048 .f32) : (k1_pay2 v acc j : EReal) = acc j + v j := by
  idx_vars j
  pointwise [k1_pay2]
theorem pay3_at (j : S2x6x2048.Idx) (v : FVec Ideal S2x6x2048 .f32) (acc : Vec Ideal S2x6x2048 .f32) : (k1_pay3 v acc j : EReal) = acc j + v j := by
  idx_vars j
  pointwise [k1_pay3]
theorem pay4_at (j : S1x2048.Idx) : ((k1_pay4 : FVec Ideal S1x2048 .f32) j : EReal) = 0 := by
  idx_vars j
  pointwise [k1_pay4]
theorem pay5_at (j : S2x6x2048.Idx) : ((k1_pay5 : FVec Ideal S2x6x2048 .f32) j : EReal) = 0 := by
  idx_vars j
  pointwise [k1_pay5]
end

section
variable (i : grid1.Coords) (x d : Vec Ideal S256x2048 .f32) (u w : FVec Ideal S256x2048 .f32)

/-- A block's share of the gradient of the modulation. -/
theorem pay19_at (s : Fin 2) (k : Fin 6) (b : Fin 2048) :
    (k1_pay19 (Scalar.cmpi .sge (BitVec.ofNat 32 (i 0).val) 16#32) u w (k1_pay15 i d) (k1_pay16 i d) (FloatOps.ofBits .f32 0x00000000#32) k1_pay17 (ix3 s k b) : EReal)
      = if prt (i 0).val = s then (if k = 3 then ∑ a : Fin 256, d (ix2 a b) else if k = 4 then ∑ a : Fin 256, u (ix2 a b) * w (ix2 a b) else 0) else 0 := by
  unfold k1_pay19 k1_pay15 k1_pay16
  have c := sel (α := EReal) _ (i 0).isLt
  have e : prt (i 0).val = 0 ∨ prt (i 0).val = 1 := by unfold prt; split_ifs <;> simp
  generalize prt (i 0).val = p at c e ⊢
  fin_cases s <;> fin_cases k
  all_goals pointwise [k1_pay13, k1_pay14, k1_pay17]
  all_goals try rw [c]
  all_goals rcases e with rfl | rfl <;> simp
end

section
variable (i : grid1.Coords) (x d e : Vec Ideal S256x2048 .f32) (g : Vec Ideal S1x2048 .f32) (mo : Vec Ideal S2x6x2048 .f32)

/-- A block of the rows' gradient, -/
theorem bdx_at (a : Fin 256) (b : Fin 2048) :
    (k1_pay1 x (k1_pay22 g (k1_pay7 x) (k1_pay11 i mo) (k1_pay12 d)) (k1_pay23 x g (k1_pay8 x) (k1_pay11 i mo) (k1_pay12 d)) e (ix2 a b) : EReal)
      = e (ix2 a b) + dRow (rowA x a) (rowA g 0) (rowM mo (prt (i 0).val) 4) (rowA d a) b := by
  rw [pay1_at, pay22_at, pay23_at]
  simp only [pay12_at, pay11_at, pay8_at, pay7_at]
  rfl
/-- of the weights' -/
theorem bdg_at (y : Fin 1) (b : Fin 2048) : (k1_pay20 (k1_pay9 x) (k1_pay11 i mo) (k1_pay12 d) (ix2 y b) : EReal)
    = ∑ a : Fin 256, x (ix2 a b) * rsq (rowA x a) * dSc (rowM mo (prt (i 0).val) 4) (rowA d a) b := by
  rw [pay20_at]
  simp only [pay12_at, pay11_at, pay9_at]
  rfl
/-- and of the modulation's. -/
theorem bdm_at (s : Fin 2) (k : Fin 6) (b : Fin 2048) :
    (k1_pay19 (Scalar.cmpi .sge (BitVec.ofNat 32 (i 0).val) 16#32) (k1_pay10 x g) (k1_pay12 d) (k1_pay15 i d) (k1_pay16 i d) (FloatOps.ofBits .f32 0x00000000#32) k1_pay17 (ix3 s k b) : EReal)
      = if prt (i 0).val = s then (∑ a : Fin 256, if k = 3 then d (ix2 a b) else if k = 4 then nrm (rowA x a) (rowA g 0) b * d (ix2 a b) else 0) else 0 := by
  rw [pay19_at]
  simp only [pay12_at, pay10_at]
  split_ifs <;> simp
end

end Cert.Nrm

end
-- ==== Proof.NormKer.lean ====
/-
  What the norm's two kernels leave in their result arrays, as functions of the arrays they find, and the run.
-/
module

public import proofs.«01_k».proof.Proof.NormPay

@[expose] public section

set_option maxRecDepth 16384

noncomputable section

namespace Cert.Nrm

open Cert.NormIdeal Cert.NormIdeal.Gen
open Idealize.ShloMosaic Idealize.ShloMosaic.TcCoe Idealize.ShloMosaic.Tactic Idealize.ShloMosaic.Rounds
open Idealize.SL Idealize.SL.RA Idealize.SL.BI Idealize.SL.ProofMode Idealize.SL.Sem
open scoped Idealize.SL.BI
open Idealize.SL.BI.BIBase Idealize.SL.BI.Laws
open Idealize.ShloMosaic.Pipeline (Dat Cfg Window BodyObligation cellOf)

/-- Row `a` of block `t`. -/
def rw_ (t : ℕ) (a : Fin 256) : Fin 4352 := ⟨t % 17 * 256 + a.val, by omega⟩

theorem seg_row (t : ℕ) (a : Fin 256) : seg (rw_ t a).val = prt (t % 17) := by
  show (if 4096 ≤ t % 17 * 256 + a.val then (1 : Fin 2) else 0) = if 16 ≤ t % 17 then 1 else 0
  have : 4096 ≤ t % 17 * 256 + a.val ↔ 16 ≤ t % 17 := by omega
  simp only [this]

section arrays
variable (V : (c : Dev nD) → (b : Ref sig .tc) → Buf (Elt Ideal) ((c : Thread nD τ).loc b)) (c : Dev nD)

/-! ## The forward kernel -/

theorem idx0 : ∀ t : Fin cfg0.N, win0_0.index t = ![t.val % 17, 0] ∧ win0_1.index t = ![0, 0] ∧ win0_2.index t = ![0, 0, 0] ∧ win0_3.index t = ![t.val % 17, 0]
    ∧ (grid0.coords t 0).val = t.val % 17 :=
  (by decide +kernel : ∀ t : Fin grid0.N, _)

theorem b0_0 (t : Fin cfg0.N) (a : Fin 256) (b : Fin 2048) : (show Vec Ideal S256x2048 .f32 from iblk0 V c 0 t) (ix2 a b)
    = (show S4352x2048.Idx → EReal from V c main_arg0) (ix2 (rw_ t.val a) b) := by
  unfold rw_
  blk_ext [iblk0, idx0 t]
theorem b0_1 (t : Fin cfg0.N) (y : Fin 1) (b : Fin 2048) : (show Vec Ideal S1x2048 .f32 from iblk0 V c 1 t) (ix2 y b)
    = (show S1x2048.Idx → EReal from V c main_arg1) (ix2 y b) := by
  blk_ext [iblk0, idx0 t]
theorem b0_2 (t : Fin cfg0.N) (s : Fin 2) (k : Fin 6) (b : Fin 2048) : (show Vec Ideal S2x6x2048 .f32 from iblk0 V c 2 t) (ix3 s k b)
    = (show S2x6x2048.Idx → EReal from V c main_arg2) (ix3 s k b) := by
  blk_ext [iblk0, idx0 t]
theorem emb0_3 (t : Fin cfg0.N) (a : Fin 256) (b : Fin 2048) : ((win0_3.blk t).view.emb (ix2 a b) : S4352x2048.Idx) = ix2 (rw_ t.val a) b := by
  unfold rw_
  blk_ext [idx0 t]

/-- The result. -/
theorem h_final : (dat0 V c).arrAt 3 cfg0.N = hF (V c main_arg0) (V c main_arg1) (V c main_arg2) := by
  refine (dat0 V c).arrAt_eq_of_covers 3 _ (by decide +kernel) fun t hf y => ?_
  blk_simp
  rw [after0_3]
  frame_out
  idx_vars y
  refine Eq.trans ?_ (congrArg (hF (V c main_arg0) (V c main_arg1) (V c main_arg2)) (emb0_3 t y0 y1).symm)
  refine (hpay_at _ _ _ _ _ _).trans ?_
  show _ = hRow (rowA (V c main_arg0) (rw_ t.val y0)) (rowA (V c main_arg1) 0) (rowM (V c main_arg2) (seg (rw_ t.val y0).val) 4) (rowM (V c main_arg2) (seg (rw_ t.val y0).val) 3) y1
  have h2 : ∀ p k, rowM (iblk0 V c 2 t) p k = rowM (V c main_arg2) p k := fun p k => funext fun b => b0_2 V c t p k b
  rw [seg_row, (idx0 t).2.2.2.2, show rowA (iblk0 V c 0 t) y0 = rowA (V c main_arg0) (rw_ t.val y0) from funext fun k => b0_0 V c t y0 k,
    show rowA (iblk0 V c 1 t) 0 = rowA (V c main_arg1) 0 from funext fun k => b0_1 V c t 0 k,
    h2 _ 4, h2 _ 3]

/-! ## The backward kernel -/

theorem idx1 : ∀ t : Fin cfg1.N, win1_0.index t = ![t.val % 17, 0] ∧ win1_1.index t = ![0, 0] ∧ win1_2.index t = ![0, 0, 0] ∧ win1_3.index t = ![t.val % 17, 0]
    ∧ win1_4.index t = ![t.val % 17, 0] ∧ win1_5.index t = ![t.val % 17, 0] ∧ win1_6.index t = ![0, 0] ∧ win1_7.index t = ![0, 0, 0]
    ∧ (grid1.coords t 0).val = t.val % 17 :=
  (by decide +kernel : ∀ t : Fin grid1.N, _)

theorem co (t : Fin cfg1.N) : (grid1.coords t 0).val = t.val % 17 := (idx1 t).2.2.2.2.2.2.2.2

theorem b1_0 (t : Fin cfg1.N) (a : Fin 256) (b : Fin 2048) : (show Vec Ideal S256x2048 .f32 from iblk1 V c 0 t) (ix2 a b)
    = (show S4352x2048.Idx → EReal from V c main_arg0) (ix2 (rw_ t.val a) b) := by
  unfold rw_
  blk_ext [iblk1, idx1 t]
theorem b1_1 (t : Fin cfg1.N) (y : Fin 1) (b : Fin 2048) : (show Vec Ideal S1x2048 .f32 from iblk1 V c 1 t) (ix2 y b)
    = (show S1x2048.Idx → EReal from V c main_arg1) (ix2 y b) := by
  blk_ext [iblk1, idx1 t]
theorem b1_2 (t : Fin cfg1.N) (s : Fin 2) (k : Fin 6) (b : Fin 2048) : (show Vec Ideal S2x6x2048 .f32 from iblk1 V c 2 t) (ix3 s k b)
    = (show S2x6x2048.Idx → EReal from V c main_arg2) (ix3 s k b) := by
  blk_ext [iblk1, idx1 t]
theorem b1_3 (t : Fin cfg1.N) (a : Fin 256) (b : Fin 2048) : (show Vec Ideal S256x2048 .f32 from iblk1 V c 3 t) (ix2 a b)
    = (show S4352x2048.Idx → EReal from V c main_arg3) (ix2 (rw_ t.val a) b) := by
  unfold rw_
  blk_ext [iblk1, idx1 t]
theorem b1_4 (t : Fin cfg1.N) (a : Fin 256) (b : Fin 2048) : (show Vec Ideal S256x2048 .f32 from iblk1 V c 4 t) (ix2 a b)
    = (show S4352x2048.Idx → EReal from V c main_arg4) (ix2 (rw_ t.val a) b) := by
  unfold rw_
  blk_ext [iblk1, idx1 t]
theorem emb1_5 (t : Fin cfg1.N) (a : Fin 256) (b : Fin 2048) : ((win1_5.blk t).view.emb (ix2 a b) : S4352x2048.Idx) = ix2 (rw_ t.val a) b := by
  unfold rw_
  blk_ext [idx1 t]
theorem emb1_6 (t : Fin cfg1.N) (y : Fin 1) (b : Fin 2048) : ((win1_6.blk t).view.emb (ix2 y b) : S1x2048.Idx) = ix2 y b := by
  blk_ext [idx1 t]
theorem emb1_7 (t : Fin cfg1.N) (s : Fin 2) (k : Fin 6) (b : Fin 2048) : ((win1_7.blk t).view.emb (ix3 s k b) : S2x6x2048.Idx) = ix3 s k b := by
  blk_ext [idx1 t]

theorem r0 (t : Fin cfg1.N) (a : Fin 256) : rowA (iblk1 V c 0 t) a = rowA (V c main_arg0) (rw_ t.val a) := funext fun k => b1_0 V c t a k
theorem r1 (t : Fin cfg1.N) : rowA (iblk1 V c 1 t) 0 = rowA (V c main_arg1) 0 := funext fun k => b1_1 V c t 0 k
theorem r2 (t : Fin cfg1.N) (p : Fin 2) (k : Fin 6) : rowM (iblk1 V c 2 t) p k = rowM (V c main_arg2) p k := funext fun b => b1_2 V c t p k b
theorem r3 (t : Fin cfg1.N) (a : Fin 256) : rowA (iblk1 V c 3 t) a = rowA (V c main_arg3) (rw_ t.val a) := funext fun k => b1_3 V c t a k

/-- A block of the rows' gradient, whichever point. -/
theorem dx_point (t : Fin cfg1.N) (a : Fin 256) (b : Fin 2048) : ((outsAt1 V c t.val t.isLt).1 (ix2 a b) : EReal)
    = dxF (V c main_arg0) (V c main_arg1) (V c main_arg2) (V c main_arg3) (V c main_arg4) (ix2 (rw_ t.val a) b) := by
  have e : ((outsAt1 V c t.val t.isLt).1 (ix2 a b) : EReal)
      = k1_pay1 (iblk1 V c 0 t) (k1_pay22 (iblk1 V c 1 t) (k1_pay7 (iblk1 V c 0 t)) (k1_pay11 (grid1.coords t) (iblk1 V c 2 t)) (k1_pay12 (iblk1 V c 3 t)))
        (k1_pay23 (iblk1 V c 0 t) (iblk1 V c 1 t) (k1_pay8 (iblk1 V c 0 t)) (k1_pay11 (grid1.coords t) (iblk1 V c 2 t)) (k1_pay12 (iblk1 V c 3 t))) (iblk1 V c 4 t) (ix2 a b) := by
    by_cases h : t.val % 17 = 0
    · rw [outsAt1_A V c t h]
      frame_out
    · rw [outsAt1_B V c t h]
      frame_out
  rw [e, bdx_at, co]
  show _ = (show S4352x2048.Idx → EReal from V c main_arg4) (ix2 (rw_ t.val a) b) + dRow (rowA (V c main_arg0) (rw_ t.val a)) (rowA (V c main_arg1) 0) (rowM (V c main_arg2) (seg (rw_ t.val a).val) 4) (rowA (V c main_arg3) (rw_ t.val a)) b
  rw [seg_row, r0, r1, r2, r3]
  exact congrArg (· + _) (b1_4 V c t a b)

/-- The rows' gradient. -/
theorem dx_final : (dat1 V c).arrAt 5 cfg1.N = dxF (V c main_arg0) (V c main_arg1) (V c main_arg2) (V c main_arg3) (V c main_arg4) := by
  refine (dat1 V c).arrAt_eq_of_covers 5 _ (by decide +kernel) fun t hf y => ?_
  blk_simp
  rw [after1_5]
  idx_vars y
  refine Eq.trans ?_ (congrArg (dxF (V c main_arg0) (V c main_arg1) (V c main_arg2) (V c main_arg3) (V c main_arg4)) (emb1_5 t y0 y1).symm)
  exact dx_point V c t y0 y1

/-- One point's share of the weights' gradient, -/
def dgT (t : Fin cfg1.N) : S1x2048.Idx → EReal := fun j => ∑ a : Fin 256, gT (V c main_arg0) (V c main_arg2) (V c main_arg3) (rw_ t.val a) (j 1)
/-- and of the modulation's. -/
def dmT (t : Fin cfg1.N) : S2x6x2048.Idx → EReal := fun j =>
  ∑ a : Fin 256, if (seg (rw_ t.val a).val).val = (j 0).val then mT (V c main_arg0) (V c main_arg1) (V c main_arg3) (j 1) (rw_ t.val a) (j 2) else 0

theorem dg_share (t : Fin cfg1.N) (j : S1x2048.Idx) :
    (k1_pay20 (k1_pay9 (iblk1 V c 0 t)) (k1_pay11 (grid1.coords t) (iblk1 V c 2 t)) (k1_pay12 (iblk1 V c 3 t)) j : EReal) = dgT V c t j := by
  idx_vars j
  rw [bdg_at, co]
  refine Finset.sum_congr rfl fun a _ => ?_
  show _ = (show S4352x2048.Idx → EReal from V c main_arg0) (ix2 (rw_ t.val a) j1) * rsq (rowA (V c main_arg0) (rw_ t.val a)) * dSc (rowM (V c main_arg2) (seg (rw_ t.val a).val) 4) (rowA (V c main_arg3) (rw_ t.val a)) j1
  rw [seg_row, r0, r2, r3]
  exact congrArg (· * _ * _) (b1_0 V c t a j1)
theorem dm_share (t : Fin cfg1.N) (j : S2x6x2048.Idx) :
    (k1_pay19 (Scalar.cmpi .sge (BitVec.ofNat 32 (grid1.coords t 0).val) 16#32) (k1_pay10 (iblk1 V c 0 t) (iblk1 V c 1 t)) (k1_pay12 (iblk1 V c 3 t)) (k1_pay15 (grid1.coords t) (iblk1 V c 3 t)) (k1_pay16 (grid1.coords t) (iblk1 V c 3 t)) (FloatOps.ofBits .f32 0x00000000#32) k1_pay17 j : EReal)
      = dmT V c t j := by
  idx_vars j
  rw [bdm_at, co, dmT]
  simp only [seg_row, r0, r1]
  by_cases e : prt (t.val % 17) = j0
  · rw [if_pos e]
    refine Finset.sum_congr rfl fun a _ => ?_
    refine Eq.trans ?_ (if_pos (congrArg Fin.val e)).symm
    have h := b1_3 V c t a j2
    show (if j1 = 3 then _ else if j1 = 4 then _ else _) = if j1 = 3 then _ else if j1 = 4 then _ else _
    split_ifs
    · exact h
    · exact congrArg (nrm _ _ _ * ·) h
    · rfl
  · rw [if_neg e]
    exact (Finset.sum_eq_zero fun a _ => if_neg fun h => e (Fin.ext h)).symm

theorem dg_reset (t : Fin cfg1.N) (h : t.val % 17 = 0) (j : S1x2048.Idx) : ((outsAt1 V c t.val t.isLt).2.1 j : EReal) = 0 + dgT V c t j := by
  rw [← dg_share V c t j, ← pay4_at j, ← pay2_at, outsAt1_A V c t h]
  frame_out
theorem dg_step (t : Fin cfg1.N) (h : ¬t.val % 17 = 0) (j : S1x2048.Idx) :
    ((outsAt1 V c t.val t.isLt).2.1 j : EReal) = (outsAt1 V c (t.val - 1) (Nat.lt_of_le_of_lt (Nat.sub_le _ _) t.isLt)).2.1 j + dgT V c t j := by
  rw [← dg_share V c t j, ← pay2_at, outsAt1_B V c t h]
  frame_out
theorem dm_reset (t : Fin cfg1.N) (h : t.val % 17 = 0) (j : S2x6x2048.Idx) : ((outsAt1 V c t.val t.isLt).2.2 j : EReal) = 0 + dmT V c t j := by
  rw [← dm_share V c t j, ← pay5_at j, ← pay3_at, outsAt1_A V c t h]
  frame_out
theorem dm_step (t : Fin cfg1.N) (h : ¬t.val % 17 = 0) (j : S2x6x2048.Idx) :
    ((outsAt1 V c t.val t.isLt).2.2 j : EReal) = (outsAt1 V c (t.val - 1) (Nat.lt_of_le_of_lt (Nat.sub_le _ _) t.isLt)).2.2 j + dmT V c t j := by
  rw [← dm_share V c t j, ← pay3_at, outsAt1_B V c t h]
  frame_out

theorem rw_run (t : Fin cfg1.N) (s : Fin 17) (a : Fin 256) (h) : rw_ (17 * (t.val / 17) + s.val) a = ⟨s.val * 256 + a.val, h⟩ := by
  apply Fin.ext
  have := s.isLt
  show (17 * (t.val / 17) + s.val) % 17 * 256 + a.val = s.val * 256 + a.val
  rw [show (17 * (t.val / 17) + s.val) % 17 = s.val by omega]

/-- The weights' gradient. -/
theorem dg_final : (dat1 V c).arrAt 6 cfg1.N = dgF (V c main_arg0) (V c main_arg2) (V c main_arg3) := by
  refine (dat1 V c).arrAt_eq_of_covers 6 _ (by decide +kernel) fun t hf y => ?_
  blk_simp
  rw [after1_6]
  rw [Pipeline.eq_sum_fin_of_reset_step_apply_of_flush (fun n h => (outsAt1 V c n h).2.1) 17 (fun _ => 0) (dgT V c)
    (dg_reset V c) (dg_step V c) t ((flush1_6 t).mp hf) _, zero_add]
  idx_vars y
  refine Eq.trans ?_ (congrArg (dgF (V c main_arg0) (V c main_arg2) (V c main_arg3)) (emb1_6 t y0 y1).symm)
  unfold dgF dgT
  refine Fin.sum_mul_add_congr fun s k hk => ?_
  exact congrArg (gT (V c main_arg0) (V c main_arg2) (V c main_arg3) · y1) (rw_run t s k hk)
/-- The modulation's gradient. -/
theorem dm_final : (dat1 V c).arrAt 7 cfg1.N = dmF (V c main_arg0) (V c main_arg1) (V c main_arg3) := by
  refine (dat1 V c).arrAt_eq_of_covers 7 _ (by decide +kernel) fun t hf y => ?_
  blk_simp
  rw [after1_7]
  rw [Pipeline.eq_sum_fin_of_reset_step_apply_of_flush (fun n h => (outsAt1 V c n h).2.2) 17 (fun _ => 0) (dmT V c)
    (dm_reset V c) (dm_step V c) t ((flush1_7 t).mp hf) _, zero_add]
  idx_vars y
  refine Eq.trans ?_ (congrArg (dmF (V c main_arg0) (V c main_arg1) (V c main_arg3)) (emb1_7 t y0 y1 y2).symm)
  unfold dmF dmT
  refine Fin.sum_mul_add_congr fun s k hk => ?_
  exact congrArg (fun r : Fin 4352 => if (seg r.val).val = y0.val then mT (V c main_arg0) (V c main_arg1) (V c main_arg3) y1 r y2 else 0) (rw_run t s k hk)

end arrays

/-! ## The run -/

section run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of `main` ends, and leaves the four results at what the regions' write-backs leave and the arguments as
    launched. -/
theorem run_dat : θ_run defs (onTc (τ := τ) (main (F := F))) ⟨m, fun _ => 0, ρ⟩ (fun r => ∀ c : Dev nD,
      r.2.mem ((c.tc : Thread nD τ).loc main_v0) = (dat0 (V0 m ρ) c).arrAt 3 cfg0.N
      ∧ r.2.mem ((c.tc : Thread nD τ).loc main_v1_0) = (dat1 (V1 m ρ) c).arrAt 5 cfg1.N
      ∧ r.2.mem ((c.tc : Thread nD τ).loc main_v1_1) = (dat1 (V1 m ρ) c).arrAt 6 cfg1.N
      ∧ r.2.mem ((c.tc : Thread nD τ).loc main_v1_2) = (dat1 (V1 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v0 (by decide))).trans ((W2_of m ρ c main_v0 (by decide)).trans (W1_arr m ρ c 3)),
       (h c _ (mem_uc main_v1_0 (by decide))).trans (W2_arr m ρ c 5),
       (h c _ (mem_uc main_v1_1 (by decide))).trans (W2_arr m ρ c 6),
       (h c _ (mem_uc main_v1_2 (by decide))).trans (W2_arr m ρ c 7),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

end run

section values

variable (m : (ℓ : Loc nD τ sig) → Buf (Elt Ideal) ℓ) (ρ : Dev nD → PrngReg) (c : Dev nD)

/-- An argument as launched. -/
abbrev ar (b : Ref sig .tc) : Buf (Elt Ideal) ((c : Thread nD τ).loc b) := m ((c : Thread nD τ).loc b)

theorem a0 : V1 m ρ c main_arg0 = ar m c main_arg0 := W1_of m ρ c main_arg0 (by decide)
theorem a1 : V1 m ρ c main_arg1 = ar m c main_arg1 := W1_of m ρ c main_arg1 (by decide)
theorem a2 : V1 m ρ c main_arg2 = ar m c main_arg2 := W1_of m ρ c main_arg2 (by decide)
theorem a3 : V1 m ρ c main_arg3 = ar m c main_arg3 := W1_of m ρ c main_arg3 (by decide)
theorem a4 : V1 m ρ c main_arg4 = ar m c main_arg4 := W1_of m ρ c main_arg4 (by decide)

theorem res0 : (dat0 (V0 m ρ) c).arrAt 3 cfg0.N = hF (ar m c main_arg0) (ar m c main_arg1) (ar m c main_arg2) := h_final (V0 m ρ) c
theorem res1 : (dat1 (V1 m ρ) c).arrAt 5 cfg1.N = dxF (ar m c main_arg0) (ar m c main_arg1) (ar m c main_arg2) (ar m c main_arg3) (ar m c main_arg4) :=
  (dx_final (V1 m ρ) c).trans (by rw [a0, a1, a2, a3, a4])
theorem res2 : (dat1 (V1 m ρ) c).arrAt 6 cfg1.N = dgF (ar m c main_arg0) (ar m c main_arg2) (ar m c main_arg3) :=
  (dg_final (V1 m ρ) c).trans (by rw [a0, a2, a3])
theorem res3 : (dat1 (V1 m ρ) c).arrAt 7 cfg1.N = dmF (ar m c main_arg0) (ar m c main_arg1) (ar m c main_arg3) :=
  (dm_final (V1 m ρ) c).trans (by rw [a0, a1, a3])

end values

end Cert.Nrm

end
-- ==== Proof.NormRef.lean ====
/-
  The reference program's results: the norm with modulation and its gradients.
-/
module

public import Idealize.ShloMosaic.Lib.KernelVsHost
public import proofs.«01_k».proof.Proof.NormSpec
public import proofs.«01_k».proof.Proof.Gen.NormRefIdeal.Read

@[expose] public section

set_option maxRecDepth 16384

noncomputable section

namespace Cert.Nrm

open Idealize.ShloMosaic Idealize.ShloMosaic.TcCoe Cert.NormRefIdeal Cert.NormRefIdeal.Read
open Cert.Mla (latE ctxE row_cases sum_rows)

variable (x0 : S4352x2048.Idx → EReal) (x1 : S1x2048.Idx → EReal) (x2 : S2x6x2048.Idx → EReal) (x3 x4 : S4352x2048.Idx → EReal)

theorem seg_lat (i : Fin 4096) : seg (latE i).val = 0 := if_neg (Nat.not_le.mpr i.isLt)
theorem seg_ctx (i : Fin 256) : seg (ctxE i).val = 1 := if_pos (Nat.le_add_right _ _)

/-! ## The latent rows -/

theorem l_ms (i : Fin 4096) (y : Fin 1) : (val_main_v9 (F := Ideal) x0 (ix2 i y) : EReal) = msq (rowA x0 (latE i)) := by
  pointwise [val_main_v9, val_main_v7, val_main_v5, val_main_v4, val_main_v3, val_main_v0, val_main_v6, val_main_v8, val_main_cst, val_main_cst_0, val_main_cst_1]
  rfl
theorem l_rs (i : Fin 4096) (y : Fin 1) : (val_main_v10 (F := Ideal) x0 (ix2 i y) : EReal) = rsq (rowA x0 (latE i)) := by
  have e := l_ms x0 i
  unfold val_main_v10
  generalize val_main_v9 (F := Ideal) x0 = z at e ⊢
  pointwise
  rw [e]
  rfl
theorem l_dr (i : Fin 4096) (y : Fin 1) : (val_main_v13 (F := Ideal) x0 (ix2 i y) : EReal)
    = Ideal.ofBits .f32 0xBF000000#32 * Ideal.div (rsq (rowA x0 (latE i))) (msq (rowA x0 (latE i))) := by
  have e := l_ms x0 i
  have e' := l_rs x0 i
  unfold val_main_v13 val_main_v11
  generalize val_main_v9 (F := Ideal) x0 = z at e ⊢
  generalize val_main_v10 (F := Ideal) x0 = w at e' ⊢
  pointwise [val_main_v12, val_main_cst_2]
  rw [e, e']
theorem l_xr (i : Fin 4096) (b : Fin 2048) : (val_main_v15 (F := Ideal) x0 (ix2 i b) : EReal) = x0 (ix2 (latE i) b) * rsq (rowA x0 (latE i)) := by
  have e := l_rs x0 i
  unfold val_main_v15 val_main_v14
  generalize val_main_v10 (F := Ideal) x0 = z at e ⊢
  pointwise [val_main_v0]
  rw [e]
  rfl
theorem l_nm (i : Fin 4096) (b : Fin 2048) : (val_main_v17 (F := Ideal) x0 x1 (ix2 i b) : EReal) = nrm (rowA x0 (latE i)) (rowA x1 0) b := by
  have e := l_xr x0 i b
  unfold val_main_v17
  generalize val_main_v15 (F := Ideal) x0 = z at e ⊢
  pointwise [val_main_v16]
  rw [e]
  rfl
theorem l_sc (y : Fin 1) (b : Fin 2048) : (val_main_v22 (F := Ideal) x2 (ix2 y b) : EReal) = 1 + rowM x2 0 4 b := by
  pointwise [val_main_v22, val_main_v21, val_main_v20, val_main_v19, val_main_v18, val_main_v2, val_main_v1, val_main_cst_3]
theorem l_h (i : Fin 4096) (b : Fin 2048) : (val_main_v29 (F := Ideal) x0 x1 x2 (ix2 i b) : EReal) = hRow (rowA x0 (latE i)) (rowA x1 0) (rowM x2 0 4) (rowM x2 0 3) b := by
  have e := l_nm x0 x1 i b
  have e' := l_sc x2 0 b
  unfold val_main_v29 val_main_v24 val_main_v23
  generalize val_main_v17 (F := Ideal) x0 x1 = z at e ⊢
  generalize val_main_v22 (F := Ideal) x2 = w at e' ⊢
  pointwise [val_main_v28, val_main_v27, val_main_v26, val_main_v25, val_main_v2, val_main_v1]
  rw [e, e']
  rfl
theorem l_ds (i : Fin 4096) (b : Fin 2048) : (val_main_v108 (F := Ideal) x2 x3 (ix2 i b) : EReal) = dSc (rowM x2 0 4) (rowA x3 (latE i)) b := by
  have e := l_sc x2 0 b
  unfold val_main_v108 val_main_v107
  generalize val_main_v22 (F := Ideal) x2 = w at e ⊢
  pointwise [val_main_v61]
  rw [e]
  rfl
theorem l_dn (i : Fin 4096) (b : Fin 2048) : (val_main_v118 (F := Ideal) x1 x2 x3 (ix2 i b) : EReal) = dSc (rowM x2 0 4) (rowA x3 (latE i)) b * rowA x1 0 b := by
  have e := l_ds x2 x3 i b
  unfold val_main_v118
  generalize val_main_v108 (F := Ideal) x2 x3 = w at e ⊢
  pointwise [val_main_v117]
  rw [e]
theorem l_rt (i : Fin 4096) : (val_main_v127 (F := Ideal) x0 x1 x2 x3 (ix1 i) : EReal) = dRt (rowA x0 (latE i)) (rowA x1 0) (rowM x2 0 4) (rowA x3 (latE i)) := by
  have e := l_dn x1 x2 x3 i
  have e' := l_dr x0 i
  unfold val_main_v127 val_main_v126 val_main_v124 val_main_v121 val_main_v120 val_main_v119
  generalize val_main_v118 (F := Ideal) x1 x2 x3 = z at e ⊢
  generalize val_main_v13 (F := Ideal) x0 = w at e' ⊢
  pointwise [val_main_v0, val_main_v125, val_main_cst_28, val_main_cst_29, val_main_cst_30]
  simp only [Fin.sum_univ_one, e, e']
  rfl
theorem l_dx (i : Fin 4096) (b : Fin 2048) : (val_main_v132 (F := Ideal) x0 x1 x2 x3 (ix2 i b) : EReal) = dRow (rowA x0 (latE i)) (rowA x1 0) (rowM x2 0 4) (rowA x3 (latE i)) b := by
  have e := l_dn x1 x2 x3 i b
  have e' := l_rs x0 i
  have e'' := l_rt x0 x1 x2 x3 i
  unfold val_main_v132 val_main_v131 val_main_v130 val_main_v129 val_main_v128 val_main_v123 val_main_v122
  generalize val_main_v118 (F := Ideal) x1 x2 x3 = z at e ⊢
  generalize val_main_v10 (F := Ideal) x0 = w at e' ⊢
  generalize val_main_v127 (F := Ideal) x0 x1 x2 x3 = u at e'' ⊢
  pointwise [val_main_v0]
  rw [e, e', e'']
  rfl
theorem l_dg (y : Fin 1) (b : Fin 2048) : (val_main_v115 (F := Ideal) x0 x2 x3 (ix2 y b) : EReal) = ∑ i : Fin 4096, gT x0 x2 x3 (latE i) b := by
  have e := fun i => l_ds x2 x3 i b
  have e' := fun i => l_xr x0 i b
  unfold val_main_v115 val_main_v114 val_main_v113
  generalize val_main_v108 (F := Ideal) x2 x3 = z at e ⊢
  generalize val_main_v15 (F := Ideal) x0 = w at e' ⊢
  pointwise [val_main_cst_27]
  simp only [e, e', gT, seg_lat]
theorem l_dm (k : Fin 6) (b : Fin 2048) : (val_main_v112 (F := Ideal) x0 x1 x3 (ix2 k b) : EReal) = ∑ i : Fin 4096, mT x0 x1 x3 k (latE i) b := by
  have e := fun i => l_nm x0 x1 i b
  unfold val_main_v112 val_main_v111 val_main_v110 val_main_v109 val_main_v106 val_main_v105 val_main_v104 val_main_v103 val_main_v102 val_main_v101 val_main_v100 val_main_v99
  generalize val_main_v17 (F := Ideal) x0 x1 = z at e ⊢
  unfold mT
  fin_cases k
  all_goals pointwise [val_main_v61, val_main_cst_21, val_main_cst_22, val_main_cst_23, val_main_cst_24, val_main_cst_25, val_main_cst_26]
  all_goals simp only [Fin.sum_univ_one, e, Finset.sum_const_zero]
  all_goals rfl

/-! ## The context's rows -/

theorem c_ms (i : Fin 256) (y : Fin 1) : (val_main_v39 (F := Ideal) x0 (ix2 i y) : EReal) = msq (rowA x0 (ctxE i)) := by
  pointwise [val_main_v39, val_main_v37, val_main_v35, val_main_v34, val_main_v33, val_main_v30, val_main_v36, val_main_v38, val_main_cst_4, val_main_cst_5, val_main_cst_6]
  rfl
theorem c_rs (i : Fin 256) (y : Fin 1) : (val_main_v40 (F := Ideal) x0 (ix2 i y) : EReal) = rsq (rowA x0 (ctxE i)) := by
  have e := c_ms x0 i
  unfold val_main_v40
  generalize val_main_v39 (F := Ideal) x0 = z at e ⊢
  pointwise
  rw [e]
  rfl
theorem c_dr (i : Fin 256) (y : Fin 1) : (val_main_v43 (F := Ideal) x0 (ix2 i y) : EReal)
    = Ideal.ofBits .f32 0xBF000000#32 * Ideal.div (rsq (rowA x0 (ctxE i))) (msq (rowA x0 (ctxE i))) := by
  have e := c_ms x0 i
  have e' := c_rs x0 i
  unfold val_main_v43 val_main_v41
  generalize val_main_v39 (F := Ideal) x0 = z at e ⊢
  generalize val_main_v40 (F := Ideal) x0 = w at e' ⊢
  pointwise [val_main_v42, val_main_cst_7]
  rw [e, e']
theorem c_xr (i : Fin 256) (b : Fin 2048) : (val_main_v45 (F := Ideal) x0 (ix2 i b) : EReal) = x0 (ix2 (ctxE i) b) * rsq (rowA x0 (ctxE i)) := by
  have e := c_rs x0 i
  unfold val_main_v45 val_main_v44
  generalize val_main_v40 (F := Ideal) x0 = z at e ⊢
  pointwise [val_main_v30]
  rw [e]
  rfl
theorem c_nm (i : Fin 256) (b : Fin 2048) : (val_main_v47 (F := Ideal) x0 x1 (ix2 i b) : EReal) = nrm (rowA x0 (ctxE i)) (rowA x1 0) b := by
  have e := c_xr x0 i b
  unfold val_main_v47
  generalize val_main_v45 (F := Ideal) x0 = z at e ⊢
  pointwise [val_main_v46]
  rw [e]
  rfl
theorem c_sc (y : Fin 1) (b : Fin 2048) : (val_main_v52 (F := Ideal) x2 (ix2 y b) : EReal) = 1 + rowM x2 1 4 b := by
  pointwise [val_main_v52, val_main_v51, val_main_v50, val_main_v49, val_main_v48, val_main_v32, val_main_v31, val_main_cst_8]
theorem c_h (i : Fin 256) (b : Fin 2048) : (val_main_v59 (F := Ideal) x0 x1 x2 (ix2 i b) : EReal) = hRow (rowA x0 (ctxE i)) (rowA x1 0) (rowM x2 1 4) (rowM x2 1 3) b := by
  have e := c_nm x0 x1 i b
  have e' := c_sc x2 0 b
  unfold val_main_v59 val_main_v54 val_main_v53
  generalize val_main_v47 (F := Ideal) x0 x1 = z at e ⊢
  generalize val_main_v52 (F := Ideal) x2 = w at e' ⊢
  pointwise [val_main_v58, val_main_v57, val_main_v56, val_main_v55, val_main_v32, val_main_v31]
  rw [e, e']
  rfl
theorem c_ds (i : Fin 256) (b : Fin 2048) : (val_main_v72 (F := Ideal) x2 x3 (ix2 i b) : EReal) = dSc (rowM x2 1 4) (rowA x3 (ctxE i)) b := by
  have e := c_sc x2 0 b
  unfold val_main_v72 val_main_v71
  generalize val_main_v52 (F := Ideal) x2 = w at e ⊢
  pointwise [val_main_v62]
  rw [e]
  rfl
theorem c_dn (i : Fin 256) (b : Fin 2048) : (val_main_v81 (F := Ideal) x1 x2 x3 (ix2 i b) : EReal) = dSc (rowM x2 1 4) (rowA x3 (ctxE i)) b * rowA x1 0 b := by
  have e := c_ds x2 x3 i b
  unfold val_main_v81
  generalize val_main_v72 (F := Ideal) x2 x3 = w at e ⊢
  pointwise [val_main_v80]
  rw [e]
theorem c_rt (i : Fin 256) : (val_main_v90 (F := Ideal) x0 x1 x2 x3 (ix1 i) : EReal) = dRt (rowA x0 (ctxE i)) (rowA x1 0) (rowM x2 1 4) (rowA x3 (ctxE i)) := by
  have e := c_dn x1 x2 x3 i
  have e' := c_dr x0 i
  unfold val_main_v90 val_main_v89 val_main_v87 val_main_v84 val_main_v83 val_main_v82
  generalize val_main_v81 (F := Ideal) x1 x2 x3 = z at e ⊢
  generalize val_main_v43 (F := Ideal) x0 = w at e' ⊢
  pointwise [val_main_v30, val_main_v88, val_main_cst_16, val_main_cst_17, val_main_cst_18]
  simp only [Fin.sum_univ_one, e, e']
  rfl
theorem c_dx (i : Fin 256) (b : Fin 2048) : (val_main_v95 (F := Ideal) x0 x1 x2 x3 (ix2 i b) : EReal) = dRow (rowA x0 (ctxE i)) (rowA x1 0) (rowM x2 1 4) (rowA x3 (ctxE i)) b := by
  have e := c_dn x1 x2 x3 i b
  have e' := c_rs x0 i
  have e'' := c_rt x0 x1 x2 x3 i
  unfold val_main_v95 val_main_v94 val_main_v93 val_main_v92 val_main_v91 val_main_v86 val_main_v85
  generalize val_main_v81 (F := Ideal) x1 x2 x3 = z at e ⊢
  generalize val_main_v40 (F := Ideal) x0 = w at e' ⊢
  generalize val_main_v90 (F := Ideal) x0 x1 x2 x3 = u at e'' ⊢
  pointwise [val_main_v30]
  rw [e, e', e'']
  rfl
theorem c_dg (y : Fin 1) (b : Fin 2048) : (val_main_v79 (F := Ideal) x0 x2 x3 (ix2 y b) : EReal) = ∑ i : Fin 256, gT x0 x2 x3 (ctxE i) b := by
  have e := fun i => c_ds x2 x3 i b
  have e' := fun i => c_xr x0 i b
  unfold val_main_v79 val_main_v78 val_main_v77
  generalize val_main_v72 (F := Ideal) x2 x3 = z at e ⊢
  generalize val_main_v45 (F := Ideal) x0 = w at e' ⊢
  pointwise [val_main_cst_15]
  simp only [e, e', gT, seg_ctx]
theorem c_dm (k : Fin 6) (b : Fin 2048) : (val_main_v76 (F := Ideal) x0 x1 x3 (ix2 k b) : EReal) = ∑ i : Fin 256, mT x0 x1 x3 k (ctxE i) b := by
  have e := fun i => c_nm x0 x1 i b
  unfold val_main_v76 val_main_v75 val_main_v74 val_main_v73 val_main_v70 val_main_v69 val_main_v68 val_main_v67 val_main_v66 val_main_v65 val_main_v64 val_main_v63
  generalize val_main_v47 (F := Ideal) x0 x1 = z at e ⊢
  unfold mT
  fin_cases k
  all_goals pointwise [val_main_v62, val_main_cst_9, val_main_cst_10, val_main_cst_11, val_main_cst_12, val_main_cst_13, val_main_cst_14]
  all_goals simp only [Fin.sum_univ_one, e, Finset.sum_const_zero]
  all_goals rfl

/-! ## The parts laid one above the other -/

section pads
variable (v : S_.Idx → EReal)

theorem lo_lat (hv : ∀ i, v i = 0) (y : S256x2048.Idx → EReal) (hp : S256x2048.Pads ![4096, 0] ![0, 0] ![0, 0] S4352x2048) (hu : 0 < S_.numel) (i : Fin 4096) (b : Fin 2048) :
    pad S4352x2048 ![4096, 0] ![0, 0] ![0, 0] y v hp hu (ix2 (latE i) b) = 0 := by
  rw [pad_apply_of_not_inside _ _ _ _ _ hp hu _ (0 : Fin 2) (fun hh => by
    have := hh.1
    have e : ((ix2 (latE i) b : S4352x2048.Idx) ((0 : Fin 2).cast hp.1)).val = i.val := rfl
    rw [e] at this
    have := i.isLt
    simp at *
    omega), hv]
theorem lo_ctx (y : S256x2048.Idx → EReal) (hp : S256x2048.Pads ![4096, 0] ![0, 0] ![0, 0] S4352x2048) (hu : 0 < S_.numel) (i : Fin 256) (b : Fin 2048) :
    pad S4352x2048 ![4096, 0] ![0, 0] ![0, 0] y v hp hu (ix2 (ctxE i) b) = y (ix2 i b) := by
  refine pad_apply_of_inside _ _ _ _ _ hp hu _ _ fun a => ?_
  fin_cases a
  · show 4096 + i.val = 4096 + i.val * 1; omega
  · show b.val = 0 + b.val * 1; omega
theorem hi_lat (y : S4096x2048.Idx → EReal) (hp : S4096x2048.Pads ![0, 0] ![256, 0] ![0, 0] S4352x2048) (hu : 0 < S_.numel) (i : Fin 4096) (b : Fin 2048) :
    pad S4352x2048 ![0, 0] ![256, 0] ![0, 0] y v hp hu (ix2 (latE i) b) = y (ix2 i b) := by
  refine pad_apply_of_inside _ _ _ _ _ hp hu _ _ fun a => ?_
  fin_cases a
  · show i.val = 0 + i.val * 1; omega
  · show b.val = 0 + b.val * 1; omega
theorem hi_ctx (hv : ∀ i, v i = 0) (y : S4096x2048.Idx → EReal) (hp : S4096x2048.Pads ![0, 0] ![256, 0] ![0, 0] S4352x2048) (hu : 0 < S_.numel) (i : Fin 256) (b : Fin 2048) :
    pad S4352x2048 ![0, 0] ![256, 0] ![0, 0] y v hp hu (ix2 (ctxE i) b) = 0 := by
  rw [pad_apply_of_not_inside _ _ _ _ _ hp hu _ (0 : Fin 2) (fun hh => by
    have := hh.2.2
    have e : ((ix2 (ctxE i) b : S4352x2048.Idx) ((0 : Fin 2).cast hp.1)).val = 4096 + i.val := rfl
    rw [e] at this
    simp at *), hv]

end pads

theorem zero_20 (i : S_.Idx) : (val_main_cst_20 (F := Ideal) i : EReal) = 0 := by
  pointwise [val_main_cst_20]
theorem zero_32 (i : S_.Idx) : (val_main_cst_32 (F := Ideal) i : EReal) = 0 := by
  pointwise [val_main_cst_32]

/-! ## The results -/

theorem ref0 : val_main_v138 (F := Ideal) x0 x1 x2 = hF x0 x1 x2 := by
  funext j
  idx_vars j
  have e := fun i => l_h x0 x1 x2 i j1
  have e' := fun i => c_h x0 x1 x2 i j1
  unfold val_main_v138 val_main_v60
  generalize val_main_v29 (F := Ideal) x0 x1 x2 = z at e ⊢
  generalize val_main_v59 (F := Ideal) x0 x1 x2 = w at e' ⊢
  show _ = hRow (rowA x0 j0) (rowA x1 0) (rowM x2 (seg j0.val) 4) (rowM x2 (seg j0.val) 3) j1
  rcases row_cases j0 with ⟨i, rfl⟩ | ⟨i, rfl⟩
  · rw [seg_lat, ← e]
    have h : (latE i).val < 4096 := i.isLt
    pointwise
    rw [dif_pos h]
    rfl
  · rw [seg_ctx, ← e']
    have h : ¬(ctxE i).val < 4096 := Nat.not_lt.mpr (Nat.le_add_right _ _)
    pointwise
    rw [dif_neg h]
    exact congrArg (fun k : Fin 256 => w (ix2 k j1)) (Fin.ext (Nat.add_sub_cancel_left 4096 i.val))
theorem ref1 : val_main_v139 (F := Ideal) x0 x1 x2 x3 x4 = dxF x0 x1 x2 x3 x4 := by
  funext j
  idx_vars j
  have e := fun i => l_dx x0 x1 x2 x3 i j1
  have e' := fun i => c_dx x0 x1 x2 x3 i j1
  unfold val_main_v139 val_main_v137 val_main_v136 val_main_v98
  generalize val_main_v132 (F := Ideal) x0 x1 x2 x3 = z at e ⊢
  generalize val_main_v95 (F := Ideal) x0 x1 x2 x3 = w at e' ⊢
  show _ = x4 (ix2 j0 j1) + dRow (rowA x0 j0) (rowA x1 0) (rowM x2 (seg j0.val) 4) (rowA x3 j0) j1
  rcases row_cases j0 with ⟨i, rfl⟩ | ⟨i, rfl⟩
  · rw [seg_lat, ← e]
    refine congrArg (x4 (ix2 (latE i) j1) + ·) ((congrArg₂ (· + ·) (lo_lat _ zero_20 w _ _ i j1) (hi_lat _ z _ _ i j1)).trans (zero_add _))
  · rw [seg_ctx, ← e']
    refine congrArg (x4 (ix2 (ctxE i) j1) + ·) ((congrArg₂ (· + ·) (lo_ctx _ w _ _ i j1) (hi_ctx _ zero_32 z _ _ i j1)).trans (add_zero _))
theorem ref2 : val_main_v116 (F := Ideal) x0 x2 x3 = dgF x0 x2 x3 := by
  funext j
  idx_vars j
  show _ = ∑ i : Fin 4352, gT x0 x2 x3 i j1
  exact (congrArg₂ (· + ·) (c_dg x0 x2 x3 j0 j1) (l_dg x0 x2 x3 j0 j1)).trans ((add_comm _ _).trans (sum_rows (fun i => gT x0 x2 x3 i j1)).symm)
theorem ref3 : val_main_v135 (F := Ideal) x0 x1 x3 = dmF x0 x1 x3 := by
  funext j
  idx_vars j
  have e := l_dm x0 x1 x3 j1 j2
  have e' := c_dm x0 x1 x3 j1 j2
  unfold val_main_v135 val_main_v134 val_main_v133 val_main_v97 val_main_v96
  generalize val_main_v112 (F := Ideal) x0 x1 x3 = z at e ⊢
  generalize val_main_v76 (F := Ideal) x0 x1 x3 = w at e' ⊢
  refine Eq.trans ?_ (sum_rows _).symm
  simp only [seg_lat, seg_ctx]
  fin_cases j0
  · pointwise [val_main_cst_19, val_main_cst_31]
    rw [e, Finset.sum_const_zero, add_zero]
  · pointwise [val_main_cst_19, val_main_cst_31]
    rw [e', Finset.sum_const_zero, zero_add]

end Cert.Nrm

end
-- ==== Proof.NormClaims.lean ====
/-
  The claims about the norm with modulation and its gradients. They hold of all extended reals: both programs apply the
  same operations to a row, and add the same terms over the rows.
-/
module

public import proofs.«01_k».proof.Defs
public import proofs.«01_k».proof.Proof.NormKer
public import proofs.«01_k».proof.Proof.NormRef
public import proofs.«01_k».proof.Proof.Gen.Norm.Frame
public import proofs.«01_k».proof.Proof.Gen.NormRefIdeal.Run
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.Nrm

theorem frame_p : Cert.quiescent_Norm (hNorm := Cert.Norm.Gen.facts) := fun m ρ _ => Cert.Norm.Gen.frame m ρ
theorem frame_pi : Cert.quiescent_NormIdeal (hNormIdeal := Cert.NormIdeal.Gen.facts) := fun m ρ _ => Cert.NormIdeal.Gen.frame m ρ
theorem frame_ri : Cert.quiescent_NormRefIdeal (hNormRefIdeal := Cert.NormRefIdeal.Gen.facts) := fun m ρ _ =>
  (θ_run Cert.NormRefIdeal.defs _ _).mono (fun r h => ⟨fun c => (h c).2.2.2.2,
      sem_eq_zero_of_no_sems (by decide) r.2⟩) (Cert.NormRefIdeal.Value.run (F := Ideal) m ρ)
theorem preserves : Cert.preserves_Norm_NormIdeal := trivial

theorem algebraic : Cert.algebraic_NormIdeal_NormRefIdeal (hNormIdeal := Cert.NormIdeal.Gen.facts)
    (hNormRefIdeal := Cert.NormRefIdeal.Gen.facts) := by
  intro m ρ m' ρ' hpre hagree
  refine ⟨_, _, _, _, run_dat m ρ, (θ_run Cert.NormRefIdeal.defs _ _).mono
    (fun _ h c => ⟨(h c).1.trans ?_, (h c).2.1.trans ?_, (h c).2.2.1.trans ?_, (h c).2.2.2.1.trans ?_, (h c).2.2.2.2⟩) (Cert.NormRefIdeal.Value.run (F := Ideal) m' ρ')⟩
  · refine (Cert.NormRefIdeal.Read.val_main_v138_eq _ _ _).trans ?_
    obtain ⟨a0, a1, a2, a3, a4⟩ := hagree c
    refine (congr (congrArg₂ (Cert.NormRefIdeal.Read.val_main_v138 (F := Ideal)) a0 a1) a2).trans ?_
    exact (ref0 _ _ _).trans (res0 m ρ c).symm
  · refine (Cert.NormRefIdeal.Read.val_main_v139_eq _ _).trans ?_
    obtain ⟨a0, a1, a2, a3, a4⟩ := hagree c
    refine (congr (congr (congr (congrArg₂ (Cert.NormRefIdeal.Read.val_main_v139 (F := Ideal)) a0 a1) a2) a3) a4).trans ?_
    exact (ref1 _ _ _ _ _).trans (res1 m ρ c).symm
  · refine (Cert.NormRefIdeal.Read.val_main_v116_eq _ _ _).trans ?_
    obtain ⟨a0, a1, a2, a3, a4⟩ := hagree c
    refine (congr (congrArg₂ (Cert.NormRefIdeal.Read.val_main_v116 (F := Ideal)) a0 a2) a3).trans ?_
    exact (ref2 _ _ _).trans (res2 m ρ c).symm
  · refine (Cert.NormRefIdeal.Read.val_main_v135_eq _ _).trans ?_
    obtain ⟨a0, a1, a2, a3, a4⟩ := hagree c
    refine (congr (congrArg₂ (Cert.NormRefIdeal.Read.val_main_v135 (F := Ideal)) a0 a1) a3).trans ?_
    exact (ref3 _ _ _).trans (res3 m ρ c).symm

end Cert.Nrm

end
-- ==== Proof.lean ====
/-
  The claims: the latent attention with its gradient (`Proof/MlaClaims.lean`), the projections' products and the
  gradient of the up-projection's argument (`Proof/ProdClaims.lean`), the feed-forward part (`Proof/FfnClaims.lean`),
  the norm with modulation (`Proof/NormClaims.lean`).
-/
module

public import proofs.«01_k».proof.Defs
public import proofs.«01_k».proof.Proof.MlaClaims
public import proofs.«01_k».proof.Proof.ProdClaims
public import proofs.«01_k».proof.Proof.FfnClaims
public import proofs.«01_k».proof.Proof.NormClaims
public import proofs.«01_k».proof.Proof.Gen.Dh
public import proofs.«01_k».proof.Proof.Gen.Dh.Frame
public import proofs.«01_k».proof.Proof.Gen.DhIdeal
public import proofs.«01_k».proof.Proof.Gen.DhIdeal.Frame
public import proofs.«01_k».proof.Proof.Gen.DhRefIdeal
public import proofs.«01_k».proof.Proof.Gen.DhRefIdeal.Run
public import proofs.«01_k».proof.Proof.Gen.DhRefIdeal.Read
public import proofs.«01_k».proof.Proof.Gen.DhIdeal.Value
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormRefIdeal.Run
public import proofs.«01_k».proof.Proof.Gen.NormRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.Inp
public import proofs.«01_k».proof.Proof.Gen.Inp.Frame
public import proofs.«01_k».proof.Proof.Gen.InpIdeal
public import proofs.«01_k».proof.Proof.Gen.InpIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.OutRefIdeal
public import proofs.«01_k».proof.Proof.Gen.OutRefIdeal.Run
public import proofs.«01_k».proof.Proof.Gen.OutRefIdeal.Read
public import proofs.«01_k».proof.Proof.Gen.InpRefIdeal
public import proofs.«01_k».proof.Proof.Gen.InpRefIdeal.Run
public import proofs.«01_k».proof.Proof.Gen.InpRefIdeal.Read

@[expose] public section

noncomputable section

namespace Cert.Proof

/-- Everything that is claimed. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnRefIdeal.Gen.facts,
    Cert.Dh.Gen.facts, Cert.DhIdeal.Gen.facts, Cert.DhRefIdeal.Gen.facts,
    Cert.Out.Gen.facts, Cert.OutIdeal.Gen.facts, Cert.OutRefIdeal.Gen.facts,
    Cert.Inp.Gen.facts, Cert.InpIdeal.Gen.facts, Cert.InpRefIdeal.Gen.facts,
    Cert.Norm.Gen.facts, Cert.NormIdeal.Gen.facts, Cert.NormRefIdeal.Gen.facts, Cert.Mla.preFacts, Cert.Feed.preFacts,
    Cert.Mla.frame_p, Cert.Mla.frame_pi, Cert.Mla.frame_pi_pre, Cert.Mla.frame_ri, Cert.Mla.frame_ri_pre,
    Cert.Feed.frame_p, Cert.Feed.frame_pi, Cert.Feed.frame_pi_pre, Cert.Feed.frame_ri, Cert.Feed.frame_ri_pre,
    Cert.DhProd.frame_p, Cert.DhProd.frame_pi, Cert.DhProd.frame_ri,
    Cert.OutProd.frame_p, Cert.OutProd.frame_pi, Cert.OutProd.frame_ri,
    Cert.InProd.frame_p, Cert.InProd.frame_pi, Cert.InProd.frame_ri,
    Cert.Nrm.frame_p, Cert.Nrm.frame_pi, Cert.Nrm.frame_ri,
    Cert.Mla.preserves, Cert.Mla.algebraic, Cert.Feed.preserves, Cert.Feed.algebraic,
    Cert.DhProd.preserves, Cert.DhProd.algebraic, Cert.OutProd.preserves, Cert.OutProd.algebraic,
    Cert.InProd.preserves, Cert.InProd.algebraic,
    Cert.Nrm.preserves, Cert.Nrm.algebraic⟩

end Cert.Proof

end
